-- ==== Defs.lean ====
def Pre_Dsa (m : (ℓ : Loc Cert.Dsa.nD Cert.Dsa.τ Cert.Dsa.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainReferenceIdeal (m : (ℓ : Loc Cert.PlainReferenceIdeal.nD Cert.PlainReferenceIdeal.τ Cert.PlainReferenceIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkIdeal_finite [hPre_finite : Cert.Pre_finite.Facts] (m : (ℓ : Loc Cert.QkIdeal.nD Cert.QkIdeal.τ Cert.QkIdeal.sig) → Buf (Elt Ideal) ℓ) : Prop :=
  ∀ c : Dev Cert.QkIdeal.nD,
    (Cert.Pre_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).1 = (fun _ => 1#1)
    ∧ (Cert.Pre_finite.fn (F := Ideal) (m ((c.tc : Thread Cert.QkIdeal.nD Cert.QkIdeal.τ).loc Cert.QkIdeal.main_arg0)) (m ((c.tc : Thread Cert.QkIdeal.nD Cert.QkIdeal.τ).loc Cert.QkIdeal.main_arg1)) (m ((c.tc : Thread Cert.QkIdeal.nD Cert.QkIdeal.τ).loc Cert.QkIdeal.main_arg2)) (m ((c.tc : Thread Cert.QkIdeal.nD Cert.QkIdeal.τ).loc Cert.QkIdeal.main_arg3)) (m ((c.tc : Thread Cert.QkIdeal.nD Cert.QkIdeal.τ).loc Cert.QkIdeal.main_arg4)) (m ((c.tc : Thread Cert.QkIdeal.nD Cert.QkIdeal.τ).loc Cert.QkIdeal.main_arg5)) (m ((c.tc : Thread Cert.QkIdeal.nD Cert.QkIdeal.τ).loc Cert.QkIdeal.main_arg6))).2 = (fun _ => 1#1)

def Pre_QkReferenceIdeal (m : (ℓ : Loc Cert.QkReferenceIdeal.nD Cert.QkReferenceIdeal.τ Cert.QkReferenceIdeal.sig) → Buf (Elt Ideal) ℓ) : Prop :=
  True

def Pre_QkReferenceIdeal_finite [hPre_finite : Cert.Pre_finite.Facts] (m : (ℓ : Loc Cert.QkReferenceIdeal.nD Cert.QkReferenceIdeal.τ Cert.QkReferenceIdeal.sig) → Buf (Elt Ideal) ℓ) : Prop :=
  ∀ c : Dev Cert.QkReferenceIdeal.nD,
    (Cert.Pre_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5)) (m ((c.tc : Thread Cert.QkReferenceIdeal.nD Cert.QkReferenceIdeal.τ).loc Cert.QkReferenceIdeal.main_arg6))).1 = (fun _ => 1#1)
    ∧ (Cert.Pre_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5)) (m ((c.tc : Thread Cert.QkReferenceIdeal.nD Cert.QkReferenceIdeal.τ).loc Cert.QkReferenceIdeal.main_arg6))).2 = (fun _ => 1#1)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ r.2.sem = fun _ => 0)

def quiescent_PlainReferenceIdeal [hPlainReferenceIdeal : Cert.PlainReferenceIdeal.Facts] : Prop :=
  ∀ (m : (ℓ : Loc Cert.PlainReferenceIdeal.nD Cert.PlainReferenceIdeal.τ Cert.PlainReferenceIdeal.sig) → Buf (Elt Ideal) ℓ) (g : Dev Cert.PlainReferenceIdeal.nD → PrngReg), Pre_PlainReferenceIdeal m →
    θ_run (Cert.PlainReferenceIdeal.defs (F := Ideal)) (onTc (τ := Cert.PlainReferenceIdeal.τ) (Cert.PlainReferenceIdeal.main (F := Ideal))) ⟨m, fun _ => 0, g⟩ (fun r => (∀ c : Dev Cert.PlainReferenceIdeal.nD,
      r.2.mem ((c.tc : Thread Cert.PlainReferenceIdeal.nD Cert.PlainReferenceIdeal.τ).loc Cert.PlainReferenceIdeal.main_arg0) = m ((c.tc : Thread Cert.PlainReferenceIdeal.nD Cert.PlainReferenceIdeal.τ).loc Cert.PlainReferenceIdeal.main_arg0)
      ∧ r.2.mem ((c.tc : Thread Cert.PlainReferenceIdeal.nD Cert.PlainReferenceIdeal.τ).loc Cert.PlainReferenceIdeal.main_arg1) = m ((c.tc : Thread Cert.PlainReferenceIdeal.nD Cert.PlainReferenceIdeal.τ).loc Cert.PlainReferenceIdeal.main_arg1)
      ∧ r.2.mem ((c.tc : Thread Cert.PlainReferenceIdeal.nD Cert.PlainReferenceIdeal.τ).loc Cert.PlainReferenceIdeal.main_arg2) = m ((c.tc : Thread Cert.PlainReferenceIdeal.nD Cert.PlainReferenceIdeal.τ).loc Cert.PlainReferenceIdeal.main_arg2))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ r.2.sem = fun _ => 0)

def quiescent_QkIdeal_pre_finite [hQkIdeal : Cert.QkIdeal.Facts] [hPre_finite : Cert.Pre_finite.Facts] : Prop :=
  ∀ (m : (ℓ : Loc Cert.QkIdeal.nD Cert.QkIdeal.τ Cert.QkIdeal.sig) → Buf (Elt Ideal) ℓ) (g : Dev Cert.QkIdeal.nD → PrngReg), Pre_QkIdeal_finite m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5)
      ∧ r.2.mem ((c.tc : Thread Cert.QkReferenceIdeal.nD Cert.QkReferenceIdeal.τ).loc Cert.QkReferenceIdeal.main_arg6) = m ((c.tc : Thread Cert.QkReferenceIdeal.nD Cert.QkReferenceIdeal.τ).loc Cert.QkReferenceIdeal.main_arg6))
      ∧ r.2.sem = fun _ => 0)

def quiescent_QkReferenceIdeal_pre_finite [hQkReferenceIdeal : Cert.QkReferenceIdeal.Facts] [hPre_finite : Cert.Pre_finite.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal_finite m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5)
      ∧ r.2.mem ((c.tc : Thread Cert.QkReferenceIdeal.nD Cert.QkReferenceIdeal.τ).loc Cert.QkReferenceIdeal.main_arg6) = m ((c.tc : Thread Cert.QkReferenceIdeal.nD Cert.QkReferenceIdeal.τ).loc Cert.QkReferenceIdeal.main_arg6))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v24) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_Plain_PlainIdeal : Prop :=
  True

def algebraic_PlainIdeal_PlainReferenceIdeal [hPlainIdeal : Cert.PlainIdeal.Facts] [hPlainReferenceIdeal : Cert.PlainReferenceIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainReferenceIdeal.nD Cert.PlainReferenceIdeal.τ Cert.PlainReferenceIdeal.sig) → Buf (Elt Ideal) ℓ) (g' : Dev Cert.PlainReferenceIdeal.nD → PrngReg), Pre_PlainIdeal m →
    (∀ c : Dev Cert.PlainIdeal.nD,
      m' ((c.tc : Thread Cert.PlainReferenceIdeal.nD Cert.PlainReferenceIdeal.τ).loc Cert.PlainReferenceIdeal.main_arg0) = m ((c.tc : Thread Cert.PlainIdeal.nD Cert.PlainIdeal.τ).loc Cert.PlainIdeal.main_arg0)
      ∧ m' ((c.tc : Thread Cert.PlainReferenceIdeal.nD Cert.PlainReferenceIdeal.τ).loc Cert.PlainReferenceIdeal.main_arg1) = m ((c.tc : Thread Cert.PlainIdeal.nD Cert.PlainIdeal.τ).loc Cert.PlainIdeal.main_arg1)
      ∧ m' ((c.tc : Thread Cert.PlainReferenceIdeal.nD Cert.PlainReferenceIdeal.τ).loc Cert.PlainReferenceIdeal.main_arg2) = m ((c.tc : Thread Cert.PlainIdeal.nD Cert.PlainIdeal.τ).loc Cert.PlainIdeal.main_arg2)) →
    ∃ (v0 : (c : Dev Cert.PlainIdeal.nD) → Buf (Elt Ideal) ((c.tc : Thread Cert.PlainIdeal.nD Cert.PlainIdeal.τ).loc Cert.PlainIdeal.main_v24_0)) (v1 : (c : Dev Cert.PlainIdeal.nD) → Buf (Elt Ideal) ((c.tc : Thread Cert.PlainIdeal.nD Cert.PlainIdeal.τ).loc Cert.PlainIdeal.main_v24_1)) (v2 : (c : Dev Cert.PlainIdeal.nD) → Buf (Elt Ideal) ((c.tc : Thread Cert.PlainIdeal.nD Cert.PlainIdeal.τ).loc Cert.PlainIdeal.main_v24_2)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v24_0) = v0 c
          ∧ r.2.mem ((c.tc : Thread Cert.PlainIdeal.nD Cert.PlainIdeal.τ).loc Cert.PlainIdeal.main_v24_1) = v1 c
          ∧ r.2.mem ((c.tc : Thread Cert.PlainIdeal.nD Cert.PlainIdeal.τ).loc Cert.PlainIdeal.main_v24_2) = v2 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2))
      ∧ θ_run (Cert.PlainReferenceIdeal.defs (F := Ideal)) (onTc (τ := Cert.PlainReferenceIdeal.τ) (Cert.PlainReferenceIdeal.main (F := Ideal))) ⟨m', fun _ => 0, g'⟩ (fun r => ∀ c : Dev Cert.PlainReferenceIdeal.nD,
          r.2.mem ((c.tc : Thread Cert.PlainReferenceIdeal.nD Cert.PlainReferenceIdeal.τ).loc Cert.PlainReferenceIdeal.main_v34) = v0 c
          ∧ r.2.mem ((c.tc : Thread Cert.PlainReferenceIdeal.nD Cert.PlainReferenceIdeal.τ).loc Cert.PlainReferenceIdeal.main_v37) = v1 c
          ∧ r.2.mem ((c.tc : Thread Cert.PlainReferenceIdeal.nD Cert.PlainReferenceIdeal.τ).loc Cert.PlainReferenceIdeal.main_v40) = v2 c
          ∧ r.2.mem ((c.tc : Thread Cert.PlainReferenceIdeal.nD Cert.PlainReferenceIdeal.τ).loc Cert.PlainReferenceIdeal.main_arg0) = m' ((c.tc : Thread Cert.PlainReferenceIdeal.nD Cert.PlainReferenceIdeal.τ).loc Cert.PlainReferenceIdeal.main_arg0)
          ∧ r.2.mem ((c.tc : Thread Cert.PlainReferenceIdeal.nD Cert.PlainReferenceIdeal.τ).loc Cert.PlainReferenceIdeal.main_arg1) = m' ((c.tc : Thread Cert.PlainReferenceIdeal.nD Cert.PlainReferenceIdeal.τ).loc Cert.PlainReferenceIdeal.main_arg1)
          ∧ r.2.mem ((c.tc : Thread Cert.PlainReferenceIdeal.nD Cert.PlainReferenceIdeal.τ).loc Cert.PlainReferenceIdeal.main_arg2) = m' ((c.tc : Thread Cert.PlainReferenceIdeal.nD Cert.PlainReferenceIdeal.τ).loc Cert.PlainReferenceIdeal.main_arg2))

def preserves_Qk_QkIdeal : Prop :=
  True

def algebraic_QkIdeal_QkReferenceIdeal_pre_finite [hQkIdeal : Cert.QkIdeal.Facts] [hQkReferenceIdeal : Cert.QkReferenceIdeal.Facts] [hPre_finite : Cert.Pre_finite.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkIdeal_finite m →
    (∀ c : Dev Cert.QkIdeal.nD,
      m' ((c.tc : Thread Cert.QkReferenceIdeal.nD Cert.QkReferenceIdeal.τ).loc Cert.QkReferenceIdeal.main_arg0) = m ((c.tc : Thread Cert.QkIdeal.nD Cert.QkIdeal.τ).loc Cert.QkIdeal.main_arg0)
      ∧ m' ((c.tc : Thread Cert.QkReferenceIdeal.nD Cert.QkReferenceIdeal.τ).loc Cert.QkReferenceIdeal.main_arg1) = m ((c.tc : Thread Cert.QkIdeal.nD Cert.QkIdeal.τ).loc Cert.QkIdeal.main_arg1)
      ∧ m' ((c.tc : Thread Cert.QkReferenceIdeal.nD Cert.QkReferenceIdeal.τ).loc Cert.QkReferenceIdeal.main_arg2) = m ((c.tc : Thread Cert.QkIdeal.nD Cert.QkIdeal.τ).loc Cert.QkIdeal.main_arg2)
      ∧ m' ((c.tc : Thread Cert.QkReferenceIdeal.nD Cert.QkReferenceIdeal.τ).loc Cert.QkReferenceIdeal.main_arg3) = m ((c.tc : Thread Cert.QkIdeal.nD Cert.QkIdeal.τ).loc Cert.QkIdeal.main_arg3)
      ∧ m' ((c.tc : Thread Cert.QkReferenceIdeal.nD Cert.QkReferenceIdeal.τ).loc Cert.QkReferenceIdeal.main_arg4) = m ((c.tc : Thread Cert.QkIdeal.nD Cert.QkIdeal.τ).loc Cert.QkIdeal.main_arg4)
      ∧ m' ((c.tc : Thread Cert.QkReferenceIdeal.nD Cert.QkReferenceIdeal.τ).loc Cert.QkReferenceIdeal.main_arg5) = m ((c.tc : Thread Cert.QkIdeal.nD Cert.QkIdeal.τ).loc Cert.QkIdeal.main_arg5)
      ∧ m' ((c.tc : Thread Cert.QkReferenceIdeal.nD Cert.QkReferenceIdeal.τ).loc Cert.QkReferenceIdeal.main_arg6) = m ((c.tc : Thread Cert.QkIdeal.nD Cert.QkIdeal.τ).loc Cert.QkIdeal.main_arg6)) →
    ∃ (v0 : (c : Dev Cert.QkIdeal.nD) → Buf (Elt Ideal) ((c.tc : Thread Cert.QkIdeal.nD Cert.QkIdeal.τ).loc Cert.QkIdeal.main_v35_0)) (v1 : (c : Dev Cert.QkIdeal.nD) → Buf (Elt Ideal) ((c.tc : Thread Cert.QkIdeal.nD Cert.QkIdeal.τ).loc Cert.QkIdeal.main_v35_1)) (v2 : (c : Dev Cert.QkIdeal.nD) → Buf (Elt Ideal) ((c.tc : Thread Cert.QkIdeal.nD Cert.QkIdeal.τ).loc Cert.QkIdeal.main_v35_2)) (v3 : (c : Dev Cert.QkIdeal.nD) → Buf (Elt Ideal) ((c.tc : Thread Cert.QkIdeal.nD Cert.QkIdeal.τ).loc Cert.QkIdeal.main_v35_3)) (v4 : (c : Dev Cert.QkIdeal.nD) → Buf (Elt Ideal) ((c.tc : Thread Cert.QkIdeal.nD Cert.QkIdeal.τ).loc Cert.QkIdeal.main_v35_4)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v35_0) = v0 c
          ∧ r.2.mem ((c.tc : Thread Cert.QkIdeal.nD Cert.QkIdeal.τ).loc Cert.QkIdeal.main_v35_1) = v1 c
          ∧ r.2.mem ((c.tc : Thread Cert.QkIdeal.nD Cert.QkIdeal.τ).loc Cert.QkIdeal.main_v35_2) = v2 c
          ∧ r.2.mem ((c.tc : Thread Cert.QkIdeal.nD Cert.QkIdeal.τ).loc Cert.QkIdeal.main_v35_3) = v3 c
          ∧ r.2.mem ((c.tc : Thread Cert.QkIdeal.nD Cert.QkIdeal.τ).loc Cert.QkIdeal.main_v35_4) = v4 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
          ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v95) = v0 c
          ∧ r.2.mem ((c.tc : Thread Cert.QkReferenceIdeal.nD Cert.QkReferenceIdeal.τ).loc Cert.QkReferenceIdeal.main_v98) = v1 c
          ∧ r.2.mem ((c.tc : Thread Cert.QkReferenceIdeal.nD Cert.QkReferenceIdeal.τ).loc Cert.QkReferenceIdeal.main_v101) = v2 c
          ∧ r.2.mem ((c.tc : Thread Cert.QkReferenceIdeal.nD Cert.QkReferenceIdeal.τ).loc Cert.QkReferenceIdeal.main_v104) = v3 c
          ∧ r.2.mem ((c.tc : Thread Cert.QkReferenceIdeal.nD Cert.QkReferenceIdeal.τ).loc Cert.QkReferenceIdeal.main_v107) = v4 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3)
          ∧ r.2.mem ((c.tc : Thread Cert.QkReferenceIdeal.nD Cert.QkReferenceIdeal.τ).loc Cert.QkReferenceIdeal.main_arg4) = m' ((c.tc : Thread Cert.QkReferenceIdeal.nD Cert.QkReferenceIdeal.τ).loc Cert.QkReferenceIdeal.main_arg4)
          ∧ r.2.mem ((c.tc : Thread Cert.QkReferenceIdeal.nD Cert.QkReferenceIdeal.τ).loc Cert.QkReferenceIdeal.main_arg5) = m' ((c.tc : Thread Cert.QkReferenceIdeal.nD Cert.QkReferenceIdeal.τ).loc Cert.QkReferenceIdeal.main_arg5)
          ∧ r.2.mem ((c.tc : Thread Cert.QkReferenceIdeal.nD Cert.QkReferenceIdeal.τ).loc Cert.QkReferenceIdeal.main_arg6) = m' ((c.tc : Thread Cert.QkReferenceIdeal.nD Cert.QkReferenceIdeal.τ).loc Cert.QkReferenceIdeal.main_arg6))

def Claim : Prop :=
  ∃ (hDsa : Cert.Dsa.Facts) (hFfn : Cert.Ffn.Facts) (hFfnIdeal : Cert.FfnIdeal.Facts) (hFfnReferenceIdeal : Cert.FfnReferenceIdeal.Facts) (hGate : Cert.Gate.Facts) (hGateIdeal : Cert.GateIdeal.Facts) (hGateReferenceIdeal : Cert.GateReferenceIdeal.Facts) (hPlain : Cert.Plain.Facts) (hPlainIdeal : Cert.PlainIdeal.Facts) (hPlainReferenceIdeal : Cert.PlainReferenceIdeal.Facts) (hQk : Cert.Qk.Facts) (hQkIdeal : Cert.QkIdeal.Facts) (hQkReferenceIdeal : Cert.QkReferenceIdeal.Facts) (hPre_finite : Cert.Pre_finite.Facts),
    quiescent_Dsa (hDsa := hDsa)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Gate (hGate := hGate)
    ∧ quiescent_GateIdeal (hGateIdeal := hGateIdeal)
    ∧ quiescent_GateReferenceIdeal (hGateReferenceIdeal := hGateReferenceIdeal)
    ∧ quiescent_Plain (hPlain := hPlain)
    ∧ quiescent_PlainIdeal (hPlainIdeal := hPlainIdeal)
    ∧ quiescent_PlainReferenceIdeal (hPlainReferenceIdeal := hPlainReferenceIdeal)
    ∧ quiescent_Qk (hQk := hQk)
    ∧ quiescent_QkIdeal (hQkIdeal := hQkIdeal)
    ∧ quiescent_QkIdeal_pre_finite (hQkIdeal := hQkIdeal) (hPre_finite := hPre_finite)
    ∧ quiescent_QkReferenceIdeal (hQkReferenceIdeal := hQkReferenceIdeal)
    ∧ quiescent_QkReferenceIdeal_pre_finite (hQkReferenceIdeal := hQkReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Gate_GateIdeal
    ∧ algebraic_GateIdeal_GateReferenceIdeal (hGateIdeal := hGateIdeal) (hGateReferenceIdeal := hGateReferenceIdeal)
    ∧ preserves_Plain_PlainIdeal
    ∧ algebraic_PlainIdeal_PlainReferenceIdeal (hPlainIdeal := hPlainIdeal) (hPlainReferenceIdeal := hPlainReferenceIdeal)
    ∧ preserves_Qk_QkIdeal
    ∧ algebraic_QkIdeal_QkReferenceIdeal_pre_finite (hQkIdeal := hQkIdeal) (hQkReferenceIdeal := hQkReferenceIdeal) (hPre_finite := hPre_finite)
-- ==== Pre_finite.lean ====
abbrev S8x4096x1024 : Shape := ⟨3, ![8, 4096, 1024]⟩
abbrev S1024 : Shape := ⟨1, ![1024]⟩
abbrev S1024x6872 : Shape := ⟨2, ![1024, 6872]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x6872 : S_.BroadcastsInDim S1024x6872 (![] : Fin 0 → Fin S1024x6872.rank)

variable [Facts]

def fn {F : FTy → Type} [FloatOps F] (main_arg0 : FVec F S8x4096x1024 .f32) (main_arg1 : FVec F S1024 .f32) (main_arg2 : FVec F S1024x6872 .f32) (main_arg3 : FVec F S64 .f32) (main_arg4 : FVec F S64 .f32) (main_arg5 : FVec F S64 .f32) (main_arg6 : FVec F S64 .f32) : IVec S1024 1 × IVec S1024x6872 1 :=
  let main_v0 : FVec F S1024 .f32 := subf main_arg1 main_arg1
  let main_cst : FVec F S_ .f32 := constant S_ .f32 0x00000000#32
  let main_v1 : FVec F S1024 .f32 := broadcastInDim S1024 ![] bcast_S_S1024 main_cst
  let main_v2 : IVec S1024 1 := cmpf .oeq main_v0 main_v1
  let main_v3 : FVec F S1024x6872 .f32 := subf main_arg2 main_arg2
  let main_cst_0 : FVec F S_ .f32 := constant S_ .f32 0x00000000#32
  let main_v4 : FVec F S1024x6872 .f32 := broadcastInDim S1024x6872 ![] bcast_S_S1024x6872 main_cst_0
  let main_v5 : IVec S1024x6872 1 := cmpf .oeq main_v3 main_v4
  (main_v2, main_v5)
-- ==== Dsa.lean ====
abbrev S32768x2560 : Shape := ⟨2, ![32768, 2560]⟩
abbrev S32768x5120 : Shape := ⟨2, ![32768, 5120]⟩
abbrev S8x16x80x256 : Shape := ⟨4, ![8, 16, 80, 256]⟩
abbrev S2048x1536 : Shape := ⟨2, ![2048, 1536]⟩
abbrev S768x1024 : Shape := ⟨2, ![768, 1024]⟩
abbrev S8x4096x2560 : Shape := ⟨3, ![8, 4096, 2560]⟩
abbrev S8x4096x5120 : Shape := ⟨3, ![8, 4096, 5120]⟩
abbrev S8x4096x1024 : Shape := ⟨3, ![8, 4096, 1024]⟩
abbrev S1x128x768 : Shape := ⟨3, ![1, 128, 768]⟩
abbrev S1x128x512 : Shape := ⟨3, ![1, 128, 512]⟩
abbrev S1x128x128 : Shape := ⟨3, ![1, 128, 128]⟩
abbrev S1x4096x128 : Shape := ⟨3, ![1, 4096, 128]⟩
abbrev S1x16x80x256 : Shape := ⟨4, ![1, 16, 80, 256]⟩
abbrev S1x128x1024 : Shape := ⟨3, ![1, 128, 1024]⟩
abbrev S4096x128 : Shape := ⟨2, ![4096, 128]⟩
abbrev S16x32x8x128 : Shape := ⟨4, ![16, 32, 8, 128]⟩
abbrev S256x1536 : Shape := ⟨2, ![256, 1536]⟩
abbrev S128x1024 : Shape := ⟨2, ![128, 1024]⟩
abbrev S80x1536 : Shape := ⟨2, ![80, 1536]⟩
abbrev S8x1536 : Shape := ⟨2, ![8, 1536]⟩
abbrev S128x128 : Shape := ⟨2, ![128, 128]⟩
abbrev S128x768 : Shape := ⟨2, ![128, 768]⟩
abbrev S768x128 : Shape := ⟨2, ![768, 128]⟩
abbrev S128x512 : Shape := ⟨2, ![128, 512]⟩
abbrev S512x128 : Shape := ⟨2, ![512, 128]⟩
abbrev S64x128 : Shape := ⟨2, ![64, 128]⟩
abbrev S1x128 : Shape := ⟨2, ![1, 128]⟩
abbrev S256x128 : Shape := ⟨2, ![256, 128]⟩
abbrev S128x256 : Shape := ⟨2, ![128, 256]⟩
abbrev S8x128 : Shape := ⟨2, ![8, 128]⟩
abbrev S1x1x8x128 : Shape := ⟨4, ![1, 1, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S64x8x128 : Shape := ⟨3, ![64, 8, 128]⟩
abbrev S1x256x128 : Shape := ⟨3, ![1, 256, 128]⟩
abbrev S256x256 : Shape := ⟨2, ![256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S1x1x80x256 : Shape := ⟨4, ![1, 1, 80, 256]⟩
abbrev S80x256 : Shape := ⟨2, ![80, 256]⟩
abbrev S32768x1024 : Shape := ⟨2, ![32768, 1024]⟩

abbrev nBuf : Space → Nat
  | .hbm => 9
  | .vmem => 26
  | .smem => 0
  | _ => 0

abbrev bufTy : (tb : Table) → Fin (tcTables nBuf tb) → BufTy
  | .hbm, ⟨0, _⟩ => ⟨S32768x2560, .bf16⟩
  | .hbm, ⟨1, _⟩ => ⟨S32768x5120, .bf16⟩
  | .hbm, ⟨2, _⟩ => ⟨S8x16x80x256, .bf16⟩
  | .hbm, ⟨3, _⟩ => ⟨S2048x1536, .f32⟩
  | .hbm, ⟨4, _⟩ => ⟨S768x1024, .bf16⟩
  | .hbm, ⟨5, _⟩ => ⟨S8x4096x2560, .bf16⟩
  | .hbm, ⟨6, _⟩ => ⟨S8x4096x5120, .bf16⟩
  | .hbm, ⟨7, _⟩ => ⟨S8x4096x1024, .f32⟩
  | .hbm, ⟨8, _⟩ => ⟨S32768x1024, .f32⟩
  | .local _ .vmem, ⟨0, _⟩ => ⟨S1x128x768, .bf16⟩
  | .local _ .vmem, ⟨1, _⟩ => ⟨S1x128x768, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x128, .bf16⟩
  | .local _ .vmem, ⟨5, _⟩ => ⟨S1x128x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x16x80x256, .bf16⟩
  | .local _ .vmem, ⟨11, _⟩ => ⟨S1x16x80x256, .bf16⟩
  | .local _ .vmem, ⟨12, _⟩ => ⟨S2048x1536, .f32⟩
  | .local _ .vmem, ⟨13, _⟩ => ⟨S768x1024, .bf16⟩
  | .local _ .vmem, ⟨14, _⟩ => ⟨S1x128x1024, .f32⟩
  | .local _ .vmem, ⟨15, _⟩ => ⟨S1x128x1024, .f32⟩
  | .local _ .vmem, ⟨16, _⟩ => ⟨S4096x128, .i32⟩
  | .local _ .vmem, ⟨17, _⟩ => ⟨S16x32x8x128, .i32⟩
  | .local _ .vmem, ⟨18, _⟩ => ⟨S256x1536, .bf16⟩
  | .local _ .vmem, ⟨19, _⟩ => ⟨S128x1024, .bf16⟩
  | .local _ .vmem, ⟨20, _⟩ => ⟨S80x1536, .f32⟩
  | .local _ .vmem, ⟨21, _⟩ => ⟨S256x1536, .f32⟩
  | .local _ .vmem, ⟨22, _⟩ => ⟨S256x1536, .f32⟩
  | .local _ .vmem, ⟨23, _⟩ => ⟨S8x1536, .f32⟩
  | .local _ .vmem, ⟨24, _⟩ => ⟨S8x1536, .f32⟩
  | .local _ .vmem, ⟨25, _⟩ => ⟨S8x1536, .f32⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_151 : BitVec 32 := 1#32
  ⟨c0_i32_149, v301, c1_i32_151⟩
def k0_mult1 (i : grid0.Coords) (k0_t1 : Fin (k0_t1_loop i).trips) : BitVec 32 :=
  let c0_i32_383 : BitVec 32 := 0#32
  let c0_i32_149 : BitVec 32 := 0#32
  let c1_i32_151 : BitVec 32 := 1#32
  let arg21 : BitVec 32 := Scf.iv c0_i32_149 c1_i32_151 k0_t1
  let c4_i32_382 : BitVec 32 := 4#32
  let v642 : BitVec 32 := Scalar.muli arg21 c4_i32_382
  let v643 : BitVec 32 := Scalar.addi c0_i32_383 v642
  let c256_i32_384 : BitVec 32 := 256#32
  let v644 : BitVec 32 := Scalar.muli v643 c256_i32_384
  let c0_i32_385 : BitVec 32 := 0#32
  let v645 : BitVec 32 := Scalar.addi v644 c0_i32_385
  v645
def k0_off1 (i : grid0.Coords) (k0_t1 : Fin (k0_t1_loop i).trips) (c0_i32_385 : BitVec 32) : Fin 3 → Nat :=
  let c0_386 : Index := 0#32
  let c0_i32_383 : BitVec 32 := 0#32
  let c0_i32_149 : BitVec 32 := 0#32
  let c1_i32_151 : BitVec 32 := 1#32
  let arg21 : BitVec 32 := Scf.iv c0_i32_149 c1_i32_151 k0_t1
  let c4_i32_382 : BitVec 32 := 4#32
  let v642 : BitVec 32 := Scalar.muli arg21 c4_i32_382
  let v643 : BitVec 32 := Scalar.addi c0_i32_383 v642
  let c256_i32_384 : BitVec 32 := 256#32
  let v644 : BitVec 32 := Scalar.muli v643 c256_i32_384
  let v645 : BitVec 32 := Scalar.addi v644 c0_i32_385
  let v646 : BitVec 32 := v645
  let v648 : Index := Scalar.indexCast v646
  let c0_387 : Index := 0#32
  ![0, v648.toNat, 0]
def k0_off2 (i : grid0.Coords) (k0_t1 : Fin (k0_t1_loop i).trips) (c0_i32_385 : BitVec 32) : Fin 2 → Nat :=
  let c0_i32_383 : BitVec 32 := 0#32
  let c0_i32_149 : BitVec 32 := 0#32
  let c1_i32_151 : BitVec 32 := 1#32
  let arg21 : BitVec 32 := Scf.iv c0_i32_149 c1_i32_151 k0_t1
  let c4_i32_382 : BitVec 32 := 4#32
  let v642 : BitVec 32 := Scalar.muli arg21 c4_i32_382
  let v643 : BitVec 32 := Scalar.addi c0_i32_383 v642
  let c256_i32_384 : BitVec 32 := 256#32
  let v644 : BitVec 32 := Scalar.muli v643 c256_i32_384
  let v645 : BitVec 32 := Scalar.addi v644 c0_i32_385
  let v646 : BitVec 32 := v645
  let v730 : Index := Scalar.indexCast v646
  let c0_411 : Index := 0#32
  ![v730.toNat, 0]
def k0_mult2 (i : grid0.Coords) (k0_t1 : Fin (k0_t1_loop i).trips) : BitVec 32 :=
  let c0_i32_413 : BitVec 32 := 0#32
  let c0_i32_149 : BitVec 32 := 0#32
  let c1_i32_151 : BitVec 32 := 1#32
  let arg21 : BitVec 32 := Scf.iv c0_i32_149 c1_i32_151 k0_t1
  let c4_i32_412 : BitVec 32 := 4#32
  let v734 : BitVec 32 := Scalar.muli arg21 c4_i32_412
  let v735 : BitVec 32 := Scalar.addi c0_i32_413 v734
  let c256_i32_414 : BitVec 32 := 256#32
  let v736 : BitVec 32 := Scalar.muli v735 c256_i32_414
  let c128_i32_415 : BitVec 32 := 128#32
  let v737 : BitVec 32 := Scalar.addi v736 c128_i32_415
  v737
def k0_mult3 (i : grid0.Coords) (k0_t1 : Fin (k0_t1_loop i).trips) : BitVec 32 :=
  let c0_i32_445 : BitVec 32 := 0#32
  let c0_i32_149 : BitVec 32 := 0#32
  let c1_i32_151 : BitVec 32 := 1#32
  let arg21 : BitVec 32 := Scf.iv c0_i32_149 c1_i32_151 k0_t1
  let c4_i32_444 : BitVec 32 := 4#32
  let v826 : BitVec 32 := Scalar.muli arg21 c4_i32_444
  let v827 : BitVec 32 := Scalar.addi c0_i32_445 v826
  let c256_i32_446 : BitVec 32 := 256#32
  let v828 : BitVec 32 := Scalar.muli v827 c256_i32_446
  let c256_i32_447 : BitVec 32 := 256#32
  let v829 : BitVec 32 := Scalar.addi v828 c256_i32_447
  v829
def k0_mult4 (i : grid0.Coords) (k0_t1 : Fin (k0_t1_loop i).trips) : BitVec 32 :=
  let c0_i32_477 : BitVec 32 := 0#32
  let c0_i32_149 : BitVec 32 := 0#32
  let c1_i32_151 : BitVec 32 := 1#32
  let arg21 : BitVec 32 := Scf.iv c0_i32_149 c1_i32_151 k0_t1
  let c4_i32_476 : BitVec 32 := 4#32
  let v918 : BitVec 32 := Scalar.muli arg21 c4_i32_476
  let v919 : BitVec 32 := Scalar.addi c0_i32_477 v918
  let c256_i32_478 : BitVec 32 := 256#32
  let v920 : BitVec 32 := Scalar.muli v919 c256_i32_478
  let c384_i32 : BitVec 32 := 384#32
  let v921 : BitVec 32 := Scalar.addi v920 c384_i32
  v921
def k0_mult5 (i : grid0.Coords) (k0_t1 : Fin (k0_t1_loop i).trips) : BitVec 32 :=
  let c0_i32_508 : BitVec 32 := 0#32
  let c0_i32_149 : BitVec 32 := 0#32
  let c1_i32_151 : BitVec 32 := 1#32
  let arg21 : BitVec 32 := Scf.iv c0_i32_149 c1_i32_151 k0_t1
  let c4_i32_507 : BitVec 32 := 4#32
  let v1010 : BitVec 32 := Scalar.muli arg21 c4_i32_507
  let v1011 : BitVec 32 := Scalar.addi c0_i32_508 v1010
  let c256_i32_509 : BitVec 32 := 256#32
  let v1012 : BitVec 32 := Scalar.muli v1011 c256_i32_509
  let c512_i32 : BitVec 32 := 512#32
  let v1013 : BitVec 32 := Scalar.addi v1012 c512_i32
  v1013
def k0_mult6 (i : grid0.Coords) (k0_t1 : Fin (k0_t1_loop i).trips) : BitVec 32 :=
  let c0_i32_539 : BitVec 32 := 0#32
  let c0_i32_149 : BitVec 32 := 0#32
  let c1_i32_151 : BitVec 32 := 1#32
  let arg21 : BitVec 32 := Scf.iv c0_i32_149 c1_i32_151 k0_t1
  let c4_i32_538 : BitVec 32 := 4#32
  let v1102 : BitVec 32 := Scalar.muli arg21 c4_i32_538
  let v1103 : BitVec 32 := Scalar.addi c0_i32_539 v1102
  let c256_i32_540 : BitVec 32 := 256#32
  let v1104 : BitVec 32 := Scalar.muli v1103 c256_i32_540
  let c640_i32 : BitVec 32 := 640#32
  let v1105 : BitVec 32 := Scalar.addi v1104 c640_i32
  v1105
def k0_mult7 (i : grid0.Coords) (k0_t1 : Fin (k0_t1_loop i).trips) : BitVec 32 :=
  let c0_i32_570 : BitVec 32 := 0#32
  let c0_i32_149 : BitVec 32 := 0#32
  let c1_i32_151 : BitVec 32 := 1#32
  let arg21 : BitVec 32 := Scf.iv c0_i32_149 c1_i32_151 k0_t1
  let c4_i32_569 : BitVec 32 := 4#32
  let v1194 : BitVec 32 := Scalar.muli arg21 c4_i32_569
  let v1195 : BitVec 32 := Scalar.addi c0_i32_570 v1194
  let c256_i32_571 : BitVec 32 := 256#32
  let v1196 : BitVec 32 := Scalar.muli v1195 c256_i32_571
  let c768_i32 : BitVec 32 := 768#32
  let v1197 : BitVec 32 := Scalar.addi v1196 c768_i32
  v1197
def k0_mult8 (i : grid0.Coords) (k0_t1 : Fin (k0_t1_loop i).trips) : BitVec 32 :=
  let c0_i32_601 : BitVec 32 := 0#32
  let c0_i32_149 : BitVec 32 := 0#32
  let c1_i32_151 : BitVec 32 := 1#32
  let arg21 : BitVec 32 := Scf.iv c0_i32_149 c1_i32_151 k0_t1
  let c4_i32_600 : BitVec 32 := 4#32
  let v1286 : BitVec 32 := Scalar.muli arg21 c4_i32_600
  let v1287 : BitVec 32 := Scalar.addi c0_i32_601 v1286
  let c256_i32_602 : BitVec 32 := 256#32
  let v1288 : BitVec 32 := Scalar.muli v1287 c256_i32_602
  let c896_i32 : BitVec 32 := 896#32
  let v1289 : BitVec 32 := Scalar.addi v1288 c896_i32
  v1289
@[reducible] def k0_t2_loop (i : grid0.Coords) : Scf.Loop 32 :=
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let v298 : BitVec 32 := Scalar.addi c0_i32_149 v297
  let c1_i32_152 : BitVec 32 := 1#32
  ⟨v301, v298, c1_i32_152⟩
def k0_mult9 (i : grid0.Coords) (k0_t2 : Fin (k0_t2_loop i).trips) : BitVec 32 :=
  let c0_i32_383 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_382 : BitVec 32 := 4#32
  let v642 : BitVec 32 := Scalar.muli arg21 c4_i32_382
  let v643 : BitVec 32 := Scalar.addi c0_i32_383 v642
  let c256_i32_384 : BitVec 32 := 256#32
  let v644 : BitVec 32 := Scalar.muli v643 c256_i32_384
  let c0_i32_385 : BitVec 32 := 0#32
  let v645 : BitVec 32 := Scalar.addi v644 c0_i32_385
  v645
def k0_off3 (i : grid0.Coords) (k0_t2 : Fin (k0_t2_loop i).trips) (c0_i32_385 : BitVec 32) : Fin 3 → Nat :=
  let c0_386 : Index := 0#32
  let c0_i32_383 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_382 : BitVec 32 := 4#32
  let v642 : BitVec 32 := Scalar.muli arg21 c4_i32_382
  let v643 : BitVec 32 := Scalar.addi c0_i32_383 v642
  let c256_i32_384 : BitVec 32 := 256#32
  let v644 : BitVec 32 := Scalar.muli v643 c256_i32_384
  let v645 : BitVec 32 := Scalar.addi v644 c0_i32_385
  let v646 : BitVec 32 := v645
  let v648 : Index := Scalar.indexCast v646
  let c0_387 : Index := 0#32
  ![0, v648.toNat, 0]
def k0_off4 (i : grid0.Coords) (k0_t2 : Fin (k0_t2_loop i).trips) (c0_i32_385 : BitVec 32) : Fin 2 → Nat :=
  let c0_i32_383 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_382 : BitVec 32 := 4#32
  let v642 : BitVec 32 := Scalar.muli arg21 c4_i32_382
  let v643 : BitVec 32 := Scalar.addi c0_i32_383 v642
  let c256_i32_384 : BitVec 32 := 256#32
  let v644 : BitVec 32 := Scalar.muli v643 c256_i32_384
  let v645 : BitVec 32 := Scalar.addi v644 c0_i32_385
  let v646 : BitVec 32 := v645
  let v730 : Index := Scalar.indexCast v646
  let c0_411 : Index := 0#32
  ![v730.toNat, 0]
def k0_mult10 (i : grid0.Coords) (k0_t2 : Fin (k0_t2_loop i).trips) : BitVec 32 :=
  let c0_i32_413 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_412 : BitVec 32 := 4#32
  let v734 : BitVec 32 := Scalar.muli arg21 c4_i32_412
  let v735 : BitVec 32 := Scalar.addi c0_i32_413 v734
  let c256_i32_414 : BitVec 32 := 256#32
  let v736 : BitVec 32 := Scalar.muli v735 c256_i32_414
  let c128_i32_415 : BitVec 32 := 128#32
  let v737 : BitVec 32 := Scalar.addi v736 c128_i32_415
  v737
def k0_mult11 (i : grid0.Coords) (k0_t2 : Fin (k0_t2_loop i).trips) : BitVec 32 :=
  let c0_i32_445 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_444 : BitVec 32 := 4#32
  let v826 : BitVec 32 := Scalar.muli arg21 c4_i32_444
  let v827 : BitVec 32 := Scalar.addi c0_i32_445 v826
  let c256_i32_446 : BitVec 32 := 256#32
  let v828 : BitVec 32 := Scalar.muli v827 c256_i32_446
  let c256_i32_447 : BitVec 32 := 256#32
  let v829 : BitVec 32 := Scalar.addi v828 c256_i32_447
  v829
def k0_mult12 (i : grid0.Coords) (k0_t2 : Fin (k0_t2_loop i).trips) : BitVec 32 :=
  let c0_i32_477 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_476 : BitVec 32 := 4#32
  let v918 : BitVec 32 := Scalar.muli arg21 c4_i32_476
  let v919 : BitVec 32 := Scalar.addi c0_i32_477 v918
  let c256_i32_478 : BitVec 32 := 256#32
  let v920 : BitVec 32 := Scalar.muli v919 c256_i32_478
  let c384_i32 : BitVec 32 := 384#32
  let v921 : BitVec 32 := Scalar.addi v920 c384_i32
  v921
def k0_mult13 (i : grid0.Coords) (k0_t2 : Fin (k0_t2_loop i).trips) : BitVec 32 :=
  let c0_i32_508 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_507 : BitVec 32 := 4#32
  let v1010 : BitVec 32 := Scalar.muli arg21 c4_i32_507
  let v1011 : BitVec 32 := Scalar.addi c0_i32_508 v1010
  let c256_i32_509 : BitVec 32 := 256#32
  let v1012 : BitVec 32 := Scalar.muli v1011 c256_i32_509
  let c512_i32 : BitVec 32 := 512#32
  let v1013 : BitVec 32 := Scalar.addi v1012 c512_i32
  v1013
def k0_mult14 (i : grid0.Coords) (k0_t2 : Fin (k0_t2_loop i).trips) : BitVec 32 :=
  let c0_i32_539 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_538 : BitVec 32 := 4#32
  let v1102 : BitVec 32 := Scalar.muli arg21 c4_i32_538
  let v1103 : BitVec 32 := Scalar.addi c0_i32_539 v1102
  let c256_i32_540 : BitVec 32 := 256#32
  let v1104 : BitVec 32 := Scalar.muli v1103 c256_i32_540
  let c640_i32 : BitVec 32 := 640#32
  let v1105 : BitVec 32 := Scalar.addi v1104 c640_i32
  v1105
def k0_mult15 (i : grid0.Coords) (k0_t2 : Fin (k0_t2_loop i).trips) : BitVec 32 :=
  let c0_i32_570 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_569 : BitVec 32 := 4#32
  let v1194 : BitVec 32 := Scalar.muli arg21 c4_i32_569
  let v1195 : BitVec 32 := Scalar.addi c0_i32_570 v1194
  let c256_i32_571 : BitVec 32 := 256#32
  let v1196 : BitVec 32 := Scalar.muli v1195 c256_i32_571
  let c768_i32 : BitVec 32 := 768#32
  let v1197 : BitVec 32 := Scalar.addi v1196 c768_i32
  v1197
def k0_mult16 (i : grid0.Coords) (k0_t2 : Fin (k0_t2_loop i).trips) : BitVec 32 :=
  let c0_i32_601 : BitVec 32 := 0#32
  let c0_i32_149 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v297 : BitVec 32 := Scalar.subi v277 c0_i32_149
  let c1_i32_150 : BitVec 32 := 1#32
  let v299 : BitVec 32 := Scalar.divsi v297 c1_i32_150
  let v300 : BitVec 32 := Scalar.muli v299 c1_i32_150
  let v301 : BitVec 32 := Scalar.addi c0_i32_149 v300
  let c1_i32_152 : BitVec 32 := 1#32
  let arg21 : BitVec 32 := Scf.iv v301 c1_i32_152 k0_t2
  let c4_i32_600 : BitVec 32 := 4#32
  let v1286 : BitVec 32 := Scalar.muli arg21 c4_i32_600
  let v1287 : BitVec 32 := Scalar.addi c0_i32_601 v1286
  let c256_i32_602 : BitVec 32 := 256#32
  let v1288 : BitVec 32 := Scalar.muli v1287 c256_i32_602
  let c896_i32 : BitVec 32 := 896#32
  let v1289 : BitVec 32 := Scalar.addi v1288 c896_i32
  v1289
@[reducible] def k0_t3_loop (i : grid0.Coords) : Scf.Loop 32 :=
  let c0_i32_155 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_140 : BitVec 32 := 4#32
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_157 : BitVec 32 := 1#32
  ⟨c0_i32_155, v307, c1_i32_157⟩
def k0_mult17 (i : grid0.Coords) (k0_t3 : Fin (k0_t3_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c1_i32_157 : BitVec 32 := 1#32
  let arg21 : BitVec 32 := Scf.iv c0_i32_155 c1_i32_157 k0_t3
  let c2_i32_382 : BitVec 32 := 2#32
  let v642 : BitVec 32 := Scalar.muli arg21 c2_i32_382
  let v643 : BitVec 32 := Scalar.addi v302 v642
  let c256_i32_383 : BitVec 32 := 256#32
  let v644 : BitVec 32 := Scalar.muli v643 c256_i32_383
  let c0_i32_384 : BitVec 32 := 0#32
  let v645 : BitVec 32 := Scalar.addi v644 c0_i32_384
  v645
def k0_off5 (i : grid0.Coords) (k0_t3 : Fin (k0_t3_loop i).trips) (c0_i32_384 : BitVec 32) : Fin 3 → Nat :=
  let c0_385 : Index := 0#32
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c1_i32_157 : BitVec 32 := 1#32
  let arg21 : BitVec 32 := Scf.iv c0_i32_155 c1_i32_157 k0_t3
  let c2_i32_382 : BitVec 32 := 2#32
  let v642 : BitVec 32 := Scalar.muli arg21 c2_i32_382
  let v643 : BitVec 32 := Scalar.addi v302 v642
  let c256_i32_383 : BitVec 32 := 256#32
  let v644 : BitVec 32 := Scalar.muli v643 c256_i32_383
  let v645 : BitVec 32 := Scalar.addi v644 c0_i32_384
  let v646 : BitVec 32 := v645
  let v648 : Index := Scalar.indexCast v646
  let c0_386 : Index := 0#32
  ![0, v648.toNat, 0]
def k0_off6 (i : grid0.Coords) (k0_t3 : Fin (k0_t3_loop i).trips) (c0_i32_384 : BitVec 32) : Fin 2 → Nat :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c1_i32_157 : BitVec 32 := 1#32
  let arg21 : BitVec 32 := Scf.iv c0_i32_155 c1_i32_157 k0_t3
  let c2_i32_382 : BitVec 32 := 2#32
  let v642 : BitVec 32 := Scalar.muli arg21 c2_i32_382
  let v643 : BitVec 32 := Scalar.addi v302 v642
  let c256_i32_383 : BitVec 32 := 256#32
  let v644 : BitVec 32 := Scalar.muli v643 c256_i32_383
  let v645 : BitVec 32 := Scalar.addi v644 c0_i32_384
  let v646 : BitVec 32 := v645
  let v730 : Index := Scalar.indexCast v646
  let c0_410 : Index := 0#32
  ![v730.toNat, 0]
def k0_mult18 (i : grid0.Coords) (k0_t3 : Fin (k0_t3_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c1_i32_157 : BitVec 32 := 1#32
  let arg21 : BitVec 32 := Scf.iv c0_i32_155 c1_i32_157 k0_t3
  let c2_i32_411 : BitVec 32 := 2#32
  let v734 : BitVec 32 := Scalar.muli arg21 c2_i32_411
  let v735 : BitVec 32 := Scalar.addi v302 v734
  let c256_i32_412 : BitVec 32 := 256#32
  let v736 : BitVec 32 := Scalar.muli v735 c256_i32_412
  let c128_i32_413 : BitVec 32 := 128#32
  let v737 : BitVec 32 := Scalar.addi v736 c128_i32_413
  v737
def k0_mult19 (i : grid0.Coords) (k0_t3 : Fin (k0_t3_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c1_i32_157 : BitVec 32 := 1#32
  let arg21 : BitVec 32 := Scf.iv c0_i32_155 c1_i32_157 k0_t3
  let c2_i32_442 : BitVec 32 := 2#32
  let v826 : BitVec 32 := Scalar.muli arg21 c2_i32_442
  let v827 : BitVec 32 := Scalar.addi v302 v826
  let c256_i32_443 : BitVec 32 := 256#32
  let v828 : BitVec 32 := Scalar.muli v827 c256_i32_443
  let c256_i32_444 : BitVec 32 := 256#32
  let v829 : BitVec 32 := Scalar.addi v828 c256_i32_444
  v829
def k0_mult20 (i : grid0.Coords) (k0_t3 : Fin (k0_t3_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c1_i32_157 : BitVec 32 := 1#32
  let arg21 : BitVec 32 := Scf.iv c0_i32_155 c1_i32_157 k0_t3
  let c2_i32_473 : BitVec 32 := 2#32
  let v918 : BitVec 32 := Scalar.muli arg21 c2_i32_473
  let v919 : BitVec 32 := Scalar.addi v302 v918
  let c256_i32_474 : BitVec 32 := 256#32
  let v920 : BitVec 32 := Scalar.muli v919 c256_i32_474
  let c384_i32 : BitVec 32 := 384#32
  let v921 : BitVec 32 := Scalar.addi v920 c384_i32
  v921
@[reducible] def k0_t4_loop (i : grid0.Coords) : Scf.Loop 32 :=
  let c0_i32_155 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_140 : BitVec 32 := 4#32
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let v304 : BitVec 32 := Scalar.addi c0_i32_155 v303
  let c1_i32_158 : BitVec 32 := 1#32
  ⟨v307, v304, c1_i32_158⟩
def k0_mult21 (i : grid0.Coords) (k0_t4 : Fin (k0_t4_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_158 : BitVec 32 := 1#32
  let arg21 : BitVec 32 := Scf.iv v307 c1_i32_158 k0_t4
  let c2_i32_382 : BitVec 32 := 2#32
  let v642 : BitVec 32 := Scalar.muli arg21 c2_i32_382
  let v643 : BitVec 32 := Scalar.addi v302 v642
  let c256_i32_383 : BitVec 32 := 256#32
  let v644 : BitVec 32 := Scalar.muli v643 c256_i32_383
  let c0_i32_384 : BitVec 32 := 0#32
  let v645 : BitVec 32 := Scalar.addi v644 c0_i32_384
  v645
def k0_off7 (i : grid0.Coords) (k0_t4 : Fin (k0_t4_loop i).trips) (c0_i32_384 : BitVec 32) : Fin 3 → Nat :=
  let c0_385 : Index := 0#32
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_158 : BitVec 32 := 1#32
  let arg21 : BitVec 32 := Scf.iv v307 c1_i32_158 k0_t4
  let c2_i32_382 : BitVec 32 := 2#32
  let v642 : BitVec 32 := Scalar.muli arg21 c2_i32_382
  let v643 : BitVec 32 := Scalar.addi v302 v642
  let c256_i32_383 : BitVec 32 := 256#32
  let v644 : BitVec 32 := Scalar.muli v643 c256_i32_383
  let v645 : BitVec 32 := Scalar.addi v644 c0_i32_384
  let v646 : BitVec 32 := v645
  let v648 : Index := Scalar.indexCast v646
  let c0_386 : Index := 0#32
  ![0, v648.toNat, 0]
def k0_off8 (i : grid0.Coords) (k0_t4 : Fin (k0_t4_loop i).trips) (c0_i32_384 : BitVec 32) : Fin 2 → Nat :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_158 : BitVec 32 := 1#32
  let arg21 : BitVec 32 := Scf.iv v307 c1_i32_158 k0_t4
  let c2_i32_382 : BitVec 32 := 2#32
  let v642 : BitVec 32 := Scalar.muli arg21 c2_i32_382
  let v643 : BitVec 32 := Scalar.addi v302 v642
  let c256_i32_383 : BitVec 32 := 256#32
  let v644 : BitVec 32 := Scalar.muli v643 c256_i32_383
  let v645 : BitVec 32 := Scalar.addi v644 c0_i32_384
  let v646 : BitVec 32 := v645
  let v730 : Index := Scalar.indexCast v646
  let c0_410 : Index := 0#32
  ![v730.toNat, 0]
def k0_mult22 (i : grid0.Coords) (k0_t4 : Fin (k0_t4_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_158 : BitVec 32 := 1#32
  let arg21 : BitVec 32 := Scf.iv v307 c1_i32_158 k0_t4
  let c2_i32_411 : BitVec 32 := 2#32
  let v734 : BitVec 32 := Scalar.muli arg21 c2_i32_411
  let v735 : BitVec 32 := Scalar.addi v302 v734
  let c256_i32_412 : BitVec 32 := 256#32
  let v736 : BitVec 32 := Scalar.muli v735 c256_i32_412
  let c128_i32_413 : BitVec 32 := 128#32
  let v737 : BitVec 32 := Scalar.addi v736 c128_i32_413
  v737
def k0_mult23 (i : grid0.Coords) (k0_t4 : Fin (k0_t4_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_158 : BitVec 32 := 1#32
  let arg21 : BitVec 32 := Scf.iv v307 c1_i32_158 k0_t4
  let c2_i32_442 : BitVec 32 := 2#32
  let v826 : BitVec 32 := Scalar.muli arg21 c2_i32_442
  let v827 : BitVec 32 := Scalar.addi v302 v826
  let c256_i32_443 : BitVec 32 := 256#32
  let v828 : BitVec 32 := Scalar.muli v827 c256_i32_443
  let c256_i32_444 : BitVec 32 := 256#32
  let v829 : BitVec 32 := Scalar.addi v828 c256_i32_444
  v829
def k0_mult24 (i : grid0.Coords) (k0_t4 : Fin (k0_t4_loop i).trips) : BitVec 32 :=
  let c4_i32_153 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v302 : BitVec 32 := Scalar.muli c4_i32_153 v277
  let c0_i32_155 : BitVec 32 := 0#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v303 : BitVec 32 := Scalar.subi v296 c0_i32_155
  let c1_i32_156 : BitVec 32 := 1#32
  let v305 : BitVec 32 := Scalar.divsi v303 c1_i32_156
  let v306 : BitVec 32 := Scalar.muli v305 c1_i32_156
  let v307 : BitVec 32 := Scalar.addi c0_i32_155 v306
  let c1_i32_158 : BitVec 32 := 1#32
  let arg21 : BitVec 32 := Scf.iv v307 c1_i32_158 k0_t4
  let c2_i32_473 : BitVec 32 := 2#32
  let v918 : BitVec 32 := Scalar.muli arg21 c2_i32_473
  let v919 : BitVec 32 := Scalar.addi v302 v918
  let c256_i32_474 : BitVec 32 := 256#32
  let v920 : BitVec 32 := Scalar.muli v919 c256_i32_474
  let c384_i32 : BitVec 32 := 384#32
  let v921 : BitVec 32 := Scalar.addi v920 c384_i32
  v921
@[reducible] def k0_t5_loop (i : grid0.Coords) : Scf.Loop 32 :=
  let c0_i32_164 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_161 : BitVec 32 := 4#32
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v311 : BitVec 32 := Scalar.muli c4_i32_161 v277
  let v312 : BitVec 32 := Scalar.subi v18 v311
  let c2_i32_162 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v313 : BitVec 32 := Scalar.muli c2_i32_162 v296
  let v314 : BitVec 32 := Scalar.subi v312 v313
  let v315 : BitVec 32 := Scalar.subi v314 c0_i32_164
  let c1_i32_165 : BitVec 32 := 1#32
  let v317 : BitVec 32 := Scalar.divsi v315 c1_i32_165
  let v318 : BitVec 32 := Scalar.muli v317 c1_i32_165
  let v319 : BitVec 32 := Scalar.addi c0_i32_164 v318
  let c1_i32_166 : BitVec 32 := 1#32
  ⟨c0_i32_164, v319, c1_i32_166⟩
def k0_mult25 (i : grid0.Coords) (k0_t5 : Fin (k0_t5_loop i).trips) : BitVec 32 :=
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c1_i32_166 : BitVec 32 := 1#32
  let arg21 : BitVec 32 := Scf.iv c0_i32_164 c1_i32_166 k0_t5
  let c1_i32_382 : BitVec 32 := 1#32
  let v642 : BitVec 32 := Scalar.muli arg21 c1_i32_382
  let v643 : BitVec 32 := Scalar.addi v310 v642
  let c256_i32_383 : BitVec 32 := 256#32
  let v644 : BitVec 32 := Scalar.muli v643 c256_i32_383
  let c0_i32_384 : BitVec 32 := 0#32
  let v645 : BitVec 32 := Scalar.addi v644 c0_i32_384
  v645
def k0_off9 (i : grid0.Coords) (k0_t5 : Fin (k0_t5_loop i).trips) (c0_i32_384 : BitVec 32) : Fin 3 → Nat :=
  let c0_385 : Index := 0#32
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c1_i32_166 : BitVec 32 := 1#32
  let arg21 : BitVec 32 := Scf.iv c0_i32_164 c1_i32_166 k0_t5
  let c1_i32_382 : BitVec 32 := 1#32
  let v642 : BitVec 32 := Scalar.muli arg21 c1_i32_382
  let v643 : BitVec 32 := Scalar.addi v310 v642
  let c256_i32_383 : BitVec 32 := 256#32
  let v644 : BitVec 32 := Scalar.muli v643 c256_i32_383
  let v645 : BitVec 32 := Scalar.addi v644 c0_i32_384
  let v646 : BitVec 32 := v645
  let v648 : Index := Scalar.indexCast v646
  let c0_386 : Index := 0#32
  ![0, v648.toNat, 0]
def k0_off10 (i : grid0.Coords) (k0_t5 : Fin (k0_t5_loop i).trips) (c0_i32_384 : BitVec 32) : Fin 2 → Nat :=
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c1_i32_166 : BitVec 32 := 1#32
  let arg21 : BitVec 32 := Scf.iv c0_i32_164 c1_i32_166 k0_t5
  let c1_i32_382 : BitVec 32 := 1#32
  let v642 : BitVec 32 := Scalar.muli arg21 c1_i32_382
  let v643 : BitVec 32 := Scalar.addi v310 v642
  let c256_i32_383 : BitVec 32 := 256#32
  let v644 : BitVec 32 := Scalar.muli v643 c256_i32_383
  let v645 : BitVec 32 := Scalar.addi v644 c0_i32_384
  let v646 : BitVec 32 := v645
  let v730 : Index := Scalar.indexCast v646
  let c0_410 : Index := 0#32
  ![v730.toNat, 0]
def k0_mult26 (i : grid0.Coords) (k0_t5 : Fin (k0_t5_loop i).trips) : BitVec 32 :=
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c1_i32_166 : BitVec 32 := 1#32
  let arg21 : BitVec 32 := Scf.iv c0_i32_164 c1_i32_166 k0_t5
  let c1_i32_411 : BitVec 32 := 1#32
  let v734 : BitVec 32 := Scalar.muli arg21 c1_i32_411
  let v735 : BitVec 32 := Scalar.addi v310 v734
  let c256_i32_412 : BitVec 32 := 256#32
  let v736 : BitVec 32 := Scalar.muli v735 c256_i32_412
  let c128_i32_413 : BitVec 32 := 128#32
  let v737 : BitVec 32 := Scalar.addi v736 c128_i32_413
  v737
@[reducible] def k0_t6_loop (i : grid0.Coords) : Scf.Loop 32 :=
  let c0_i32_164 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c4_i32_161 : BitVec 32 := 4#32
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v311 : BitVec 32 := Scalar.muli c4_i32_161 v277
  let v312 : BitVec 32 := Scalar.subi v18 v311
  let c2_i32_162 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v313 : BitVec 32 := Scalar.muli c2_i32_162 v296
  let v314 : BitVec 32 := Scalar.subi v312 v313
  let v315 : BitVec 32 := Scalar.subi v314 c0_i32_164
  let c1_i32_165 : BitVec 32 := 1#32
  let v317 : BitVec 32 := Scalar.divsi v315 c1_i32_165
  let v318 : BitVec 32 := Scalar.muli v317 c1_i32_165
  let v319 : BitVec 32 := Scalar.addi c0_i32_164 v318
  let v316 : BitVec 32 := Scalar.addi c0_i32_164 v315
  let c1_i32_167 : BitVec 32 := 1#32
  ⟨v319, v316, c1_i32_167⟩
def k0_mult27 (i : grid0.Coords) (k0_t6 : Fin (k0_t6_loop i).trips) : BitVec 32 :=
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c4_i32_161 : BitVec 32 := 4#32
  let v311 : BitVec 32 := Scalar.muli c4_i32_161 v277
  let v312 : BitVec 32 := Scalar.subi v18 v311
  let c2_i32_162 : BitVec 32 := 2#32
  let v313 : BitVec 32 := Scalar.muli c2_i32_162 v296
  let v314 : BitVec 32 := Scalar.subi v312 v313
  let v315 : BitVec 32 := Scalar.subi v314 c0_i32_164
  let c1_i32_165 : BitVec 32 := 1#32
  let v317 : BitVec 32 := Scalar.divsi v315 c1_i32_165
  let v318 : BitVec 32 := Scalar.muli v317 c1_i32_165
  let v319 : BitVec 32 := Scalar.addi c0_i32_164 v318
  let c1_i32_167 : BitVec 32 := 1#32
  let arg21 : BitVec 32 := Scf.iv v319 c1_i32_167 k0_t6
  let c1_i32_382 : BitVec 32 := 1#32
  let v642 : BitVec 32 := Scalar.muli arg21 c1_i32_382
  let v643 : BitVec 32 := Scalar.addi v310 v642
  let c256_i32_383 : BitVec 32 := 256#32
  let v644 : BitVec 32 := Scalar.muli v643 c256_i32_383
  let c0_i32_384 : BitVec 32 := 0#32
  let v645 : BitVec 32 := Scalar.addi v644 c0_i32_384
  v645
def k0_off11 (i : grid0.Coords) (k0_t6 : Fin (k0_t6_loop i).trips) (c0_i32_384 : BitVec 32) : Fin 3 → Nat :=
  let c0_385 : Index := 0#32
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c4_i32_161 : BitVec 32 := 4#32
  let v311 : BitVec 32 := Scalar.muli c4_i32_161 v277
  let v312 : BitVec 32 := Scalar.subi v18 v311
  let c2_i32_162 : BitVec 32 := 2#32
  let v313 : BitVec 32 := Scalar.muli c2_i32_162 v296
  let v314 : BitVec 32 := Scalar.subi v312 v313
  let v315 : BitVec 32 := Scalar.subi v314 c0_i32_164
  let c1_i32_165 : BitVec 32 := 1#32
  let v317 : BitVec 32 := Scalar.divsi v315 c1_i32_165
  let v318 : BitVec 32 := Scalar.muli v317 c1_i32_165
  let v319 : BitVec 32 := Scalar.addi c0_i32_164 v318
  let c1_i32_167 : BitVec 32 := 1#32
  let arg21 : BitVec 32 := Scf.iv v319 c1_i32_167 k0_t6
  let c1_i32_382 : BitVec 32 := 1#32
  let v642 : BitVec 32 := Scalar.muli arg21 c1_i32_382
  let v643 : BitVec 32 := Scalar.addi v310 v642
  let c256_i32_383 : BitVec 32 := 256#32
  let v644 : BitVec 32 := Scalar.muli v643 c256_i32_383
  let v645 : BitVec 32 := Scalar.addi v644 c0_i32_384
  let v646 : BitVec 32 := v645
  let v648 : Index := Scalar.indexCast v646
  let c0_386 : Index := 0#32
  ![0, v648.toNat, 0]
def k0_off12 (i : grid0.Coords) (k0_t6 : Fin (k0_t6_loop i).trips) (c0_i32_384 : BitVec 32) : Fin 2 → Nat :=
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c4_i32_161 : BitVec 32 := 4#32
  let v311 : BitVec 32 := Scalar.muli c4_i32_161 v277
  let v312 : BitVec 32 := Scalar.subi v18 v311
  let c2_i32_162 : BitVec 32 := 2#32
  let v313 : BitVec 32 := Scalar.muli c2_i32_162 v296
  let v314 : BitVec 32 := Scalar.subi v312 v313
  let v315 : BitVec 32 := Scalar.subi v314 c0_i32_164
  let c1_i32_165 : BitVec 32 := 1#32
  let v317 : BitVec 32 := Scalar.divsi v315 c1_i32_165
  let v318 : BitVec 32 := Scalar.muli v317 c1_i32_165
  let v319 : BitVec 32 := Scalar.addi c0_i32_164 v318
  let c1_i32_167 : BitVec 32 := 1#32
  let arg21 : BitVec 32 := Scf.iv v319 c1_i32_167 k0_t6
  let c1_i32_382 : BitVec 32 := 1#32
  let v642 : BitVec 32 := Scalar.muli arg21 c1_i32_382
  let v643 : BitVec 32 := Scalar.addi v310 v642
  let c256_i32_383 : BitVec 32 := 256#32
  let v644 : BitVec 32 := Scalar.muli v643 c256_i32_383
  let v645 : BitVec 32 := Scalar.addi v644 c0_i32_384
  let v646 : BitVec 32 := v645
  let v730 : Index := Scalar.indexCast v646
  let c0_410 : Index := 0#32
  ![v730.toNat, 0]
def k0_mult28 (i : grid0.Coords) (k0_t6 : Fin (k0_t6_loop i).trips) : BitVec 32 :=
  let c4_i32_159 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c0_i32_134 : BitVec 32 := 0#32
  let v262 : BitVec 1 := Scalar.cmpi .sgt v18 c0_i32_134
  let v263 : BitVec 32 := Scalar.extui v262
  let c0_i32_135 : BitVec 32 := 0#32
  let v264 : BitVec 1 := Scalar.cmpi .slt v18 c0_i32_135
  let v265 : BitVec 32 := Scalar.extui v264
  let v266 : BitVec 32 := Scalar.subi v263 v265
  let c4_i32 : BitVec 32 := 4#32
  let c0_i32_136 : BitVec 32 := 0#32
  let v267 : BitVec 1 := Scalar.cmpi .sgt c4_i32 c0_i32_136
  let v268 : BitVec 32 := Scalar.extui v267
  let c0_i32_137 : BitVec 32 := 0#32
  let v269 : BitVec 1 := Scalar.cmpi .slt c4_i32 c0_i32_137
  let v270 : BitVec 32 := Scalar.extui v269
  let v271 : BitVec 32 := Scalar.subi v268 v270
  let v272 : BitVec 1 := Scalar.cmpi .ne v266 v271
  let v273 : BitVec 32 := Scalar.remsi v18 c4_i32
  let c0_i32_138 : BitVec 32 := 0#32
  let v274 : BitVec 1 := Scalar.cmpi .ne v273 c0_i32_138
  let v275 : BitVec 1 := Scalar.andi v272 v274
  let v261 : BitVec 32 := Scalar.divsi v18 c4_i32
  let c1_i32_139 : BitVec 32 := 1#32
  let v276 : BitVec 32 := Scalar.subi v261 c1_i32_139
  let v277 : BitVec 32 := Scalar.select v275 v276 v261
  let v308 : BitVec 32 := Scalar.muli c4_i32_159 v277
  let c2_i32_160 : BitVec 32 := 2#32
  let c4_i32_140 : BitVec 32 := 4#32
  let v278 : BitVec 32 := Scalar.muli c4_i32_140 v277
  let v279 : BitVec 32 := Scalar.subi v18 v278
  let c0_i32_142 : BitVec 32 := 0#32
  let v281 : BitVec 1 := Scalar.cmpi .sgt v279 c0_i32_142
  let v282 : BitVec 32 := Scalar.extui v281
  let c0_i32_143 : BitVec 32 := 0#32
  let v283 : BitVec 1 := Scalar.cmpi .slt v279 c0_i32_143
  let v284 : BitVec 32 := Scalar.extui v283
  let v285 : BitVec 32 := Scalar.subi v282 v284
  let c2_i32_141 : BitVec 32 := 2#32
  let c0_i32_144 : BitVec 32 := 0#32
  let v286 : BitVec 1 := Scalar.cmpi .sgt c2_i32_141 c0_i32_144
  let v287 : BitVec 32 := Scalar.extui v286
  let c0_i32_145 : BitVec 32 := 0#32
  let v288 : BitVec 1 := Scalar.cmpi .slt c2_i32_141 c0_i32_145
  let v289 : BitVec 32 := Scalar.extui v288
  let v290 : BitVec 32 := Scalar.subi v287 v289
  let v291 : BitVec 1 := Scalar.cmpi .ne v285 v290
  let v292 : BitVec 32 := Scalar.remsi v279 c2_i32_141
  let c0_i32_146 : BitVec 32 := 0#32
  let v293 : BitVec 1 := Scalar.cmpi .ne v292 c0_i32_146
  let v294 : BitVec 1 := Scalar.andi v291 v293
  let v280 : BitVec 32 := Scalar.divsi v279 c2_i32_141
  let c1_i32_147 : BitVec 32 := 1#32
  let v295 : BitVec 32 := Scalar.subi v280 c1_i32_147
  let v296 : BitVec 32 := Scalar.select v294 v295 v280
  let v309 : BitVec 32 := Scalar.muli c2_i32_160 v296
  let v310 : BitVec 32 := Scalar.addi v308 v309
  let c0_i32_164 : BitVec 32 := 0#32
  let c4_i32_161 : BitVec 32 := 4#32
  let v311 : BitVec 32 := Scalar.muli c4_i32_161 v277
  let v312 : BitVec 32 := Scalar.subi v18 v311
  let c2_i32_162 : BitVec 32 := 2#32
  let v313 : BitVec 32 := Scalar.muli c2_i32_162 v296
  let v314 : BitVec 32 := Scalar.subi v312 v313
  let v315 : BitVec 32 := Scalar.subi v314 c0_i32_164
  let c1_i32_165 : BitVec 32 := 1#32
  let v317 : BitVec 32 := Scalar.divsi v315 c1_i32_165
  let v318 : BitVec 32 := Scalar.muli v317 c1_i32_165
  let v319 : BitVec 32 := Scalar.addi c0_i32_164 v318
  let c1_i32_167 : BitVec 32 := 1#32
  let arg21 : BitVec 32 := Scf.iv v319 c1_i32_167 k0_t6
  let c1_i32_411 : BitVec 32 := 1#32
  let v734 : BitVec 32 := Scalar.muli arg21 c1_i32_411
  let v735 : BitVec 32 := Scalar.addi v310 v734
  let c256_i32_412 : BitVec 32 := 256#32
  let v736 : BitVec 32 := Scalar.muli v735 c256_i32_412
  let c128_i32_413 : BitVec 32 := 128#32
  let v737 : BitVec 32 := Scalar.addi v736 c128_i32_413
  v737
def k0_cond1 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_168 : BitVec 32 := 2#32
  let c0_i32_169 : BitVec 32 := 0#32
  let v320 : BitVec 1 := Scalar.cmpi .eq c2_i32_168 c0_i32_169
  let c1_i32_170 : BitVec 32 := 1#32
  let v321 : BitVec 32 := Scalar.select v320 c1_i32_170 c2_i32_168
  let v322 : BitVec 32 := Scalar.remsi v18 v321
  let c0_i32_172 : BitVec 32 := 0#32
  let v324 : BitVec 1 := Scalar.cmpi .slt v322 c0_i32_172
  let c0_i32_173 : BitVec 32 := 0#32
  let v325 : BitVec 1 := Scalar.cmpi .slt v321 c0_i32_173
  let v326 : BitVec 1 := Scalar.xori v324 v325
  let c0_i32_171 : BitVec 32 := 0#32
  let v323 : BitVec 1 := Scalar.cmpi .ne v322 c0_i32_171
  let v327 : BitVec 1 := Scalar.andi v326 v323
  let v328 : BitVec 32 := Scalar.addi v322 v321
  let v329 : BitVec 32 := Scalar.select v327 v328 v322
  let c1_i32_174 : BitVec 32 := 1#32
  let v330 : BitVec 1 := Scalar.cmpi .eq v329 c1_i32_174
  let v331 : BitVec 32 := Scalar.extui v330
  let c0_i32_175 : BitVec 32 := 0#32
  let v332 : BitVec 1 := Scalar.cmpi .ne v331 c0_i32_175
  v332

def k0_mult29 (i : grid0.Coords) : BitVec 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c256_i32_383 : BitVec 32 := 256#32
  let v643 : BitVec 32 := Scalar.muli v18 c256_i32_383
  v643
def k0_off13 (i : grid0.Coords) : Fin 2 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c256_i32_383 : BitVec 32 := 256#32
  let v643 : BitVec 32 := Scalar.muli v18 c256_i32_383
  let v644 : BitVec 32 := v643
  let v645 : Index := Scalar.indexCast v644
  let c0_384 : Index := 0#32
  ![v645.toNat, 0]
@[reducible] def k0_t7_loop (i : grid0.Coords) : Scf.Loop 32 :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_180 : BitVec 32 := 1#32
  ⟨c0_i32_178, v342, c1_i32_180⟩
def k0_mult30 (i : grid0.Coords) (k0_t7 : Fin (k0_t7_loop i).trips) : BitVec 32 :=
  let c0_i32_178 : BitVec 32 := 0#32
  let c1_i32_180 : BitVec 32 := 1#32
  let arg21 : BitVec 32 := Scf.iv c0_i32_178 c1_i32_180 k0_t7
  let c256_i32_382 : BitVec 32 := 256#32
  let v642 : BitVec 32 := Scalar.muli arg21 c256_i32_382
  v642
def k0_off14 (i : grid0.Coords) (k0_t7 : Fin (k0_t7_loop i).trips) (c0_i32_383 : BitVec 32) : Fin 2 → Nat :=
  let c0_i32_178 : BitVec 32 := 0#32
  let c1_i32_180 : BitVec 32 := 1#32
  let arg21 : BitVec 32 := Scf.iv c0_i32_178 c1_i32_180 k0_t7
  let c256_i32_382 : BitVec 32 := 256#32
  let v642 : BitVec 32 := Scalar.muli arg21 c256_i32_382
  let v643 : BitVec 32 := v642
  let v644 : BitVec 32 := Scalar.addi v643 c0_i32_383
  let v645 : Index := Scalar.indexCast v644
  let c0_384 : Index := 0#32
  ![v645.toNat, 0]
def k0_off15 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1369 : Index := Scalar.indexCast arg21
  let c0_531 : Index := 0#32
  let c0_532 : Index := 0#32
  let c0_533 : Index := 0#32
  ![v1369.toNat, 0, 0, 0]
def k0_off16 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1373 : Index := Scalar.indexCast arg21
  let c1 : Index := 1#32
  let c0_534 : Index := 0#32
  let c0_535 : Index := 0#32
  ![v1373.toNat, 1, 0, 0]
def k0_off17 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1377 : Index := Scalar.indexCast arg21
  let c2 : Index := 2#32
  let c0_536 : Index := 0#32
  let c0_537 : Index := 0#32
  ![v1377.toNat, 2, 0, 0]
def k0_off18 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1381 : Index := Scalar.indexCast arg21
  let c3 : Index := 3#32
  let c0_538 : Index := 0#32
  let c0_539 : Index := 0#32
  ![v1381.toNat, 3, 0, 0]
def k0_off19 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1385 : Index := Scalar.indexCast arg21
  let c4 : Index := 4#32
  let c0_540 : Index := 0#32
  let c0_541 : Index := 0#32
  ![v1385.toNat, 4, 0, 0]
def k0_off20 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1389 : Index := Scalar.indexCast arg21
  let c5 : Index := 5#32
  let c0_542 : Index := 0#32
  let c0_543 : Index := 0#32
  ![v1389.toNat, 5, 0, 0]
def k0_off21 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1393 : Index := Scalar.indexCast arg21
  let c6 : Index := 6#32
  let c0_544 : Index := 0#32
  let c0_545 : Index := 0#32
  ![v1393.toNat, 6, 0, 0]
def k0_off22 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1397 : Index := Scalar.indexCast arg21
  let c7 : Index := 7#32
  let c0_546 : Index := 0#32
  let c0_547 : Index := 0#32
  ![v1397.toNat, 7, 0, 0]
def k0_off23 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1401 : Index := Scalar.indexCast arg21
  let c8 : Index := 8#32
  let c0_548 : Index := 0#32
  let c0_549 : Index := 0#32
  ![v1401.toNat, 8, 0, 0]
def k0_off24 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1405 : Index := Scalar.indexCast arg21
  let c9 : Index := 9#32
  let c0_550 : Index := 0#32
  let c0_551 : Index := 0#32
  ![v1405.toNat, 9, 0, 0]
def k0_off25 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1409 : Index := Scalar.indexCast arg21
  let c10 : Index := 10#32
  let c0_552 : Index := 0#32
  let c0_553 : Index := 0#32
  ![v1409.toNat, 10, 0, 0]
def k0_off26 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1413 : Index := Scalar.indexCast arg21
  let c11 : Index := 11#32
  let c0_554 : Index := 0#32
  let c0_555 : Index := 0#32
  ![v1413.toNat, 11, 0, 0]
def k0_off27 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1417 : Index := Scalar.indexCast arg21
  let c12 : Index := 12#32
  let c0_556 : Index := 0#32
  let c0_557 : Index := 0#32
  ![v1417.toNat, 12, 0, 0]
def k0_off28 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1421 : Index := Scalar.indexCast arg21
  let c13 : Index := 13#32
  let c0_558 : Index := 0#32
  let c0_559 : Index := 0#32
  ![v1421.toNat, 13, 0, 0]
def k0_off29 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1425 : Index := Scalar.indexCast arg21
  let c14 : Index := 14#32
  let c0_560 : Index := 0#32
  let c0_561 : Index := 0#32
  ![v1425.toNat, 14, 0, 0]
def k0_off30 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1429 : Index := Scalar.indexCast arg21
  let c15 : Index := 15#32
  let c0_562 : Index := 0#32
  let c0_563 : Index := 0#32
  ![v1429.toNat, 15, 0, 0]
def k0_off31 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1433 : Index := Scalar.indexCast arg21
  let c16 : Index := 16#32
  let c0_564 : Index := 0#32
  let c0_565 : Index := 0#32
  ![v1433.toNat, 16, 0, 0]
def k0_off32 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1437 : Index := Scalar.indexCast arg21
  let c17 : Index := 17#32
  let c0_566 : Index := 0#32
  let c0_567 : Index := 0#32
  ![v1437.toNat, 17, 0, 0]
def k0_off33 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1441 : Index := Scalar.indexCast arg21
  let c18 : Index := 18#32
  let c0_568 : Index := 0#32
  let c0_569 : Index := 0#32
  ![v1441.toNat, 18, 0, 0]
def k0_off34 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1445 : Index := Scalar.indexCast arg21
  let c19 : Index := 19#32
  let c0_570 : Index := 0#32
  let c0_571 : Index := 0#32
  ![v1445.toNat, 19, 0, 0]
def k0_off35 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1449 : Index := Scalar.indexCast arg21
  let c20 : Index := 20#32
  let c0_572 : Index := 0#32
  let c0_573 : Index := 0#32
  ![v1449.toNat, 20, 0, 0]
def k0_off36 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1453 : Index := Scalar.indexCast arg21
  let c21 : Index := 21#32
  let c0_574 : Index := 0#32
  let c0_575 : Index := 0#32
  ![v1453.toNat, 21, 0, 0]
def k0_off37 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1457 : Index := Scalar.indexCast arg21
  let c22 : Index := 22#32
  let c0_576 : Index := 0#32
  let c0_577 : Index := 0#32
  ![v1457.toNat, 22, 0, 0]
def k0_off38 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1461 : Index := Scalar.indexCast arg21
  let c23 : Index := 23#32
  let c0_578 : Index := 0#32
  let c0_579 : Index := 0#32
  ![v1461.toNat, 23, 0, 0]
def k0_off39 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1465 : Index := Scalar.indexCast arg21
  let c24 : Index := 24#32
  let c0_580 : Index := 0#32
  let c0_581 : Index := 0#32
  ![v1465.toNat, 24, 0, 0]
def k0_off40 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1469 : Index := Scalar.indexCast arg21
  let c25 : Index := 25#32
  let c0_582 : Index := 0#32
  let c0_583 : Index := 0#32
  ![v1469.toNat, 25, 0, 0]
def k0_off41 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1473 : Index := Scalar.indexCast arg21
  let c26 : Index := 26#32
  let c0_584 : Index := 0#32
  let c0_585 : Index := 0#32
  ![v1473.toNat, 26, 0, 0]
def k0_off42 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1477 : Index := Scalar.indexCast arg21
  let c27 : Index := 27#32
  let c0_586 : Index := 0#32
  let c0_587 : Index := 0#32
  ![v1477.toNat, 27, 0, 0]
def k0_off43 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1481 : Index := Scalar.indexCast arg21
  let c28 : Index := 28#32
  let c0_588 : Index := 0#32
  let c0_589 : Index := 0#32
  ![v1481.toNat, 28, 0, 0]
def k0_off44 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1485 : Index := Scalar.indexCast arg21
  let c29 : Index := 29#32
  let c0_590 : Index := 0#32
  let c0_591 : Index := 0#32
  ![v1485.toNat, 29, 0, 0]
def k0_off45 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1489 : Index := Scalar.indexCast arg21
  let c30 : Index := 30#32
  let c0_592 : Index := 0#32
  let c0_593 : Index := 0#32
  ![v1489.toNat, 30, 0, 0]
def k0_off46 (i : grid0.Coords) (k0_t7 : Fin (k0_t7_loop i).trips) : Fin 4 → Nat :=
  let c0_i32_178 : BitVec 32 := 0#32
  let c1_i32_180 : BitVec 32 := 1#32
  let arg21 : BitVec 32 := Scf.iv c0_i32_178 c1_i32_180 k0_t7
  let v1493 : Index := Scalar.indexCast arg21
  let c31 : Index := 31#32
  let c0_594 : Index := 0#32
  let c0_595 : Index := 0#32
  ![v1493.toNat, 31, 0, 0]
@[reducible] def k0_t8_loop (i : grid0.Coords) : Scf.Loop 32 :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let v339 : BitVec 32 := Scalar.addi c0_i32_178 v338
  let c1_i32_181 : BitVec 32 := 1#32
  ⟨v342, v339, c1_i32_181⟩
def k0_mult31 (i : grid0.Coords) (k0_t8 : Fin (k0_t8_loop i).trips) : BitVec 32 :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let c256_i32_382 : BitVec 32 := 256#32
  let v642 : BitVec 32 := Scalar.muli arg21 c256_i32_382
  v642
def k0_off47 (i : grid0.Coords) (k0_t8 : Fin (k0_t8_loop i).trips) (c0_i32_383 : BitVec 32) : Fin 2 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let c256_i32_382 : BitVec 32 := 256#32
  let v642 : BitVec 32 := Scalar.muli arg21 c256_i32_382
  let v643 : BitVec 32 := v642
  let v644 : BitVec 32 := Scalar.addi v643 c0_i32_383
  let v645 : Index := Scalar.indexCast v644
  let c0_384 : Index := 0#32
  ![v645.toNat, 0]
def k0_off48 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1369 : Index := Scalar.indexCast arg21
  let c0_531 : Index := 0#32
  let c0_532 : Index := 0#32
  let c0_533 : Index := 0#32
  ![v1369.toNat, 0, 0, 0]
def k0_off49 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1373 : Index := Scalar.indexCast arg21
  let c1 : Index := 1#32
  let c0_534 : Index := 0#32
  let c0_535 : Index := 0#32
  ![v1373.toNat, 1, 0, 0]
def k0_off50 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1377 : Index := Scalar.indexCast arg21
  let c2 : Index := 2#32
  let c0_536 : Index := 0#32
  let c0_537 : Index := 0#32
  ![v1377.toNat, 2, 0, 0]
def k0_off51 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1381 : Index := Scalar.indexCast arg21
  let c3 : Index := 3#32
  let c0_538 : Index := 0#32
  let c0_539 : Index := 0#32
  ![v1381.toNat, 3, 0, 0]
def k0_off52 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1385 : Index := Scalar.indexCast arg21
  let c4 : Index := 4#32
  let c0_540 : Index := 0#32
  let c0_541 : Index := 0#32
  ![v1385.toNat, 4, 0, 0]
def k0_off53 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1389 : Index := Scalar.indexCast arg21
  let c5 : Index := 5#32
  let c0_542 : Index := 0#32
  let c0_543 : Index := 0#32
  ![v1389.toNat, 5, 0, 0]
def k0_off54 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1393 : Index := Scalar.indexCast arg21
  let c6 : Index := 6#32
  let c0_544 : Index := 0#32
  let c0_545 : Index := 0#32
  ![v1393.toNat, 6, 0, 0]
def k0_off55 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1397 : Index := Scalar.indexCast arg21
  let c7 : Index := 7#32
  let c0_546 : Index := 0#32
  let c0_547 : Index := 0#32
  ![v1397.toNat, 7, 0, 0]
def k0_off56 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1401 : Index := Scalar.indexCast arg21
  let c8 : Index := 8#32
  let c0_548 : Index := 0#32
  let c0_549 : Index := 0#32
  ![v1401.toNat, 8, 0, 0]
def k0_off57 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1405 : Index := Scalar.indexCast arg21
  let c9 : Index := 9#32
  let c0_550 : Index := 0#32
  let c0_551 : Index := 0#32
  ![v1405.toNat, 9, 0, 0]
def k0_off58 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1409 : Index := Scalar.indexCast arg21
  let c10 : Index := 10#32
  let c0_552 : Index := 0#32
  let c0_553 : Index := 0#32
  ![v1409.toNat, 10, 0, 0]
def k0_off59 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1413 : Index := Scalar.indexCast arg21
  let c11 : Index := 11#32
  let c0_554 : Index := 0#32
  let c0_555 : Index := 0#32
  ![v1413.toNat, 11, 0, 0]
def k0_off60 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1417 : Index := Scalar.indexCast arg21
  let c12 : Index := 12#32
  let c0_556 : Index := 0#32
  let c0_557 : Index := 0#32
  ![v1417.toNat, 12, 0, 0]
def k0_off61 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1421 : Index := Scalar.indexCast arg21
  let c13 : Index := 13#32
  let c0_558 : Index := 0#32
  let c0_559 : Index := 0#32
  ![v1421.toNat, 13, 0, 0]
def k0_off62 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1425 : Index := Scalar.indexCast arg21
  let c14 : Index := 14#32
  let c0_560 : Index := 0#32
  let c0_561 : Index := 0#32
  ![v1425.toNat, 14, 0, 0]
def k0_off63 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1429 : Index := Scalar.indexCast arg21
  let c15 : Index := 15#32
  let c0_562 : Index := 0#32
  let c0_563 : Index := 0#32
  ![v1429.toNat, 15, 0, 0]
def k0_off64 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1433 : Index := Scalar.indexCast arg21
  let c16 : Index := 16#32
  let c0_564 : Index := 0#32
  let c0_565 : Index := 0#32
  ![v1433.toNat, 16, 0, 0]
def k0_off65 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1437 : Index := Scalar.indexCast arg21
  let c17 : Index := 17#32
  let c0_566 : Index := 0#32
  let c0_567 : Index := 0#32
  ![v1437.toNat, 17, 0, 0]
def k0_off66 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1441 : Index := Scalar.indexCast arg21
  let c18 : Index := 18#32
  let c0_568 : Index := 0#32
  let c0_569 : Index := 0#32
  ![v1441.toNat, 18, 0, 0]
def k0_off67 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1445 : Index := Scalar.indexCast arg21
  let c19 : Index := 19#32
  let c0_570 : Index := 0#32
  let c0_571 : Index := 0#32
  ![v1445.toNat, 19, 0, 0]
def k0_off68 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1449 : Index := Scalar.indexCast arg21
  let c20 : Index := 20#32
  let c0_572 : Index := 0#32
  let c0_573 : Index := 0#32
  ![v1449.toNat, 20, 0, 0]
def k0_off69 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1453 : Index := Scalar.indexCast arg21
  let c21 : Index := 21#32
  let c0_574 : Index := 0#32
  let c0_575 : Index := 0#32
  ![v1453.toNat, 21, 0, 0]
def k0_off70 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1457 : Index := Scalar.indexCast arg21
  let c22 : Index := 22#32
  let c0_576 : Index := 0#32
  let c0_577 : Index := 0#32
  ![v1457.toNat, 22, 0, 0]
def k0_off71 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1461 : Index := Scalar.indexCast arg21
  let c23 : Index := 23#32
  let c0_578 : Index := 0#32
  let c0_579 : Index := 0#32
  ![v1461.toNat, 23, 0, 0]
def k0_off72 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1465 : Index := Scalar.indexCast arg21
  let c24 : Index := 24#32
  let c0_580 : Index := 0#32
  let c0_581 : Index := 0#32
  ![v1465.toNat, 24, 0, 0]
def k0_off73 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1469 : Index := Scalar.indexCast arg21
  let c25 : Index := 25#32
  let c0_582 : Index := 0#32
  let c0_583 : Index := 0#32
  ![v1469.toNat, 25, 0, 0]
def k0_off74 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1473 : Index := Scalar.indexCast arg21
  let c26 : Index := 26#32
  let c0_584 : Index := 0#32
  let c0_585 : Index := 0#32
  ![v1473.toNat, 26, 0, 0]
def k0_off75 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1477 : Index := Scalar.indexCast arg21
  let c27 : Index := 27#32
  let c0_586 : Index := 0#32
  let c0_587 : Index := 0#32
  ![v1477.toNat, 27, 0, 0]
def k0_off76 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1481 : Index := Scalar.indexCast arg21
  let c28 : Index := 28#32
  let c0_588 : Index := 0#32
  let c0_589 : Index := 0#32
  ![v1481.toNat, 28, 0, 0]
def k0_off77 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1485 : Index := Scalar.indexCast arg21
  let c29 : Index := 29#32
  let c0_590 : Index := 0#32
  let c0_591 : Index := 0#32
  ![v1485.toNat, 29, 0, 0]
def k0_off78 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1489 : Index := Scalar.indexCast arg21
  let c30 : Index := 30#32
  let c0_592 : Index := 0#32
  let c0_593 : Index := 0#32
  ![v1489.toNat, 30, 0, 0]
def k0_off79 (i : grid0.Coords) (k0_t8 : Fin (k0_t8_loop i).trips) : Fin 4 → Nat :=
  let c0_i32_178 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v338 : BitVec 32 := Scalar.subi v18 c0_i32_178
  let c1_i32_179 : BitVec 32 := 1#32
  let v340 : BitVec 32 := Scalar.divsi v338 c1_i32_179
  let v341 : BitVec 32 := Scalar.muli v340 c1_i32_179
  let v342 : BitVec 32 := Scalar.addi c0_i32_178 v341
  let c1_i32_181 : BitVec 32 := 1#32
  let arg21 : BitVec 32 := Scf.iv v342 c1_i32_181 k0_t8
  let v1493 : Index := Scalar.indexCast arg21
  let c31 : Index := 31#32
  let c0_594 : Index := 0#32
  let c0_595 : Index := 0#32
  ![v1493.toNat, 31, 0, 0]
@[reducible] def k0_t9_loop (i : grid0.Coords) : Scf.Loop 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_185 : BitVec 32 := 1#32
  ⟨v18, v348, c1_i32_185⟩
def k0_off80 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v643 : Index := Scalar.indexCast arg21
  let c0_383 : Index := 0#32
  let c0_384 : Index := 0#32
  let c0_385 : Index := 0#32
  ![v643.toNat, 0, 0, 0]
def k0_off81 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v648 : Index := Scalar.indexCast arg21
  let c1 : Index := 1#32
  let c0_387 : Index := 0#32
  let c0_388 : Index := 0#32
  ![v648.toNat, 1, 0, 0]
def k0_off82 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v653 : Index := Scalar.indexCast arg21
  let c2 : Index := 2#32
  let c0_390 : Index := 0#32
  let c0_391 : Index := 0#32
  ![v653.toNat, 2, 0, 0]
def k0_off83 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v658 : Index := Scalar.indexCast arg21
  let c3 : Index := 3#32
  let c0_393 : Index := 0#32
  let c0_394 : Index := 0#32
  ![v658.toNat, 3, 0, 0]
def k0_off84 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v663 : Index := Scalar.indexCast arg21
  let c4 : Index := 4#32
  let c0_396 : Index := 0#32
  let c0_397 : Index := 0#32
  ![v663.toNat, 4, 0, 0]
def k0_off85 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v668 : Index := Scalar.indexCast arg21
  let c5 : Index := 5#32
  let c0_399 : Index := 0#32
  let c0_400 : Index := 0#32
  ![v668.toNat, 5, 0, 0]
def k0_off86 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v673 : Index := Scalar.indexCast arg21
  let c6 : Index := 6#32
  let c0_402 : Index := 0#32
  let c0_403 : Index := 0#32
  ![v673.toNat, 6, 0, 0]
def k0_off87 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v678 : Index := Scalar.indexCast arg21
  let c7 : Index := 7#32
  let c0_405 : Index := 0#32
  let c0_406 : Index := 0#32
  ![v678.toNat, 7, 0, 0]
def k0_off88 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v683 : Index := Scalar.indexCast arg21
  let c8 : Index := 8#32
  let c0_408 : Index := 0#32
  let c0_409 : Index := 0#32
  ![v683.toNat, 8, 0, 0]
def k0_off89 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v688 : Index := Scalar.indexCast arg21
  let c9 : Index := 9#32
  let c0_411 : Index := 0#32
  let c0_412 : Index := 0#32
  ![v688.toNat, 9, 0, 0]
def k0_off90 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v693 : Index := Scalar.indexCast arg21
  let c10 : Index := 10#32
  let c0_414 : Index := 0#32
  let c0_415 : Index := 0#32
  ![v693.toNat, 10, 0, 0]
def k0_off91 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v698 : Index := Scalar.indexCast arg21
  let c11 : Index := 11#32
  let c0_417 : Index := 0#32
  let c0_418 : Index := 0#32
  ![v698.toNat, 11, 0, 0]
def k0_off92 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v703 : Index := Scalar.indexCast arg21
  let c12 : Index := 12#32
  let c0_420 : Index := 0#32
  let c0_421 : Index := 0#32
  ![v703.toNat, 12, 0, 0]
def k0_off93 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v708 : Index := Scalar.indexCast arg21
  let c13 : Index := 13#32
  let c0_423 : Index := 0#32
  let c0_424 : Index := 0#32
  ![v708.toNat, 13, 0, 0]
def k0_off94 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v713 : Index := Scalar.indexCast arg21
  let c14 : Index := 14#32
  let c0_426 : Index := 0#32
  let c0_427 : Index := 0#32
  ![v713.toNat, 14, 0, 0]
def k0_off95 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v718 : Index := Scalar.indexCast arg21
  let c15 : Index := 15#32
  let c0_429 : Index := 0#32
  let c0_430 : Index := 0#32
  ![v718.toNat, 15, 0, 0]
def k0_off96 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v723 : Index := Scalar.indexCast arg21
  let c16 : Index := 16#32
  let c0_432 : Index := 0#32
  let c0_433 : Index := 0#32
  ![v723.toNat, 16, 0, 0]
def k0_off97 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v728 : Index := Scalar.indexCast arg21
  let c17 : Index := 17#32
  let c0_435 : Index := 0#32
  let c0_436 : Index := 0#32
  ![v728.toNat, 17, 0, 0]
def k0_off98 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v733 : Index := Scalar.indexCast arg21
  let c18 : Index := 18#32
  let c0_438 : Index := 0#32
  let c0_439 : Index := 0#32
  ![v733.toNat, 18, 0, 0]
def k0_off99 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v738 : Index := Scalar.indexCast arg21
  let c19 : Index := 19#32
  let c0_441 : Index := 0#32
  let c0_442 : Index := 0#32
  ![v738.toNat, 19, 0, 0]
def k0_off100 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v743 : Index := Scalar.indexCast arg21
  let c20 : Index := 20#32
  let c0_444 : Index := 0#32
  let c0_445 : Index := 0#32
  ![v743.toNat, 20, 0, 0]
def k0_off101 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v748 : Index := Scalar.indexCast arg21
  let c21 : Index := 21#32
  let c0_447 : Index := 0#32
  let c0_448 : Index := 0#32
  ![v748.toNat, 21, 0, 0]
def k0_off102 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v753 : Index := Scalar.indexCast arg21
  let c22 : Index := 22#32
  let c0_450 : Index := 0#32
  let c0_451 : Index := 0#32
  ![v753.toNat, 22, 0, 0]
def k0_off103 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v758 : Index := Scalar.indexCast arg21
  let c23 : Index := 23#32
  let c0_453 : Index := 0#32
  let c0_454 : Index := 0#32
  ![v758.toNat, 23, 0, 0]
def k0_off104 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v763 : Index := Scalar.indexCast arg21
  let c24 : Index := 24#32
  let c0_456 : Index := 0#32
  let c0_457 : Index := 0#32
  ![v763.toNat, 24, 0, 0]
def k0_off105 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v768 : Index := Scalar.indexCast arg21
  let c25 : Index := 25#32
  let c0_459 : Index := 0#32
  let c0_460 : Index := 0#32
  ![v768.toNat, 25, 0, 0]
def k0_off106 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v773 : Index := Scalar.indexCast arg21
  let c26 : Index := 26#32
  let c0_462 : Index := 0#32
  let c0_463 : Index := 0#32
  ![v773.toNat, 26, 0, 0]
def k0_off107 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v778 : Index := Scalar.indexCast arg21
  let c27 : Index := 27#32
  let c0_465 : Index := 0#32
  let c0_466 : Index := 0#32
  ![v778.toNat, 27, 0, 0]
def k0_off108 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v783 : Index := Scalar.indexCast arg21
  let c28 : Index := 28#32
  let c0_468 : Index := 0#32
  let c0_469 : Index := 0#32
  ![v783.toNat, 28, 0, 0]
def k0_off109 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v788 : Index := Scalar.indexCast arg21
  let c29 : Index := 29#32
  let c0_471 : Index := 0#32
  let c0_472 : Index := 0#32
  ![v788.toNat, 29, 0, 0]
def k0_off110 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v793 : Index := Scalar.indexCast arg21
  let c30 : Index := 30#32
  let c0_474 : Index := 0#32
  let c0_475 : Index := 0#32
  ![v793.toNat, 30, 0, 0]
def k0_off111 (i : grid0.Coords) (k0_t9 : Fin (k0_t9_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_185 : BitVec 32 := 1#32
  let arg21 : BitVec 32 := Scf.iv v18 c1_i32_185 k0_t9
  let v798 : Index := Scalar.indexCast arg21
  let c31 : Index := 31#32
  let c0_477 : Index := 0#32
  let c0_478 : Index := 0#32
  ![v798.toNat, 31, 0, 0]
@[reducible] def k0_t10_loop (i : grid0.Coords) : Scf.Loop 32 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let v345 : BitVec 32 := Scalar.addi v18 v344
  let c1_i32_186 : BitVec 32 := 1#32
  ⟨v348, v345, c1_i32_186⟩
def k0_off112 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v643 : Index := Scalar.indexCast arg21
  let c0_383 : Index := 0#32
  let c0_384 : Index := 0#32
  let c0_385 : Index := 0#32
  ![v643.toNat, 0, 0, 0]
def k0_off113 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v648 : Index := Scalar.indexCast arg21
  let c1 : Index := 1#32
  let c0_387 : Index := 0#32
  let c0_388 : Index := 0#32
  ![v648.toNat, 1, 0, 0]
def k0_off114 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v653 : Index := Scalar.indexCast arg21
  let c2 : Index := 2#32
  let c0_390 : Index := 0#32
  let c0_391 : Index := 0#32
  ![v653.toNat, 2, 0, 0]
def k0_off115 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v658 : Index := Scalar.indexCast arg21
  let c3 : Index := 3#32
  let c0_393 : Index := 0#32
  let c0_394 : Index := 0#32
  ![v658.toNat, 3, 0, 0]
def k0_off116 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v663 : Index := Scalar.indexCast arg21
  let c4 : Index := 4#32
  let c0_396 : Index := 0#32
  let c0_397 : Index := 0#32
  ![v663.toNat, 4, 0, 0]
def k0_off117 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v668 : Index := Scalar.indexCast arg21
  let c5 : Index := 5#32
  let c0_399 : Index := 0#32
  let c0_400 : Index := 0#32
  ![v668.toNat, 5, 0, 0]
def k0_off118 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v673 : Index := Scalar.indexCast arg21
  let c6 : Index := 6#32
  let c0_402 : Index := 0#32
  let c0_403 : Index := 0#32
  ![v673.toNat, 6, 0, 0]
def k0_off119 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v678 : Index := Scalar.indexCast arg21
  let c7 : Index := 7#32
  let c0_405 : Index := 0#32
  let c0_406 : Index := 0#32
  ![v678.toNat, 7, 0, 0]
def k0_off120 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v683 : Index := Scalar.indexCast arg21
  let c8 : Index := 8#32
  let c0_408 : Index := 0#32
  let c0_409 : Index := 0#32
  ![v683.toNat, 8, 0, 0]
def k0_off121 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v688 : Index := Scalar.indexCast arg21
  let c9 : Index := 9#32
  let c0_411 : Index := 0#32
  let c0_412 : Index := 0#32
  ![v688.toNat, 9, 0, 0]
def k0_off122 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v693 : Index := Scalar.indexCast arg21
  let c10 : Index := 10#32
  let c0_414 : Index := 0#32
  let c0_415 : Index := 0#32
  ![v693.toNat, 10, 0, 0]
def k0_off123 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v698 : Index := Scalar.indexCast arg21
  let c11 : Index := 11#32
  let c0_417 : Index := 0#32
  let c0_418 : Index := 0#32
  ![v698.toNat, 11, 0, 0]
def k0_off124 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v703 : Index := Scalar.indexCast arg21
  let c12 : Index := 12#32
  let c0_420 : Index := 0#32
  let c0_421 : Index := 0#32
  ![v703.toNat, 12, 0, 0]
def k0_off125 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v708 : Index := Scalar.indexCast arg21
  let c13 : Index := 13#32
  let c0_423 : Index := 0#32
  let c0_424 : Index := 0#32
  ![v708.toNat, 13, 0, 0]
def k0_off126 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v713 : Index := Scalar.indexCast arg21
  let c14 : Index := 14#32
  let c0_426 : Index := 0#32
  let c0_427 : Index := 0#32
  ![v713.toNat, 14, 0, 0]
def k0_off127 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v718 : Index := Scalar.indexCast arg21
  let c15 : Index := 15#32
  let c0_429 : Index := 0#32
  let c0_430 : Index := 0#32
  ![v718.toNat, 15, 0, 0]
def k0_off128 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v723 : Index := Scalar.indexCast arg21
  let c16 : Index := 16#32
  let c0_432 : Index := 0#32
  let c0_433 : Index := 0#32
  ![v723.toNat, 16, 0, 0]
def k0_off129 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v728 : Index := Scalar.indexCast arg21
  let c17 : Index := 17#32
  let c0_435 : Index := 0#32
  let c0_436 : Index := 0#32
  ![v728.toNat, 17, 0, 0]
def k0_off130 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v733 : Index := Scalar.indexCast arg21
  let c18 : Index := 18#32
  let c0_438 : Index := 0#32
  let c0_439 : Index := 0#32
  ![v733.toNat, 18, 0, 0]
def k0_off131 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v738 : Index := Scalar.indexCast arg21
  let c19 : Index := 19#32
  let c0_441 : Index := 0#32
  let c0_442 : Index := 0#32
  ![v738.toNat, 19, 0, 0]
def k0_off132 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v743 : Index := Scalar.indexCast arg21
  let c20 : Index := 20#32
  let c0_444 : Index := 0#32
  let c0_445 : Index := 0#32
  ![v743.toNat, 20, 0, 0]
def k0_off133 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v748 : Index := Scalar.indexCast arg21
  let c21 : Index := 21#32
  let c0_447 : Index := 0#32
  let c0_448 : Index := 0#32
  ![v748.toNat, 21, 0, 0]
def k0_off134 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v753 : Index := Scalar.indexCast arg21
  let c22 : Index := 22#32
  let c0_450 : Index := 0#32
  let c0_451 : Index := 0#32
  ![v753.toNat, 22, 0, 0]
def k0_off135 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v758 : Index := Scalar.indexCast arg21
  let c23 : Index := 23#32
  let c0_453 : Index := 0#32
  let c0_454 : Index := 0#32
  ![v758.toNat, 23, 0, 0]
def k0_off136 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v763 : Index := Scalar.indexCast arg21
  let c24 : Index := 24#32
  let c0_456 : Index := 0#32
  let c0_457 : Index := 0#32
  ![v763.toNat, 24, 0, 0]
def k0_off137 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v768 : Index := Scalar.indexCast arg21
  let c25 : Index := 25#32
  let c0_459 : Index := 0#32
  let c0_460 : Index := 0#32
  ![v768.toNat, 25, 0, 0]
def k0_off138 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v773 : Index := Scalar.indexCast arg21
  let c26 : Index := 26#32
  let c0_462 : Index := 0#32
  let c0_463 : Index := 0#32
  ![v773.toNat, 26, 0, 0]
def k0_off139 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v778 : Index := Scalar.indexCast arg21
  let c27 : Index := 27#32
  let c0_465 : Index := 0#32
  let c0_466 : Index := 0#32
  ![v778.toNat, 27, 0, 0]
def k0_off140 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v783 : Index := Scalar.indexCast arg21
  let c28 : Index := 28#32
  let c0_468 : Index := 0#32
  let c0_469 : Index := 0#32
  ![v783.toNat, 28, 0, 0]
def k0_off141 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v788 : Index := Scalar.indexCast arg21
  let c29 : Index := 29#32
  let c0_471 : Index := 0#32
  let c0_472 : Index := 0#32
  ![v788.toNat, 29, 0, 0]
def k0_off142 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v793 : Index := Scalar.indexCast arg21
  let c30 : Index := 30#32
  let c0_474 : Index := 0#32
  let c0_475 : Index := 0#32
  ![v793.toNat, 30, 0, 0]
def k0_off143 (i : grid0.Coords) (k0_t10 : Fin (k0_t10_loop i).trips) : Fin 4 → Nat :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let c8_i32_182 : BitVec 32 := 8#32
  let c16_i32 : BitVec 32 := 16#32
  let v343 : BitVec 32 := Scalar.select v337 c8_i32_182 c16_i32
  let v344 : BitVec 32 := Scalar.subi v343 v18
  let c1_i32_184 : BitVec 32 := 1#32
  let v346 : BitVec 32 := Scalar.divsi v344 c1_i32_184
  let v347 : BitVec 32 := Scalar.muli v346 c1_i32_184
  let v348 : BitVec 32 := Scalar.addi v18 v347
  let c1_i32_186 : BitVec 32 := 1#32
  let arg21 : BitVec 32 := Scf.iv v348 c1_i32_186 k0_t10
  let v798 : Index := Scalar.indexCast arg21
  let c31 : Index := 31#32
  let c0_477 : Index := 0#32
  let c0_478 : Index := 0#32
  ![v798.toNat, 31, 0, 0]
def k0_cond2 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c8_i32 : BitVec 32 := 8#32
  let v337 : BitVec 1 := Scalar.cmpi .sle v18 c8_i32
  let v349 : BitVec 32 := Scalar.extui v337
  let c0_i32_187 : BitVec 32 := 0#32
  let v350 : BitVec 1 := Scalar.cmpi .ne v349 c0_i32_187
  v350

@[reducible] def k0_t11_loop : Scf.Loop 32 :=
  let c0_i32_390 : BitVec 32 := 0#32
  let c16_i32_391 : BitVec 32 := 16#32
  let v651 : BitVec 32 := Scalar.addi c0_i32_390 c16_i32_391
  let c1_i32_392 : BitVec 32 := 1#32
  ⟨c0_i32_390, v651, c1_i32_392⟩
def k0_off144 (k0_t11 : Fin k0_t11_loop.trips) : Fin 4 → Nat :=
  let c0_396 : Index := 0#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v671 : Index := Scalar.indexCast v670
  let c0_397 : Index := 0#32
  let c0_398 : Index := 0#32
  ![0, v671.toNat, 0, 0]
def k0_off145 (k0_t11 : Fin k0_t11_loop.trips) : Fin 4 → Nat :=
  let c1 : Index := 1#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v675 : Index := Scalar.indexCast v670
  let c0_399 : Index := 0#32
  let c0_400 : Index := 0#32
  ![1, v675.toNat, 0, 0]
def k0_off146 (k0_t11 : Fin k0_t11_loop.trips) : Fin 4 → Nat :=
  let c2 : Index := 2#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v679 : Index := Scalar.indexCast v670
  let c0_401 : Index := 0#32
  let c0_402 : Index := 0#32
  ![2, v679.toNat, 0, 0]
def k0_off147 (k0_t11 : Fin k0_t11_loop.trips) : Fin 4 → Nat :=
  let c3 : Index := 3#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v683 : Index := Scalar.indexCast v670
  let c0_403 : Index := 0#32
  let c0_404 : Index := 0#32
  ![3, v683.toNat, 0, 0]
def k0_off148 (k0_t11 : Fin k0_t11_loop.trips) : Fin 4 → Nat :=
  let c4 : Index := 4#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v687 : Index := Scalar.indexCast v670
  let c0_405 : Index := 0#32
  let c0_406 : Index := 0#32
  ![4, v687.toNat, 0, 0]
def k0_off149 (k0_t11 : Fin k0_t11_loop.trips) : Fin 4 → Nat :=
  let c5 : Index := 5#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v691 : Index := Scalar.indexCast v670
  let c0_407 : Index := 0#32
  let c0_408 : Index := 0#32
  ![5, v691.toNat, 0, 0]
def k0_off150 (k0_t11 : Fin k0_t11_loop.trips) : Fin 4 → Nat :=
  let c6 : Index := 6#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v695 : Index := Scalar.indexCast v670
  let c0_409 : Index := 0#32
  let c0_410 : Index := 0#32
  ![6, v695.toNat, 0, 0]
def k0_off151 (k0_t11 : Fin k0_t11_loop.trips) : Fin 4 → Nat :=
  let c7 : Index := 7#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let v699 : Index := Scalar.indexCast v670
  let c0_411 : Index := 0#32
  let c0_412 : Index := 0#32
  ![7, v699.toNat, 0, 0]
def k0_off152 (k0_t11 : Fin k0_t11_loop.trips) : Fin 4 → Nat :=
  let c0_414 : Index := 0#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_413 : BitVec 32 := 1#32
  let v711 : BitVec 32 := Scalar.addi v670 c1_i32_413
  let v712 : Index := Scalar.indexCast v711
  let c0_415 : Index := 0#32
  let c0_416 : Index := 0#32
  ![0, v712.toNat, 0, 0]
def k0_off153 (k0_t11 : Fin k0_t11_loop.trips) : Fin 4 → Nat :=
  let c1_418 : Index := 1#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_417 : BitVec 32 := 1#32
  let v716 : BitVec 32 := Scalar.addi v670 c1_i32_417
  let v717 : Index := Scalar.indexCast v716
  let c0_419 : Index := 0#32
  let c0_420 : Index := 0#32
  ![1, v717.toNat, 0, 0]
def k0_off154 (k0_t11 : Fin k0_t11_loop.trips) : Fin 4 → Nat :=
  let c2_422 : Index := 2#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_421 : BitVec 32 := 1#32
  let v721 : BitVec 32 := Scalar.addi v670 c1_i32_421
  let v722 : Index := Scalar.indexCast v721
  let c0_423 : Index := 0#32
  let c0_424 : Index := 0#32
  ![2, v722.toNat, 0, 0]
def k0_off155 (k0_t11 : Fin k0_t11_loop.trips) : Fin 4 → Nat :=
  let c3_426 : Index := 3#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_425 : BitVec 32 := 1#32
  let v726 : BitVec 32 := Scalar.addi v670 c1_i32_425
  let v727 : Index := Scalar.indexCast v726
  let c0_427 : Index := 0#32
  let c0_428 : Index := 0#32
  ![3, v727.toNat, 0, 0]
def k0_off156 (k0_t11 : Fin k0_t11_loop.trips) : Fin 4 → Nat :=
  let c4_430 : Index := 4#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_429 : BitVec 32 := 1#32
  let v731 : BitVec 32 := Scalar.addi v670 c1_i32_429
  let v732 : Index := Scalar.indexCast v731
  let c0_431 : Index := 0#32
  let c0_432 : Index := 0#32
  ![4, v732.toNat, 0, 0]
def k0_off157 (k0_t11 : Fin k0_t11_loop.trips) : Fin 4 → Nat :=
  let c5_434 : Index := 5#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_433 : BitVec 32 := 1#32
  let v736 : BitVec 32 := Scalar.addi v670 c1_i32_433
  let v737 : Index := Scalar.indexCast v736
  let c0_435 : Index := 0#32
  let c0_436 : Index := 0#32
  ![5, v737.toNat, 0, 0]
def k0_off158 (k0_t11 : Fin k0_t11_loop.trips) : Fin 4 → Nat :=
  let c6_438 : Index := 6#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_437 : BitVec 32 := 1#32
  let v741 : BitVec 32 := Scalar.addi v670 c1_i32_437
  let v742 : Index := Scalar.indexCast v741
  let c0_439 : Index := 0#32
  let c0_440 : Index := 0#32
  ![6, v742.toNat, 0, 0]
def k0_off159 (k0_t11 : Fin k0_t11_loop.trips) : Fin 4 → Nat :=
  let c7_442 : Index := 7#32
  let c2_i32_395 : BitVec 32 := 2#32
  let c0_i32_390 : BitVec 32 := 0#32
  let c1_i32_392 : BitVec 32 := 1#32
  let arg21 : BitVec 32 := Scf.iv c0_i32_390 c1_i32_392 k0_t11
  let v670 : BitVec 32 := Scalar.muli c2_i32_395 arg21
  let c1_i32_441 : BitVec 32 := 1#32
  let v746 : BitVec 32 := Scalar.addi v670 c1_i32_441
  let v747 : Index := Scalar.indexCast v746
  let c0_443 : Index := 0#32
  let c0_444 : Index := 0#32
  ![7, v747.toNat, 0, 0]
@[reducible] def k0_t12_loop : Scf.Loop 32 :=
  let c0_i32_398 : BitVec 32 := 0#32
  let c16_i32_399 : BitVec 32 := 16#32
  let v659 : BitVec 32 := Scalar.addi c0_i32_398 c16_i32_399
  let c1_i32_400 : BitVec 32 := 1#32
  ⟨c0_i32_398, v659, c1_i32_400⟩
def k0_off160 (k0_t12 : Fin k0_t12_loop.trips) : Fin 4 → Nat :=
  let c0_404 : Index := 0#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v695 : Index := Scalar.indexCast v694
  let c0_405 : Index := 0#32
  let c0_406 : Index := 0#32
  ![0, v695.toNat, 0, 0]
def k0_off161 (k0_t12 : Fin k0_t12_loop.trips) : Fin 4 → Nat :=
  let c1 : Index := 1#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v699 : Index := Scalar.indexCast v694
  let c0_407 : Index := 0#32
  let c0_408 : Index := 0#32
  ![1, v699.toNat, 0, 0]
def k0_off162 (k0_t12 : Fin k0_t12_loop.trips) : Fin 4 → Nat :=
  let c2 : Index := 2#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v703 : Index := Scalar.indexCast v694
  let c0_409 : Index := 0#32
  let c0_410 : Index := 0#32
  ![2, v703.toNat, 0, 0]
def k0_off163 (k0_t12 : Fin k0_t12_loop.trips) : Fin 4 → Nat :=
  let c3 : Index := 3#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v707 : Index := Scalar.indexCast v694
  let c0_411 : Index := 0#32
  let c0_412 : Index := 0#32
  ![3, v707.toNat, 0, 0]
def k0_off164 (k0_t12 : Fin k0_t12_loop.trips) : Fin 4 → Nat :=
  let c4 : Index := 4#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v711 : Index := Scalar.indexCast v694
  let c0_413 : Index := 0#32
  let c0_414 : Index := 0#32
  ![4, v711.toNat, 0, 0]
def k0_off165 (k0_t12 : Fin k0_t12_loop.trips) : Fin 4 → Nat :=
  let c5 : Index := 5#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v715 : Index := Scalar.indexCast v694
  let c0_415 : Index := 0#32
  let c0_416 : Index := 0#32
  ![5, v715.toNat, 0, 0]
def k0_off166 (k0_t12 : Fin k0_t12_loop.trips) : Fin 4 → Nat :=
  let c6 : Index := 6#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v719 : Index := Scalar.indexCast v694
  let c0_417 : Index := 0#32
  let c0_418 : Index := 0#32
  ![6, v719.toNat, 0, 0]
def k0_off167 (k0_t12 : Fin k0_t12_loop.trips) : Fin 4 → Nat :=
  let c7 : Index := 7#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v723 : Index := Scalar.indexCast v694
  let c0_419 : Index := 0#32
  let c0_420 : Index := 0#32
  ![7, v723.toNat, 0, 0]
def k0_off168 (k0_t12 : Fin k0_t12_loop.trips) : Fin 4 → Nat :=
  let c8 : Index := 8#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v727 : Index := Scalar.indexCast v694
  let c0_421 : Index := 0#32
  let c0_422 : Index := 0#32
  ![8, v727.toNat, 0, 0]
def k0_off169 (k0_t12 : Fin k0_t12_loop.trips) : Fin 4 → Nat :=
  let c9 : Index := 9#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v731 : Index := Scalar.indexCast v694
  let c0_423 : Index := 0#32
  let c0_424 : Index := 0#32
  ![9, v731.toNat, 0, 0]
def k0_off170 (k0_t12 : Fin k0_t12_loop.trips) : Fin 4 → Nat :=
  let c10 : Index := 10#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v735 : Index := Scalar.indexCast v694
  let c0_425 : Index := 0#32
  let c0_426 : Index := 0#32
  ![10, v735.toNat, 0, 0]
def k0_off171 (k0_t12 : Fin k0_t12_loop.trips) : Fin 4 → Nat :=
  let c11 : Index := 11#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v739 : Index := Scalar.indexCast v694
  let c0_427 : Index := 0#32
  let c0_428 : Index := 0#32
  ![11, v739.toNat, 0, 0]
def k0_off172 (k0_t12 : Fin k0_t12_loop.trips) : Fin 4 → Nat :=
  let c12 : Index := 12#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v743 : Index := Scalar.indexCast v694
  let c0_429 : Index := 0#32
  let c0_430 : Index := 0#32
  ![12, v743.toNat, 0, 0]
def k0_off173 (k0_t12 : Fin k0_t12_loop.trips) : Fin 4 → Nat :=
  let c13 : Index := 13#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v747 : Index := Scalar.indexCast v694
  let c0_431 : Index := 0#32
  let c0_432 : Index := 0#32
  ![13, v747.toNat, 0, 0]
def k0_off174 (k0_t12 : Fin k0_t12_loop.trips) : Fin 4 → Nat :=
  let c14 : Index := 14#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v751 : Index := Scalar.indexCast v694
  let c0_433 : Index := 0#32
  let c0_434 : Index := 0#32
  ![14, v751.toNat, 0, 0]
def k0_off175 (k0_t12 : Fin k0_t12_loop.trips) : Fin 4 → Nat :=
  let c15 : Index := 15#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let v755 : Index := Scalar.indexCast v694
  let c0_435 : Index := 0#32
  let c0_436 : Index := 0#32
  ![15, v755.toNat, 0, 0]
def k0_off176 (k0_t12 : Fin k0_t12_loop.trips) : Fin 4 → Nat :=
  let c0_438 : Index := 0#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_437 : BitVec 32 := 1#32
  let v775 : BitVec 32 := Scalar.addi v694 c1_i32_437
  let v776 : Index := Scalar.indexCast v775
  let c0_439 : Index := 0#32
  let c0_440 : Index := 0#32
  ![0, v776.toNat, 0, 0]
def k0_off177 (k0_t12 : Fin k0_t12_loop.trips) : Fin 4 → Nat :=
  let c1_442 : Index := 1#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_441 : BitVec 32 := 1#32
  let v780 : BitVec 32 := Scalar.addi v694 c1_i32_441
  let v781 : Index := Scalar.indexCast v780
  let c0_443 : Index := 0#32
  let c0_444 : Index := 0#32
  ![1, v781.toNat, 0, 0]
def k0_off178 (k0_t12 : Fin k0_t12_loop.trips) : Fin 4 → Nat :=
  let c2_446 : Index := 2#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_445 : BitVec 32 := 1#32
  let v785 : BitVec 32 := Scalar.addi v694 c1_i32_445
  let v786 : Index := Scalar.indexCast v785
  let c0_447 : Index := 0#32
  let c0_448 : Index := 0#32
  ![2, v786.toNat, 0, 0]
def k0_off179 (k0_t12 : Fin k0_t12_loop.trips) : Fin 4 → Nat :=
  let c3_450 : Index := 3#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_449 : BitVec 32 := 1#32
  let v790 : BitVec 32 := Scalar.addi v694 c1_i32_449
  let v791 : Index := Scalar.indexCast v790
  let c0_451 : Index := 0#32
  let c0_452 : Index := 0#32
  ![3, v791.toNat, 0, 0]
def k0_off180 (k0_t12 : Fin k0_t12_loop.trips) : Fin 4 → Nat :=
  let c4_454 : Index := 4#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_453 : BitVec 32 := 1#32
  let v795 : BitVec 32 := Scalar.addi v694 c1_i32_453
  let v796 : Index := Scalar.indexCast v795
  let c0_455 : Index := 0#32
  let c0_456 : Index := 0#32
  ![4, v796.toNat, 0, 0]
def k0_off181 (k0_t12 : Fin k0_t12_loop.trips) : Fin 4 → Nat :=
  let c5_458 : Index := 5#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_457 : BitVec 32 := 1#32
  let v800 : BitVec 32 := Scalar.addi v694 c1_i32_457
  let v801 : Index := Scalar.indexCast v800
  let c0_459 : Index := 0#32
  let c0_460 : Index := 0#32
  ![5, v801.toNat, 0, 0]
def k0_off182 (k0_t12 : Fin k0_t12_loop.trips) : Fin 4 → Nat :=
  let c6_462 : Index := 6#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_461 : BitVec 32 := 1#32
  let v805 : BitVec 32 := Scalar.addi v694 c1_i32_461
  let v806 : Index := Scalar.indexCast v805
  let c0_463 : Index := 0#32
  let c0_464 : Index := 0#32
  ![6, v806.toNat, 0, 0]
def k0_off183 (k0_t12 : Fin k0_t12_loop.trips) : Fin 4 → Nat :=
  let c7_466 : Index := 7#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_465 : BitVec 32 := 1#32
  let v810 : BitVec 32 := Scalar.addi v694 c1_i32_465
  let v811 : Index := Scalar.indexCast v810
  let c0_467 : Index := 0#32
  let c0_468 : Index := 0#32
  ![7, v811.toNat, 0, 0]
def k0_off184 (k0_t12 : Fin k0_t12_loop.trips) : Fin 4 → Nat :=
  let c8_470 : Index := 8#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_469 : BitVec 32 := 1#32
  let v815 : BitVec 32 := Scalar.addi v694 c1_i32_469
  let v816 : Index := Scalar.indexCast v815
  let c0_471 : Index := 0#32
  let c0_472 : Index := 0#32
  ![8, v816.toNat, 0, 0]
def k0_off185 (k0_t12 : Fin k0_t12_loop.trips) : Fin 4 → Nat :=
  let c9_474 : Index := 9#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_473 : BitVec 32 := 1#32
  let v820 : BitVec 32 := Scalar.addi v694 c1_i32_473
  let v821 : Index := Scalar.indexCast v820
  let c0_475 : Index := 0#32
  let c0_476 : Index := 0#32
  ![9, v821.toNat, 0, 0]
def k0_off186 (k0_t12 : Fin k0_t12_loop.trips) : Fin 4 → Nat :=
  let c10_478 : Index := 10#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_477 : BitVec 32 := 1#32
  let v825 : BitVec 32 := Scalar.addi v694 c1_i32_477
  let v826 : Index := Scalar.indexCast v825
  let c0_479 : Index := 0#32
  let c0_480 : Index := 0#32
  ![10, v826.toNat, 0, 0]
def k0_off187 (k0_t12 : Fin k0_t12_loop.trips) : Fin 4 → Nat :=
  let c11_482 : Index := 11#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_481 : BitVec 32 := 1#32
  let v830 : BitVec 32 := Scalar.addi v694 c1_i32_481
  let v831 : Index := Scalar.indexCast v830
  let c0_483 : Index := 0#32
  let c0_484 : Index := 0#32
  ![11, v831.toNat, 0, 0]
def k0_off188 (k0_t12 : Fin k0_t12_loop.trips) : Fin 4 → Nat :=
  let c12_486 : Index := 12#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_485 : BitVec 32 := 1#32
  let v835 : BitVec 32 := Scalar.addi v694 c1_i32_485
  let v836 : Index := Scalar.indexCast v835
  let c0_487 : Index := 0#32
  let c0_488 : Index := 0#32
  ![12, v836.toNat, 0, 0]
def k0_off189 (k0_t12 : Fin k0_t12_loop.trips) : Fin 4 → Nat :=
  let c13_490 : Index := 13#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_489 : BitVec 32 := 1#32
  let v840 : BitVec 32 := Scalar.addi v694 c1_i32_489
  let v841 : Index := Scalar.indexCast v840
  let c0_491 : Index := 0#32
  let c0_492 : Index := 0#32
  ![13, v841.toNat, 0, 0]
def k0_off190 (k0_t12 : Fin k0_t12_loop.trips) : Fin 4 → Nat :=
  let c14_494 : Index := 14#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_493 : BitVec 32 := 1#32
  let v845 : BitVec 32 := Scalar.addi v694 c1_i32_493
  let v846 : Index := Scalar.indexCast v845
  let c0_495 : Index := 0#32
  let c0_496 : Index := 0#32
  ![14, v846.toNat, 0, 0]
def k0_off191 (k0_t12 : Fin k0_t12_loop.trips) : Fin 4 → Nat :=
  let c15_498 : Index := 15#32
  let c2_i32_403 : BitVec 32 := 2#32
  let c0_i32_398 : BitVec 32 := 0#32
  let c1_i32_400 : BitVec 32 := 1#32
  let arg21 : BitVec 32 := Scf.iv c0_i32_398 c1_i32_400 k0_t12
  let v694 : BitVec 32 := Scalar.muli c2_i32_403 arg21
  let c1_i32_497 : BitVec 32 := 1#32
  let v850 : BitVec 32 := Scalar.addi v694 c1_i32_497
  let v851 : Index := Scalar.indexCast v850
  let c0_499 : Index := 0#32
  let c0_500 : Index := 0#32
  ![15, v851.toNat, 0, 0]
@[reducible] def k0_t13_loop : Scf.Loop 32 :=
  let c0_i32_383 : BitVec 32 := 0#32
  let c13_i32 : BitVec 32 := 13#32
  let v644 : BitVec 32 := Scalar.addi c0_i32_383 c13_i32
  let c1_i32_384 : BitVec 32 := 1#32
  ⟨c0_i32_383, v644, c1_i32_384⟩
@[reducible] def k0_t14_loop (i : grid0.Coords) : Scf.Loop 32 :=
  let c0_i32_393 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_5 : BitVec 32 := 1#32
  let v19 : BitVec 32 := Scalar.addi v18 c1_i32_5
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi v19 c2_i32_6
  let c0_i32_11 : BitVec 32 := 0#32
  let v33 : BitVec 1 := Scalar.cmpi .ne v32 c0_i32_11
  let v34 : BitVec 1 := Scalar.andi v31 v33
  let v20 : BitVec 32 := Scalar.divsi v19 c2_i32_6
  let c1_i32_12 : BitVec 32 := 1#32
  let v35 : BitVec 32 := Scalar.subi v20 c1_i32_12
  let v36 : BitVec 32 := Scalar.select v34 v35 v20
  let v656 : BitVec 32 := Scalar.subi v36 c0_i32_393
  let c1_i32_394 : BitVec 32 := 1#32
  let v658 : BitVec 32 := Scalar.divsi v656 c1_i32_394
  let v659 : BitVec 32 := Scalar.muli v658 c1_i32_394
  let v660 : BitVec 32 := Scalar.addi c0_i32_393 v659
  let c1_i32_395 : BitVec 32 := 1#32
  ⟨c0_i32_393, v660, c1_i32_395⟩
def k0_mult32 (i : grid0.Coords) (k0_t14 : Fin (k0_t14_loop i).trips) : BitVec 32 :=
  let c0_i32_393 : BitVec 32 := 0#32
  let c1_i32_395 : BitVec 32 := 1#32
  let arg23 : BitVec 32 := Scf.iv c0_i32_393 c1_i32_395 k0_t14
  let c512_i32 : BitVec 32 := 512#32
  let v667 : BitVec 32 := Scalar.muli arg23 c512_i32
  v667
def k0_off192 (i : grid0.Coords) (k0_t14 : Fin (k0_t14_loop i).trips) : Fin 2 → Nat :=
  let c0_i32_393 : BitVec 32 := 0#32
  let c1_i32_395 : BitVec 32 := 1#32
  let arg23 : BitVec 32 := Scf.iv c0_i32_393 c1_i32_395 k0_t14
  let c512_i32 : BitVec 32 := 512#32
  let v667 : BitVec 32 := Scalar.muli arg23 c512_i32
  let v668 : BitVec 32 := v667
  let v669 : Index := Scalar.indexCast v668
  let c0_398 : Index := 0#32
  ![v669.toNat, 0]
@[reducible] def k0_t15_loop (i : grid0.Coords) : Scf.Loop 32 :=
  let c0_i32_393 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_5 : BitVec 32 := 1#32
  let v19 : BitVec 32 := Scalar.addi v18 c1_i32_5
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi v19 c2_i32_6
  let c0_i32_11 : BitVec 32 := 0#32
  let v33 : BitVec 1 := Scalar.cmpi .ne v32 c0_i32_11
  let v34 : BitVec 1 := Scalar.andi v31 v33
  let v20 : BitVec 32 := Scalar.divsi v19 c2_i32_6
  let c1_i32_12 : BitVec 32 := 1#32
  let v35 : BitVec 32 := Scalar.subi v20 c1_i32_12
  let v36 : BitVec 32 := Scalar.select v34 v35 v20
  let v656 : BitVec 32 := Scalar.subi v36 c0_i32_393
  let c1_i32_394 : BitVec 32 := 1#32
  let v658 : BitVec 32 := Scalar.divsi v656 c1_i32_394
  let v659 : BitVec 32 := Scalar.muli v658 c1_i32_394
  let v660 : BitVec 32 := Scalar.addi c0_i32_393 v659
  let v657 : BitVec 32 := Scalar.addi c0_i32_393 v656
  let c1_i32_396 : BitVec 32 := 1#32
  ⟨v660, v657, c1_i32_396⟩
def k0_mult33 (i : grid0.Coords) (k0_t15 : Fin (k0_t15_loop i).trips) : BitVec 32 :=
  let c0_i32_393 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_5 : BitVec 32 := 1#32
  let v19 : BitVec 32 := Scalar.addi v18 c1_i32_5
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi v19 c2_i32_6
  let c0_i32_11 : BitVec 32 := 0#32
  let v33 : BitVec 1 := Scalar.cmpi .ne v32 c0_i32_11
  let v34 : BitVec 1 := Scalar.andi v31 v33
  let v20 : BitVec 32 := Scalar.divsi v19 c2_i32_6
  let c1_i32_12 : BitVec 32 := 1#32
  let v35 : BitVec 32 := Scalar.subi v20 c1_i32_12
  let v36 : BitVec 32 := Scalar.select v34 v35 v20
  let v656 : BitVec 32 := Scalar.subi v36 c0_i32_393
  let c1_i32_394 : BitVec 32 := 1#32
  let v658 : BitVec 32 := Scalar.divsi v656 c1_i32_394
  let v659 : BitVec 32 := Scalar.muli v658 c1_i32_394
  let v660 : BitVec 32 := Scalar.addi c0_i32_393 v659
  let c1_i32_396 : BitVec 32 := 1#32
  let arg23 : BitVec 32 := Scf.iv v660 c1_i32_396 k0_t15
  let c512_i32 : BitVec 32 := 512#32
  let v667 : BitVec 32 := Scalar.muli arg23 c512_i32
  v667
def k0_off193 (i : grid0.Coords) (k0_t15 : Fin (k0_t15_loop i).trips) : Fin 2 → Nat :=
  let c0_i32_393 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_5 : BitVec 32 := 1#32
  let v19 : BitVec 32 := Scalar.addi v18 c1_i32_5
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi v19 c2_i32_6
  let c0_i32_11 : BitVec 32 := 0#32
  let v33 : BitVec 1 := Scalar.cmpi .ne v32 c0_i32_11
  let v34 : BitVec 1 := Scalar.andi v31 v33
  let v20 : BitVec 32 := Scalar.divsi v19 c2_i32_6
  let c1_i32_12 : BitVec 32 := 1#32
  let v35 : BitVec 32 := Scalar.subi v20 c1_i32_12
  let v36 : BitVec 32 := Scalar.select v34 v35 v20
  let v656 : BitVec 32 := Scalar.subi v36 c0_i32_393
  let c1_i32_394 : BitVec 32 := 1#32
  let v658 : BitVec 32 := Scalar.divsi v656 c1_i32_394
  let v659 : BitVec 32 := Scalar.muli v658 c1_i32_394
  let v660 : BitVec 32 := Scalar.addi c0_i32_393 v659
  let c1_i32_396 : BitVec 32 := 1#32
  let arg23 : BitVec 32 := Scf.iv v660 c1_i32_396 k0_t15
  let c512_i32 : BitVec 32 := 512#32
  let v667 : BitVec 32 := Scalar.muli arg23 c512_i32
  let v668 : BitVec 32 := v667
  let v669 : Index := Scalar.indexCast v668
  let c0_398 : Index := 0#32
  ![v669.toNat, 0]
@[reducible] def k0_t16_loop (i : grid0.Coords) : Scf.Loop 32 :=
  let c0_i32_387 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v646 : BitVec 32 := Scalar.subi v18 c0_i32_387
  let c1_i32_388 : BitVec 32 := 1#32
  let v648 : BitVec 32 := Scalar.divsi v646 c1_i32_388
  let v649 : BitVec 32 := Scalar.muli v648 c1_i32_388
  let v650 : BitVec 32 := Scalar.addi c0_i32_387 v649
  let c1_i32_389 : BitVec 32 := 1#32
  ⟨c0_i32_387, v650, c1_i32_389⟩
def k0_mult34 (i : grid0.Coords) (k0_t16 : Fin (k0_t16_loop i).trips) : BitVec 32 :=
  let c0_i32_387 : BitVec 32 := 0#32
  let c1_i32_389 : BitVec 32 := 1#32
  let arg21 : BitVec 32 := Scf.iv c0_i32_387 c1_i32_389 k0_t16
  let c256_i32_391 : BitVec 32 := 256#32
  let v651 : BitVec 32 := Scalar.muli arg21 c256_i32_391
  v651
def k0_off194 (i : grid0.Coords) (k0_t16 : Fin (k0_t16_loop i).trips) : Fin 2 → Nat :=
  let c0_i32_387 : BitVec 32 := 0#32
  let c1_i32_389 : BitVec 32 := 1#32
  let arg21 : BitVec 32 := Scf.iv c0_i32_387 c1_i32_389 k0_t16
  let c256_i32_391 : BitVec 32 := 256#32
  let v651 : BitVec 32 := Scalar.muli arg21 c256_i32_391
  let v652 : BitVec 32 := v651
  let v653 : Index := Scalar.indexCast v652
  let c0_392 : Index := 0#32
  ![v653.toNat, 0]
@[reducible] def k0_t17_loop (i : grid0.Coords) : Scf.Loop 32 :=
  let c0_i32_387 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v646 : BitVec 32 := Scalar.subi v18 c0_i32_387
  let c1_i32_388 : BitVec 32 := 1#32
  let v648 : BitVec 32 := Scalar.divsi v646 c1_i32_388
  let v649 : BitVec 32 := Scalar.muli v648 c1_i32_388
  let v650 : BitVec 32 := Scalar.addi c0_i32_387 v649
  let v647 : BitVec 32 := Scalar.addi c0_i32_387 v646
  let c1_i32_390 : BitVec 32 := 1#32
  ⟨v650, v647, c1_i32_390⟩
def k0_mult35 (i : grid0.Coords) (k0_t17 : Fin (k0_t17_loop i).trips) : BitVec 32 :=
  let c0_i32_387 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v646 : BitVec 32 := Scalar.subi v18 c0_i32_387
  let c1_i32_388 : BitVec 32 := 1#32
  let v648 : BitVec 32 := Scalar.divsi v646 c1_i32_388
  let v649 : BitVec 32 := Scalar.muli v648 c1_i32_388
  let v650 : BitVec 32 := Scalar.addi c0_i32_387 v649
  let c1_i32_390 : BitVec 32 := 1#32
  let arg21 : BitVec 32 := Scf.iv v650 c1_i32_390 k0_t17
  let c256_i32_391 : BitVec 32 := 256#32
  let v651 : BitVec 32 := Scalar.muli arg21 c256_i32_391
  v651
def k0_off195 (i : grid0.Coords) (k0_t17 : Fin (k0_t17_loop i).trips) : Fin 2 → Nat :=
  let c0_i32_387 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let v646 : BitVec 32 := Scalar.subi v18 c0_i32_387
  let c1_i32_388 : BitVec 32 := 1#32
  let v648 : BitVec 32 := Scalar.divsi v646 c1_i32_388
  let v649 : BitVec 32 := Scalar.muli v648 c1_i32_388
  let v650 : BitVec 32 := Scalar.addi c0_i32_387 v649
  let c1_i32_390 : BitVec 32 := 1#32
  let arg21 : BitVec 32 := Scf.iv v650 c1_i32_390 k0_t17
  let c256_i32_391 : BitVec 32 := 256#32
  let v651 : BitVec 32 := Scalar.muli arg21 c256_i32_391
  let v652 : BitVec 32 := v651
  let v653 : Index := Scalar.indexCast v652
  let c0_392 : Index := 0#32
  ![v653.toNat, 0]
def k0_mult36 : BitVec 32 :=
  let c0_i32_197 : BitVec 32 := 0#32
  c0_i32_197
def k0_mult37 (i : grid0.Coords) : BitVec 32 :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  v375
def k0_off196 : Fin 2 → Nat :=
  let c0_i32_197 : BitVec 32 := 0#32
  let v371 : BitVec 32 := c0_i32_197
  let c0_i32_200 : BitVec 32 := 0#32
  let v377 : BitVec 32 := Scalar.addi v371 c0_i32_200
  let v378 : Index := Scalar.indexCast v377
  let c0_201 : Index := 0#32
  ![v378.toNat, 0]
def k0_off197 : Fin 3 → Nat :=
  let c0_204 : Index := 0#32
  let c0_i32_197 : BitVec 32 := 0#32
  let v371 : BitVec 32 := c0_i32_197
  let c0_i32_200 : BitVec 32 := 0#32
  let v377 : BitVec 32 := Scalar.addi v371 c0_i32_200
  let v386 : Index := Scalar.indexCast v377
  let c0_205 : Index := 0#32
  ![0, v386.toNat, 0]
def k0_off198 (i : grid0.Coords) : Fin 2 → Nat :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  let v376 : BitVec 32 := v375
  let c0_i32_209 : BitVec 32 := 0#32
  let v392 : BitVec 32 := Scalar.addi v376 c0_i32_209
  let v393 : Index := Scalar.indexCast v392
  let c0_210 : Index := 0#32
  ![v393.toNat, 0]
def k0_off199 (i : grid0.Coords) : Fin 2 → Nat :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  let v376 : BitVec 32 := v375
  let c0_i32_220 : BitVec 32 := 0#32
  let v408 : BitVec 32 := Scalar.addi v376 c0_i32_220
  let v409 : Index := Scalar.indexCast v408
  let c256_221 : Index := 256#32
  ![v409.toNat, 256]
def k0_off200 (i : grid0.Coords) : Fin 2 → Nat :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  let v376 : BitVec 32 := v375
  let c0_i32_231 : BitVec 32 := 0#32
  let v424 : BitVec 32 := Scalar.addi v376 c0_i32_231
  let v425 : Index := Scalar.indexCast v424
  let c512_232 : Index := 512#32
  ![v425.toNat, 512]
def k0_off201 (i : grid0.Coords) : Fin 2 → Nat :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  let v376 : BitVec 32 := v375
  let c0_i32_242 : BitVec 32 := 0#32
  let v440 : BitVec 32 := Scalar.addi v376 c0_i32_242
  let v441 : Index := Scalar.indexCast v440
  let c768_243 : Index := 768#32
  ![v441.toNat, 768]
def k0_off202 (i : grid0.Coords) : Fin 2 → Nat :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  let v376 : BitVec 32 := v375
  let c0_i32_253 : BitVec 32 := 0#32
  let v456 : BitVec 32 := Scalar.addi v376 c0_i32_253
  let v457 : Index := Scalar.indexCast v456
  let c1024_254 : Index := 1024#32
  ![v457.toNat, 1024]
def k0_off203 (i : grid0.Coords) : Fin 2 → Nat :=
  let c1792_i32_199 : BitVec 32 := 1792#32
  let c0_i32_198 : BitVec 32 := 0#32
  let c0_i32_197 : BitVec 32 := 0#32
  let v371 : BitVec 32 := c0_i32_197
  let arg1 : BitVec 32 := BitVec.ofNat 32 (i 1).val
  let c128_i32 : BitVec 32 := 128#32
  let v0 : BitVec 32 := Scalar.muli arg1 c128_i32
  let v372 : BitVec 32 := Scalar.subi v371 v0
  let c1792_i32 : BitVec 32 := 1792#32
  let v373 : BitVec 32 := Scalar.addi v372 c1792_i32
  let v374 : BitVec 32 := Scalar.maxsi c0_i32_198 v373
  let v375 : BitVec 32 := Scalar.minsi c1792_i32_199 v374
  let v376 : BitVec 32 := v375
  let c0_i32_264 : BitVec 32 := 0#32
  let v472 : BitVec 32 := Scalar.addi v376 c0_i32_264
  let v473 : Index := Scalar.indexCast v472
  let c1280_265 : Index := 1280#32
  ![v473.toNat, 1280]
@[reducible] def k0_t18_loop (i : grid0.Coords) : Scf.Loop 32 :=
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_290 : BitVec 32 := 1#32
  ⟨c0_i32_288, v525, c1_i32_290⟩
def k0_mult38 (i : grid0.Coords) (k0_t18 : Fin (k0_t18_loop i).trips) : BitVec 32 :=
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c0_i32_384 : BitVec 32 := 0#32
  let v644 : BitVec 32 := Scalar.addi v643 c0_i32_384
  let c1_i32_385 : BitVec 32 := 1#32
  let v645 : BitVec 32 := Scalar.addi v644 c1_i32_385
  let c256_i32_386 : BitVec 32 := 256#32
  let v646 : BitVec 32 := Scalar.muli v645 c256_i32_386
  v646
def k0_mult39 (i : grid0.Coords) (k0_t18 : Fin (k0_t18_loop i).trips) : BitVec 32 :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c0_i32_384 : BitVec 32 := 0#32
  let v644 : BitVec 32 := Scalar.addi v643 c0_i32_384
  let c1_i32_385 : BitVec 32 := 1#32
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  v651
def k0_off204 (i : grid0.Coords) (k0_t18 : Fin (k0_t18_loop i).trips) (c0_i32_384 : BitVec 32) (c1_i32_385 : BitVec 32) : Fin 2 → Nat :=
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c0_i32_390 : BitVec 32 := 0#32
  let v653 : BitVec 32 := Scalar.addi v647 c0_i32_390
  let v654 : Index := Scalar.indexCast v653
  let c0_391 : Index := 0#32
  ![v654.toNat, 0]
def k0_off205 (i : grid0.Coords) (k0_t18 : Fin (k0_t18_loop i).trips) (c0_i32_384 : BitVec 32) (c1_i32_385 : BitVec 32) : Fin 3 → Nat :=
  let c0_394 : Index := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c0_i32_390 : BitVec 32 := 0#32
  let v653 : BitVec 32 := Scalar.addi v647 c0_i32_390
  let v662 : Index := Scalar.indexCast v653
  let c0_395 : Index := 0#32
  ![0, v662.toNat, 0]
def k0_off206 (i : grid0.Coords) (k0_t18 : Fin (k0_t18_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_399 : BitVec 32 := 0#32
  let v668 : BitVec 32 := Scalar.addi v652 c0_i32_399
  let v669 : Index := Scalar.indexCast v668
  let c0_400 : Index := 0#32
  ![v669.toNat, 0]
def k0_off207 (i : grid0.Coords) (k0_t18 : Fin (k0_t18_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_410 : BitVec 32 := 0#32
  let v684 : BitVec 32 := Scalar.addi v652 c0_i32_410
  let v685 : Index := Scalar.indexCast v684
  let c256_411 : Index := 256#32
  ![v685.toNat, 256]
def k0_off208 (i : grid0.Coords) (k0_t18 : Fin (k0_t18_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_421 : BitVec 32 := 0#32
  let v700 : BitVec 32 := Scalar.addi v652 c0_i32_421
  let v701 : Index := Scalar.indexCast v700
  let c512_422 : Index := 512#32
  ![v701.toNat, 512]
def k0_off209 (i : grid0.Coords) (k0_t18 : Fin (k0_t18_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_432 : BitVec 32 := 0#32
  let v716 : BitVec 32 := Scalar.addi v652 c0_i32_432
  let v717 : Index := Scalar.indexCast v716
  let c768_433 : Index := 768#32
  ![v717.toNat, 768]
def k0_off210 (i : grid0.Coords) (k0_t18 : Fin (k0_t18_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_443 : BitVec 32 := 0#32
  let v732 : BitVec 32 := Scalar.addi v652 c0_i32_443
  let v733 : Index := Scalar.indexCast v732
  let c1024_444 : Index := 1024#32
  ![v733.toNat, 1024]
def k0_off211 (i : grid0.Coords) (k0_t18 : Fin (k0_t18_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let arg1 : BitVec 32 := BitVec.ofNat 32 (i 1).val
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_454 : BitVec 32 := 0#32
  let v748 : BitVec 32 := Scalar.addi v652 c0_i32_454
  let v749 : Index := Scalar.indexCast v748
  let c1280_455 : Index := 1280#32
  ![v749.toNat, 1280]
def k0_off212 (i : grid0.Coords) (k0_t18 : Fin (k0_t18_loop i).trips) (c0_i32_462 : BitVec 32) : Fin 4 → Nat :=
  let c0_463 : Index := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v762 : BitVec 32 := Scalar.addi v643 c0_i32_462
  let v763 : Index := Scalar.indexCast v762
  let c0_464 : Index := 0#32
  let c0_465 : Index := 0#32
  ![0, v763.toNat, 0, 0]
def k0_mult40 (i : grid0.Coords) (k0_t18 : Fin (k0_t18_loop i).trips) : BitVec 32 :=
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c0_i32_544 : BitVec 32 := 0#32
  let v892 : BitVec 32 := Scalar.addi v643 c0_i32_544
  let c2_i32_545 : BitVec 32 := 2#32
  let v893 : BitVec 32 := Scalar.addi v892 c2_i32_545
  let c256_i32_546 : BitVec 32 := 256#32
  let v894 : BitVec 32 := Scalar.muli v893 c256_i32_546
  v894
def k0_mult41 (i : grid0.Coords) (k0_t18 : Fin (k0_t18_loop i).trips) : BitVec 32 :=
  let c1792_i32_549 : BitVec 32 := 1792#32
  let c0_i32_548 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c0_i32_544 : BitVec 32 := 0#32
  let v892 : BitVec 32 := Scalar.addi v643 c0_i32_544
  let c2_i32_545 : BitVec 32 := 2#32
  let v893 : BitVec 32 := Scalar.addi v892 c2_i32_545
  let c256_i32_546 : BitVec 32 := 256#32
  let v894 : BitVec 32 := Scalar.muli v893 c256_i32_546
  let v895 : BitVec 32 := v894
  let arg1 : BitVec 32 := BitVec.ofNat 32 (i 1).val
  let c128_i32 : BitVec 32 := 128#32
  let v0 : BitVec 32 := Scalar.muli arg1 c128_i32
  let v896 : BitVec 32 := Scalar.subi v895 v0
  let c1792_i32_547 : BitVec 32 := 1792#32
  let v897 : BitVec 32 := Scalar.addi v896 c1792_i32_547
  let v898 : BitVec 32 := Scalar.maxsi c0_i32_548 v897
  let v899 : BitVec 32 := Scalar.minsi c1792_i32_549 v898
  v899
def k0_off213 (i : grid0.Coords) (k0_t18 : Fin (k0_t18_loop i).trips) (c0_i32_622 : BitVec 32) : Fin 4 → Nat :=
  let c0_624 : Index := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let v1010 : BitVec 32 := Scalar.addi v643 c0_i32_622
  let c1_i32_623 : BitVec 32 := 1#32
  let v1011 : BitVec 32 := Scalar.addi v1010 c1_i32_623
  let v1012 : Index := Scalar.indexCast v1011
  let c0_625 : Index := 0#32
  let c0_626 : Index := 0#32
  ![0, v1012.toNat, 0, 0]
def k0_mult42 (i : grid0.Coords) (k0_t18 : Fin (k0_t18_loop i).trips) : BitVec 32 :=
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c2_i32_705 : BitVec 32 := 2#32
  let v1141 : BitVec 32 := Scalar.addi v643 c2_i32_705
  let c1_i32_706 : BitVec 32 := 1#32
  let v1142 : BitVec 32 := Scalar.addi v1141 c1_i32_706
  let c256_i32_707 : BitVec 32 := 256#32
  let v1143 : BitVec 32 := Scalar.muli v1142 c256_i32_707
  v1143
def k0_mult43 (i : grid0.Coords) (k0_t18 : Fin (k0_t18_loop i).trips) : BitVec 32 :=
  let c1792_i32_710 : BitVec 32 := 1792#32
  let c0_i32_709 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c2_i32_705 : BitVec 32 := 2#32
  let v1141 : BitVec 32 := Scalar.addi v643 c2_i32_705
  let c1_i32_706 : BitVec 32 := 1#32
  let v1142 : BitVec 32 := Scalar.addi v1141 c1_i32_706
  let c256_i32_707 : BitVec 32 := 256#32
  let v1143 : BitVec 32 := Scalar.muli v1142 c256_i32_707
  let v1144 : BitVec 32 := v1143
  let arg1 : BitVec 32 := BitVec.ofNat 32 (i 1).val
  let c128_i32 : BitVec 32 := 128#32
  let v0 : BitVec 32 := Scalar.muli arg1 c128_i32
  let v1145 : BitVec 32 := Scalar.subi v1144 v0
  let c1792_i32_708 : BitVec 32 := 1792#32
  let v1146 : BitVec 32 := Scalar.addi v1145 c1792_i32_708
  let v1147 : BitVec 32 := Scalar.maxsi c0_i32_709 v1146
  let v1148 : BitVec 32 := Scalar.minsi c1792_i32_710 v1147
  v1148
def k0_mult44 (i : grid0.Coords) (k0_t18 : Fin (k0_t18_loop i).trips) : BitVec 32 :=
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c2_i32_865 : BitVec 32 := 2#32
  let v1389 : BitVec 32 := Scalar.addi v643 c2_i32_865
  let c2_i32_866 : BitVec 32 := 2#32
  let v1390 : BitVec 32 := Scalar.addi v1389 c2_i32_866
  let c256_i32_867 : BitVec 32 := 256#32
  let v1391 : BitVec 32 := Scalar.muli v1390 c256_i32_867
  v1391
def k0_mult45 (i : grid0.Coords) (k0_t18 : Fin (k0_t18_loop i).trips) : BitVec 32 :=
  let c1792_i32_870 : BitVec 32 := 1792#32
  let c0_i32_869 : BitVec 32 := 0#32
  let c0_i32_383 : BitVec 32 := 0#32
  let c4_i32_382 : BitVec 32 := 4#32
  let c0_i32_288 : BitVec 32 := 0#32
  let c1_i32_290 : BitVec 32 := 1#32
  let arg21 : BitVec 32 := Scf.iv c0_i32_288 c1_i32_290 k0_t18
  let v642 : BitVec 32 := Scalar.muli c4_i32_382 arg21
  let v643 : BitVec 32 := Scalar.addi c0_i32_383 v642
  let c2_i32_865 : BitVec 32 := 2#32
  let v1389 : BitVec 32 := Scalar.addi v643 c2_i32_865
  let c2_i32_866 : BitVec 32 := 2#32
  let v1390 : BitVec 32 := Scalar.addi v1389 c2_i32_866
  let c256_i32_867 : BitVec 32 := 256#32
  let v1391 : BitVec 32 := Scalar.muli v1390 c256_i32_867
  let v1392 : BitVec 32 := v1391
  let arg1 : BitVec 32 := BitVec.ofNat 32 (i 1).val
  let c128_i32 : BitVec 32 := 128#32
  let v0 : BitVec 32 := Scalar.muli arg1 c128_i32
  let v1393 : BitVec 32 := Scalar.subi v1392 v0
  let c1792_i32_868 : BitVec 32 := 1792#32
  let v1394 : BitVec 32 := Scalar.addi v1393 c1792_i32_868
  let v1395 : BitVec 32 := Scalar.maxsi c0_i32_869 v1394
  let v1396 : BitVec 32 := Scalar.minsi c1792_i32_870 v1395
  v1396
@[reducible] def k0_t19_loop (i : grid0.Coords) : Scf.Loop 32 :=
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let v522 : BitVec 32 := Scalar.addi c0_i32_288 v521
  let c1_i32_291 : BitVec 32 := 1#32
  ⟨v525, v522, c1_i32_291⟩
def k0_mult46 (i : grid0.Coords) (k0_t19 : Fin (k0_t19_loop i).trips) : BitVec 32 :=
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c0_i32_384 : BitVec 32 := 0#32
  let v644 : BitVec 32 := Scalar.addi v643 c0_i32_384
  let c1_i32_385 : BitVec 32 := 1#32
  let v645 : BitVec 32 := Scalar.addi v644 c1_i32_385
  let c256_i32_386 : BitVec 32 := 256#32
  let v646 : BitVec 32 := Scalar.muli v645 c256_i32_386
  v646
def k0_mult47 (i : grid0.Coords) (k0_t19 : Fin (k0_t19_loop i).trips) : BitVec 32 :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c0_i32_384 : BitVec 32 := 0#32
  let v644 : BitVec 32 := Scalar.addi v643 c0_i32_384
  let c1_i32_385 : BitVec 32 := 1#32
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  v651
def k0_off214 (i : grid0.Coords) (k0_t19 : Fin (k0_t19_loop i).trips) (c0_i32_384 : BitVec 32) (c1_i32_385 : BitVec 32) : Fin 2 → Nat :=
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c0_i32_390 : BitVec 32 := 0#32
  let v653 : BitVec 32 := Scalar.addi v647 c0_i32_390
  let v654 : Index := Scalar.indexCast v653
  let c0_391 : Index := 0#32
  ![v654.toNat, 0]
def k0_off215 (i : grid0.Coords) (k0_t19 : Fin (k0_t19_loop i).trips) (c0_i32_384 : BitVec 32) (c1_i32_385 : BitVec 32) : Fin 3 → Nat :=
  let c0_394 : Index := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c0_i32_390 : BitVec 32 := 0#32
  let v653 : BitVec 32 := Scalar.addi v647 c0_i32_390
  let v662 : Index := Scalar.indexCast v653
  let c0_395 : Index := 0#32
  ![0, v662.toNat, 0]
def k0_off216 (i : grid0.Coords) (k0_t19 : Fin (k0_t19_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_399 : BitVec 32 := 0#32
  let v668 : BitVec 32 := Scalar.addi v652 c0_i32_399
  let v669 : Index := Scalar.indexCast v668
  let c0_400 : Index := 0#32
  ![v669.toNat, 0]
def k0_off217 (i : grid0.Coords) (k0_t19 : Fin (k0_t19_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_410 : BitVec 32 := 0#32
  let v684 : BitVec 32 := Scalar.addi v652 c0_i32_410
  let v685 : Index := Scalar.indexCast v684
  let c256_411 : Index := 256#32
  ![v685.toNat, 256]
def k0_off218 (i : grid0.Coords) (k0_t19 : Fin (k0_t19_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_421 : BitVec 32 := 0#32
  let v700 : BitVec 32 := Scalar.addi v652 c0_i32_421
  let v701 : Index := Scalar.indexCast v700
  let c512_422 : Index := 512#32
  ![v701.toNat, 512]
def k0_off219 (i : grid0.Coords) (k0_t19 : Fin (k0_t19_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_432 : BitVec 32 := 0#32
  let v716 : BitVec 32 := Scalar.addi v652 c0_i32_432
  let v717 : Index := Scalar.indexCast v716
  let c768_433 : Index := 768#32
  ![v717.toNat, 768]
def k0_off220 (i : grid0.Coords) (k0_t19 : Fin (k0_t19_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_443 : BitVec 32 := 0#32
  let v732 : BitVec 32 := Scalar.addi v652 c0_i32_443
  let v733 : Index := Scalar.indexCast v732
  let c1024_444 : Index := 1024#32
  ![v733.toNat, 1024]
def k0_off221 (i : grid0.Coords) (k0_t19 : Fin (k0_t19_loop i).trips) (c0_i32_384 : BitVec 32) (c1_i32_385 : BitVec 32) : Fin 2 → Nat :=
  let c1792_i32_389 : BitVec 32 := 1792#32
  let c0_i32_388 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v644 : BitVec 32 := Scalar.addi v643 c0_i32_384
  let v645 : BitVec 32 := Scalar.addi v644 c1_i32_385
  let c256_i32_386 : BitVec 32 := 256#32
  let v646 : BitVec 32 := Scalar.muli v645 c256_i32_386
  let v647 : BitVec 32 := v646
  let c128_i32 : BitVec 32 := 128#32
  let v0 : BitVec 32 := Scalar.muli arg1 c128_i32
  let v648 : BitVec 32 := Scalar.subi v647 v0
  let c1792_i32_387 : BitVec 32 := 1792#32
  let v649 : BitVec 32 := Scalar.addi v648 c1792_i32_387
  let v650 : BitVec 32 := Scalar.maxsi c0_i32_388 v649
  let v651 : BitVec 32 := Scalar.minsi c1792_i32_389 v650
  let v652 : BitVec 32 := v651
  let c0_i32_454 : BitVec 32 := 0#32
  let v748 : BitVec 32 := Scalar.addi v652 c0_i32_454
  let v749 : Index := Scalar.indexCast v748
  let c1280_455 : Index := 1280#32
  ![v749.toNat, 1280]
def k0_off222 (i : grid0.Coords) (k0_t19 : Fin (k0_t19_loop i).trips) (c0_i32_462 : BitVec 32) : Fin 4 → Nat :=
  let c0_463 : Index := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v762 : BitVec 32 := Scalar.addi v643 c0_i32_462
  let v763 : Index := Scalar.indexCast v762
  let c0_464 : Index := 0#32
  let c0_465 : Index := 0#32
  ![0, v763.toNat, 0, 0]
def k0_mult48 (i : grid0.Coords) (k0_t19 : Fin (k0_t19_loop i).trips) : BitVec 32 :=
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c0_i32_544 : BitVec 32 := 0#32
  let v892 : BitVec 32 := Scalar.addi v643 c0_i32_544
  let c2_i32_545 : BitVec 32 := 2#32
  let v893 : BitVec 32 := Scalar.addi v892 c2_i32_545
  let c256_i32_546 : BitVec 32 := 256#32
  let v894 : BitVec 32 := Scalar.muli v893 c256_i32_546
  v894
def k0_mult49 (i : grid0.Coords) (k0_t19 : Fin (k0_t19_loop i).trips) : BitVec 32 :=
  let c1792_i32_549 : BitVec 32 := 1792#32
  let c0_i32_548 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c0_i32_544 : BitVec 32 := 0#32
  let v892 : BitVec 32 := Scalar.addi v643 c0_i32_544
  let c2_i32_545 : BitVec 32 := 2#32
  let v893 : BitVec 32 := Scalar.addi v892 c2_i32_545
  let c256_i32_546 : BitVec 32 := 256#32
  let v894 : BitVec 32 := Scalar.muli v893 c256_i32_546
  let v895 : BitVec 32 := v894
  let c128_i32 : BitVec 32 := 128#32
  let v0 : BitVec 32 := Scalar.muli arg1 c128_i32
  let v896 : BitVec 32 := Scalar.subi v895 v0
  let c1792_i32_547 : BitVec 32 := 1792#32
  let v897 : BitVec 32 := Scalar.addi v896 c1792_i32_547
  let v898 : BitVec 32 := Scalar.maxsi c0_i32_548 v897
  let v899 : BitVec 32 := Scalar.minsi c1792_i32_549 v898
  v899
def k0_off223 (i : grid0.Coords) (k0_t19 : Fin (k0_t19_loop i).trips) (c0_i32_622 : BitVec 32) : Fin 4 → Nat :=
  let c0_624 : Index := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let v1010 : BitVec 32 := Scalar.addi v643 c0_i32_622
  let c1_i32_623 : BitVec 32 := 1#32
  let v1011 : BitVec 32 := Scalar.addi v1010 c1_i32_623
  let v1012 : Index := Scalar.indexCast v1011
  let c0_625 : Index := 0#32
  let c0_626 : Index := 0#32
  ![0, v1012.toNat, 0, 0]
def k0_mult50 (i : grid0.Coords) (k0_t19 : Fin (k0_t19_loop i).trips) : BitVec 32 :=
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c2_i32_705 : BitVec 32 := 2#32
  let v1141 : BitVec 32 := Scalar.addi v643 c2_i32_705
  let c1_i32_706 : BitVec 32 := 1#32
  let v1142 : BitVec 32 := Scalar.addi v1141 c1_i32_706
  let c256_i32_707 : BitVec 32 := 256#32
  let v1143 : BitVec 32 := Scalar.muli v1142 c256_i32_707
  v1143
def k0_mult51 (i : grid0.Coords) (k0_t19 : Fin (k0_t19_loop i).trips) : BitVec 32 :=
  let c1792_i32_710 : BitVec 32 := 1792#32
  let c0_i32_709 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c2_i32_705 : BitVec 32 := 2#32
  let v1141 : BitVec 32 := Scalar.addi v643 c2_i32_705
  let c1_i32_706 : BitVec 32 := 1#32
  let v1142 : BitVec 32 := Scalar.addi v1141 c1_i32_706
  let c256_i32_707 : BitVec 32 := 256#32
  let v1143 : BitVec 32 := Scalar.muli v1142 c256_i32_707
  let v1144 : BitVec 32 := v1143
  let c128_i32 : BitVec 32 := 128#32
  let v0 : BitVec 32 := Scalar.muli arg1 c128_i32
  let v1145 : BitVec 32 := Scalar.subi v1144 v0
  let c1792_i32_708 : BitVec 32 := 1792#32
  let v1146 : BitVec 32 := Scalar.addi v1145 c1792_i32_708
  let v1147 : BitVec 32 := Scalar.maxsi c0_i32_709 v1146
  let v1148 : BitVec 32 := Scalar.minsi c1792_i32_710 v1147
  v1148
def k0_mult52 (i : grid0.Coords) (k0_t19 : Fin (k0_t19_loop i).trips) : BitVec 32 :=
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c2_i32_865 : BitVec 32 := 2#32
  let v1389 : BitVec 32 := Scalar.addi v643 c2_i32_865
  let c2_i32_866 : BitVec 32 := 2#32
  let v1390 : BitVec 32 := Scalar.addi v1389 c2_i32_866
  let c256_i32_867 : BitVec 32 := 256#32
  let v1391 : BitVec 32 := Scalar.muli v1390 c256_i32_867
  v1391
def k0_mult53 (i : grid0.Coords) (k0_t19 : Fin (k0_t19_loop i).trips) : BitVec 32 :=
  let c1792_i32_870 : BitVec 32 := 1792#32
  let c0_i32_869 : BitVec 32 := 0#32
  let c0_i32_383 : BitVec 32 := 0#32
  let c4_i32_382 : BitVec 32 := 4#32
  let c0_i32_288 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_281 : BitVec 32 := 0#32
  let v505 : BitVec 1 := Scalar.cmpi .sgt v503 c0_i32_281
  let v506 : BitVec 32 := Scalar.extui v505
  let c0_i32_282 : BitVec 32 := 0#32
  let v507 : BitVec 1 := Scalar.cmpi .slt v503 c0_i32_282
  let v508 : BitVec 32 := Scalar.extui v507
  let v509 : BitVec 32 := Scalar.subi v506 v508
  let c2_i32_280 : BitVec 32 := 2#32
  let c0_i32_283 : BitVec 32 := 0#32
  let v510 : BitVec 1 := Scalar.cmpi .sgt c2_i32_280 c0_i32_283
  let v511 : BitVec 32 := Scalar.extui v510
  let c0_i32_284 : BitVec 32 := 0#32
  let v512 : BitVec 1 := Scalar.cmpi .slt c2_i32_280 c0_i32_284
  let v513 : BitVec 32 := Scalar.extui v512
  let v514 : BitVec 32 := Scalar.subi v511 v513
  let v515 : BitVec 1 := Scalar.cmpi .ne v509 v514
  let v516 : BitVec 32 := Scalar.remsi v503 c2_i32_280
  let c0_i32_285 : BitVec 32 := 0#32
  let v517 : BitVec 1 := Scalar.cmpi .ne v516 c0_i32_285
  let v518 : BitVec 1 := Scalar.andi v515 v517
  let v504 : BitVec 32 := Scalar.divsi v503 c2_i32_280
  let c1_i32_286 : BitVec 32 := 1#32
  let v519 : BitVec 32 := Scalar.subi v504 c1_i32_286
  let v520 : BitVec 32 := Scalar.select v518 v519 v504
  let v521 : BitVec 32 := Scalar.subi v520 c0_i32_288
  let c1_i32_289 : BitVec 32 := 1#32
  let v523 : BitVec 32 := Scalar.divsi v521 c1_i32_289
  let v524 : BitVec 32 := Scalar.muli v523 c1_i32_289
  let v525 : BitVec 32 := Scalar.addi c0_i32_288 v524
  let c1_i32_291 : BitVec 32 := 1#32
  let arg21 : BitVec 32 := Scf.iv v525 c1_i32_291 k0_t19
  let v642 : BitVec 32 := Scalar.muli c4_i32_382 arg21
  let v643 : BitVec 32 := Scalar.addi c0_i32_383 v642
  let c2_i32_865 : BitVec 32 := 2#32
  let v1389 : BitVec 32 := Scalar.addi v643 c2_i32_865
  let c2_i32_866 : BitVec 32 := 2#32
  let v1390 : BitVec 32 := Scalar.addi v1389 c2_i32_866
  let c256_i32_867 : BitVec 32 := 256#32
  let v1391 : BitVec 32 := Scalar.muli v1390 c256_i32_867
  let v1392 : BitVec 32 := v1391
  let c128_i32 : BitVec 32 := 128#32
  let v0 : BitVec 32 := Scalar.muli arg1 c128_i32
  let v1393 : BitVec 32 := Scalar.subi v1392 v0
  let c1792_i32_868 : BitVec 32 := 1792#32
  let v1394 : BitVec 32 := Scalar.addi v1393 c1792_i32_868
  let v1395 : BitVec 32 := Scalar.maxsi c0_i32_869 v1394
  let v1396 : BitVec 32 := Scalar.minsi c1792_i32_870 v1395
  v1396
@[reducible] def k0_t20_loop (i : grid0.Coords) : Scf.Loop 32 :=
  let c0_i32_307 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_309 : BitVec 32 := 1#32
  ⟨c0_i32_307, v558, c1_i32_309⟩
def k0_mult54 (i : grid0.Coords) (k0_t20 : Fin (k0_t20_loop i).trips) : BitVec 32 :=
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let c1_i32_384 : BitVec 32 := 1#32
  let v645 : BitVec 32 := Scalar.addi v644 c1_i32_384
  let c256_i32_385 : BitVec 32 := 256#32
  let v646 : BitVec 32 := Scalar.muli v645 c256_i32_385
  v646
def k0_mult55 (i : grid0.Coords) (k0_t20 : Fin (k0_t20_loop i).trips) : BitVec 32 :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let c1_i32_384 : BitVec 32 := 1#32
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  v651
def k0_off224 (i : grid0.Coords) (k0_t20 : Fin (k0_t20_loop i).trips) (c1_i32_384 : BitVec 32) : Fin 2 → Nat :=
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c0_i32_389 : BitVec 32 := 0#32
  let v653 : BitVec 32 := Scalar.addi v647 c0_i32_389
  let v654 : Index := Scalar.indexCast v653
  let c0_390 : Index := 0#32
  ![v654.toNat, 0]
def k0_off225 (i : grid0.Coords) (k0_t20 : Fin (k0_t20_loop i).trips) (c1_i32_384 : BitVec 32) : Fin 3 → Nat :=
  let c0_393 : Index := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c0_i32_389 : BitVec 32 := 0#32
  let v653 : BitVec 32 := Scalar.addi v647 c0_i32_389
  let v662 : Index := Scalar.indexCast v653
  let c0_394 : Index := 0#32
  ![0, v662.toNat, 0]
def k0_off226 (i : grid0.Coords) (k0_t20 : Fin (k0_t20_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_398 : BitVec 32 := 0#32
  let v668 : BitVec 32 := Scalar.addi v652 c0_i32_398
  let v669 : Index := Scalar.indexCast v668
  let c0_399 : Index := 0#32
  ![v669.toNat, 0]
def k0_off227 (i : grid0.Coords) (k0_t20 : Fin (k0_t20_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_409 : BitVec 32 := 0#32
  let v684 : BitVec 32 := Scalar.addi v652 c0_i32_409
  let v685 : Index := Scalar.indexCast v684
  let c256_410 : Index := 256#32
  ![v685.toNat, 256]
def k0_off228 (i : grid0.Coords) (k0_t20 : Fin (k0_t20_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_420 : BitVec 32 := 0#32
  let v700 : BitVec 32 := Scalar.addi v652 c0_i32_420
  let v701 : Index := Scalar.indexCast v700
  let c512_421 : Index := 512#32
  ![v701.toNat, 512]
def k0_off229 (i : grid0.Coords) (k0_t20 : Fin (k0_t20_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_431 : BitVec 32 := 0#32
  let v716 : BitVec 32 := Scalar.addi v652 c0_i32_431
  let v717 : Index := Scalar.indexCast v716
  let c768_432 : Index := 768#32
  ![v717.toNat, 768]
def k0_off230 (i : grid0.Coords) (k0_t20 : Fin (k0_t20_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_442 : BitVec 32 := 0#32
  let v732 : BitVec 32 := Scalar.addi v652 c0_i32_442
  let v733 : Index := Scalar.indexCast v732
  let c1024_443 : Index := 1024#32
  ![v733.toNat, 1024]
def k0_off231 (i : grid0.Coords) (k0_t20 : Fin (k0_t20_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_453 : BitVec 32 := 0#32
  let v748 : BitVec 32 := Scalar.addi v652 c0_i32_453
  let v749 : Index := Scalar.indexCast v748
  let c1280_454 : Index := 1280#32
  ![v749.toNat, 1280]
def k0_off232 (i : grid0.Coords) (k0_t20 : Fin (k0_t20_loop i).trips) : Fin 4 → Nat :=
  let c0_462 : Index := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_461 : BitVec 32 := 0#32
  let v762 : BitVec 32 := Scalar.addi v643 c0_i32_461
  let v763 : Index := Scalar.indexCast v762
  let c0_463 : Index := 0#32
  let c0_464 : Index := 0#32
  ![0, v763.toNat, 0, 0]
def k0_mult56 (i : grid0.Coords) (k0_t20 : Fin (k0_t20_loop i).trips) : BitVec 32 :=
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_543 : BitVec 32 := 0#32
  let v892 : BitVec 32 := Scalar.addi v643 c0_i32_543
  let c2_i32_544 : BitVec 32 := 2#32
  let v893 : BitVec 32 := Scalar.addi v892 c2_i32_544
  let c256_i32_545 : BitVec 32 := 256#32
  let v894 : BitVec 32 := Scalar.muli v893 c256_i32_545
  v894
def k0_mult57 (i : grid0.Coords) (k0_t20 : Fin (k0_t20_loop i).trips) : BitVec 32 :=
  let c1792_i32_548 : BitVec 32 := 1792#32
  let c0_i32_547 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_543 : BitVec 32 := 0#32
  let v892 : BitVec 32 := Scalar.addi v643 c0_i32_543
  let c2_i32_544 : BitVec 32 := 2#32
  let v893 : BitVec 32 := Scalar.addi v892 c2_i32_544
  let c256_i32_545 : BitVec 32 := 256#32
  let v894 : BitVec 32 := Scalar.muli v893 c256_i32_545
  let v895 : BitVec 32 := v894
  let c128_i32 : BitVec 32 := 128#32
  let v0 : BitVec 32 := Scalar.muli arg1 c128_i32
  let v896 : BitVec 32 := Scalar.subi v895 v0
  let c1792_i32_546 : BitVec 32 := 1792#32
  let v897 : BitVec 32 := Scalar.addi v896 c1792_i32_546
  let v898 : BitVec 32 := Scalar.maxsi c0_i32_547 v897
  let v899 : BitVec 32 := Scalar.minsi c1792_i32_548 v898
  v899
def k0_off233 (i : grid0.Coords) (k0_t20 : Fin (k0_t20_loop i).trips) : Fin 4 → Nat :=
  let c0_623 : Index := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c1_i32_309 : BitVec 32 := 1#32
  let arg21 : BitVec 32 := Scf.iv c0_i32_307 c1_i32_309 k0_t20
  let v642 : BitVec 32 := Scalar.muli c2_i32_382 arg21
  let v643 : BitVec 32 := Scalar.addi v543 v642
  let c0_i32_621 : BitVec 32 := 0#32
  let v1010 : BitVec 32 := Scalar.addi v643 c0_i32_621
  let c1_i32_622 : BitVec 32 := 1#32
  let v1011 : BitVec 32 := Scalar.addi v1010 c1_i32_622
  let v1012 : Index := Scalar.indexCast v1011
  let c0_624 : Index := 0#32
  let c0_625 : Index := 0#32
  ![0, v1012.toNat, 0, 0]
@[reducible] def k0_t21_loop (i : grid0.Coords) : Scf.Loop 32 :=
  let c0_i32_307 : BitVec 32 := 0#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let v555 : BitVec 32 := Scalar.addi c0_i32_307 v554
  let c1_i32_310 : BitVec 32 := 1#32
  ⟨v558, v555, c1_i32_310⟩
def k0_mult58 (i : grid0.Coords) (k0_t21 : Fin (k0_t21_loop i).trips) : BitVec 32 :=
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let c1_i32_384 : BitVec 32 := 1#32
  let v645 : BitVec 32 := Scalar.addi v644 c1_i32_384
  let c256_i32_385 : BitVec 32 := 256#32
  let v646 : BitVec 32 := Scalar.muli v645 c256_i32_385
  v646
def k0_mult59 (i : grid0.Coords) (k0_t21 : Fin (k0_t21_loop i).trips) : BitVec 32 :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let c1_i32_384 : BitVec 32 := 1#32
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  v651
def k0_off234 (i : grid0.Coords) (k0_t21 : Fin (k0_t21_loop i).trips) (c1_i32_384 : BitVec 32) : Fin 2 → Nat :=
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c0_i32_389 : BitVec 32 := 0#32
  let v653 : BitVec 32 := Scalar.addi v647 c0_i32_389
  let v654 : Index := Scalar.indexCast v653
  let c0_390 : Index := 0#32
  ![v654.toNat, 0]
def k0_off235 (i : grid0.Coords) (k0_t21 : Fin (k0_t21_loop i).trips) (c1_i32_384 : BitVec 32) : Fin 3 → Nat :=
  let c0_393 : Index := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c0_i32_389 : BitVec 32 := 0#32
  let v653 : BitVec 32 := Scalar.addi v647 c0_i32_389
  let v662 : Index := Scalar.indexCast v653
  let c0_394 : Index := 0#32
  ![0, v662.toNat, 0]
def k0_off236 (i : grid0.Coords) (k0_t21 : Fin (k0_t21_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_398 : BitVec 32 := 0#32
  let v668 : BitVec 32 := Scalar.addi v652 c0_i32_398
  let v669 : Index := Scalar.indexCast v668
  let c0_399 : Index := 0#32
  ![v669.toNat, 0]
def k0_off237 (i : grid0.Coords) (k0_t21 : Fin (k0_t21_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_409 : BitVec 32 := 0#32
  let v684 : BitVec 32 := Scalar.addi v652 c0_i32_409
  let v685 : Index := Scalar.indexCast v684
  let c256_410 : Index := 256#32
  ![v685.toNat, 256]
def k0_off238 (i : grid0.Coords) (k0_t21 : Fin (k0_t21_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_420 : BitVec 32 := 0#32
  let v700 : BitVec 32 := Scalar.addi v652 c0_i32_420
  let v701 : Index := Scalar.indexCast v700
  let c512_421 : Index := 512#32
  ![v701.toNat, 512]
def k0_off239 (i : grid0.Coords) (k0_t21 : Fin (k0_t21_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_431 : BitVec 32 := 0#32
  let v716 : BitVec 32 := Scalar.addi v652 c0_i32_431
  let v717 : Index := Scalar.indexCast v716
  let c768_432 : Index := 768#32
  ![v717.toNat, 768]
def k0_off240 (i : grid0.Coords) (k0_t21 : Fin (k0_t21_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_442 : BitVec 32 := 0#32
  let v732 : BitVec 32 := Scalar.addi v652 c0_i32_442
  let v733 : Index := Scalar.indexCast v732
  let c1024_443 : Index := 1024#32
  ![v733.toNat, 1024]
def k0_off241 (i : grid0.Coords) (k0_t21 : Fin (k0_t21_loop i).trips) (c1_i32_384 : BitVec 32) : Fin 2 → Nat :=
  let c1792_i32_388 : BitVec 32 := 1792#32
  let c0_i32_387 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_383 : BitVec 32 := 0#32
  let v644 : BitVec 32 := Scalar.addi v643 c0_i32_383
  let v645 : BitVec 32 := Scalar.addi v644 c1_i32_384
  let c256_i32_385 : BitVec 32 := 256#32
  let v646 : BitVec 32 := Scalar.muli v645 c256_i32_385
  let v647 : BitVec 32 := v646
  let c128_i32 : BitVec 32 := 128#32
  let v0 : BitVec 32 := Scalar.muli arg1 c128_i32
  let v648 : BitVec 32 := Scalar.subi v647 v0
  let c1792_i32_386 : BitVec 32 := 1792#32
  let v649 : BitVec 32 := Scalar.addi v648 c1792_i32_386
  let v650 : BitVec 32 := Scalar.maxsi c0_i32_387 v649
  let v651 : BitVec 32 := Scalar.minsi c1792_i32_388 v650
  let v652 : BitVec 32 := v651
  let c0_i32_453 : BitVec 32 := 0#32
  let v748 : BitVec 32 := Scalar.addi v652 c0_i32_453
  let v749 : Index := Scalar.indexCast v748
  let c1280_454 : Index := 1280#32
  ![v749.toNat, 1280]
def k0_off242 (i : grid0.Coords) (k0_t21 : Fin (k0_t21_loop i).trips) : Fin 4 → Nat :=
  let c0_462 : Index := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_461 : BitVec 32 := 0#32
  let v762 : BitVec 32 := Scalar.addi v643 c0_i32_461
  let v763 : Index := Scalar.indexCast v762
  let c0_463 : Index := 0#32
  let c0_464 : Index := 0#32
  ![0, v763.toNat, 0, 0]
def k0_mult60 (i : grid0.Coords) (k0_t21 : Fin (k0_t21_loop i).trips) : BitVec 32 :=
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_543 : BitVec 32 := 0#32
  let v892 : BitVec 32 := Scalar.addi v643 c0_i32_543
  let c2_i32_544 : BitVec 32 := 2#32
  let v893 : BitVec 32 := Scalar.addi v892 c2_i32_544
  let c256_i32_545 : BitVec 32 := 256#32
  let v894 : BitVec 32 := Scalar.muli v893 c256_i32_545
  v894
def k0_mult61 (i : grid0.Coords) (k0_t21 : Fin (k0_t21_loop i).trips) : BitVec 32 :=
  let c1792_i32_548 : BitVec 32 := 1792#32
  let c0_i32_547 : BitVec 32 := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_543 : BitVec 32 := 0#32
  let v892 : BitVec 32 := Scalar.addi v643 c0_i32_543
  let c2_i32_544 : BitVec 32 := 2#32
  let v893 : BitVec 32 := Scalar.addi v892 c2_i32_544
  let c256_i32_545 : BitVec 32 := 256#32
  let v894 : BitVec 32 := Scalar.muli v893 c256_i32_545
  let v895 : BitVec 32 := v894
  let c128_i32 : BitVec 32 := 128#32
  let v0 : BitVec 32 := Scalar.muli arg1 c128_i32
  let v896 : BitVec 32 := Scalar.subi v895 v0
  let c1792_i32_546 : BitVec 32 := 1792#32
  let v897 : BitVec 32 := Scalar.addi v896 c1792_i32_546
  let v898 : BitVec 32 := Scalar.maxsi c0_i32_547 v897
  let v899 : BitVec 32 := Scalar.minsi c1792_i32_548 v898
  v899
def k0_off243 (i : grid0.Coords) (k0_t21 : Fin (k0_t21_loop i).trips) : Fin 4 → Nat :=
  let c0_623 : Index := 0#32
  let c4_i32_299 : BitVec 32 := 4#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let c0_i32_293 : BitVec 32 := 0#32
  let v527 : BitVec 1 := Scalar.cmpi .sgt v503 c0_i32_293
  let v528 : BitVec 32 := Scalar.extui v527
  let c0_i32_294 : BitVec 32 := 0#32
  let v529 : BitVec 1 := Scalar.cmpi .slt v503 c0_i32_294
  let v530 : BitVec 32 := Scalar.extui v529
  let v531 : BitVec 32 := Scalar.subi v528 v530
  let c2_i32_292 : BitVec 32 := 2#32
  let c0_i32_295 : BitVec 32 := 0#32
  let v532 : BitVec 1 := Scalar.cmpi .sgt c2_i32_292 c0_i32_295
  let v533 : BitVec 32 := Scalar.extui v532
  let c0_i32_296 : BitVec 32 := 0#32
  let v534 : BitVec 1 := Scalar.cmpi .slt c2_i32_292 c0_i32_296
  let v535 : BitVec 32 := Scalar.extui v534
  let v536 : BitVec 32 := Scalar.subi v533 v535
  let v537 : BitVec 1 := Scalar.cmpi .ne v531 v536
  let v538 : BitVec 32 := Scalar.remsi v503 c2_i32_292
  let c0_i32_297 : BitVec 32 := 0#32
  let v539 : BitVec 1 := Scalar.cmpi .ne v538 c0_i32_297
  let v540 : BitVec 1 := Scalar.andi v537 v539
  let v526 : BitVec 32 := Scalar.divsi v503 c2_i32_292
  let c1_i32_298 : BitVec 32 := 1#32
  let v541 : BitVec 32 := Scalar.subi v526 c1_i32_298
  let v542 : BitVec 32 := Scalar.select v540 v541 v526
  let v543 : BitVec 32 := Scalar.muli c4_i32_299 v542
  let c2_i32_382 : BitVec 32 := 2#32
  let c0_i32_307 : BitVec 32 := 0#32
  let c2_i32_300 : BitVec 32 := 2#32
  let c0_i32_301 : BitVec 32 := 0#32
  let v544 : BitVec 1 := Scalar.cmpi .eq c2_i32_300 c0_i32_301
  let c1_i32_302 : BitVec 32 := 1#32
  let v545 : BitVec 32 := Scalar.select v544 c1_i32_302 c2_i32_300
  let v546 : BitVec 32 := Scalar.remsi v503 v545
  let c0_i32_304 : BitVec 32 := 0#32
  let v548 : BitVec 1 := Scalar.cmpi .slt v546 c0_i32_304
  let c0_i32_305 : BitVec 32 := 0#32
  let v549 : BitVec 1 := Scalar.cmpi .slt v545 c0_i32_305
  let v550 : BitVec 1 := Scalar.xori v548 v549
  let c0_i32_303 : BitVec 32 := 0#32
  let v547 : BitVec 1 := Scalar.cmpi .ne v546 c0_i32_303
  let v551 : BitVec 1 := Scalar.andi v550 v547
  let v552 : BitVec 32 := Scalar.addi v546 v545
  let v553 : BitVec 32 := Scalar.select v551 v552 v546
  let v554 : BitVec 32 := Scalar.subi v553 c0_i32_307
  let c1_i32_308 : BitVec 32 := 1#32
  let v556 : BitVec 32 := Scalar.divsi v554 c1_i32_308
  let v557 : BitVec 32 := Scalar.muli v556 c1_i32_308
  let v558 : BitVec 32 := Scalar.addi c0_i32_307 v557
  let c1_i32_310 : BitVec 32 := 1#32
  let arg21 : BitVec 32 := Scf.iv v558 c1_i32_310 k0_t21
  let v642 : BitVec 32 := Scalar.muli c2_i32_382 arg21
  let v643 : BitVec 32 := Scalar.addi v543 v642
  let c0_i32_621 : BitVec 32 := 0#32
  let v1010 : BitVec 32 := Scalar.addi v643 c0_i32_621
  let c1_i32_622 : BitVec 32 := 1#32
  let v1011 : BitVec 32 := Scalar.addi v1010 c1_i32_622
  let v1012 : Index := Scalar.indexCast v1011
  let c0_624 : Index := 0#32
  let c0_625 : Index := 0#32
  ![0, v1012.toNat, 0, 0]
def k0_cond4 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_312 : BitVec 32 := 2#32
  let c0_i32_313 : BitVec 32 := 0#32
  let v560 : BitVec 1 := Scalar.cmpi .eq c2_i32_312 c0_i32_313
  let c1_i32_314 : BitVec 32 := 1#32
  let v561 : BitVec 32 := Scalar.select v560 c1_i32_314 c2_i32_312
  let v562 : BitVec 32 := Scalar.remsi v18 v561
  let c0_i32_316 : BitVec 32 := 0#32
  let v564 : BitVec 1 := Scalar.cmpi .slt v562 c0_i32_316
  let c0_i32_317 : BitVec 32 := 0#32
  let v565 : BitVec 1 := Scalar.cmpi .slt v561 c0_i32_317
  let v566 : BitVec 1 := Scalar.xori v564 v565
  let c0_i32_315 : BitVec 32 := 0#32
  let v563 : BitVec 1 := Scalar.cmpi .ne v562 c0_i32_315
  let v567 : BitVec 1 := Scalar.andi v566 v563
  let v568 : BitVec 32 := Scalar.addi v562 v561
  let v569 : BitVec 32 := Scalar.select v567 v568 v562
  let c1_i32_318 : BitVec 32 := 1#32
  let v570 : BitVec 1 := Scalar.cmpi .eq v569 c1_i32_318
  let v571 : BitVec 32 := Scalar.extui v570
  let c0_i32_319 : BitVec 32 := 0#32
  let v572 : BitVec 1 := Scalar.cmpi .ne v571 c0_i32_319
  v572

def k0_off244 (i : grid0.Coords) : Fin 4 → Nat :=
  let c0_382 : Index := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let v642 : Index := Scalar.indexCast v559
  let c0_383 : Index := 0#32
  let c0_384 : Index := 0#32
  ![0, v642.toNat, 0, 0]
def k0_cond5 (i : grid0.Coords) : BitVec 1 :=
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c2_i32_320 : BitVec 32 := 2#32
  let c0_i32_321 : BitVec 32 := 0#32
  let v573 : BitVec 1 := Scalar.cmpi .eq c2_i32_320 c0_i32_321
  let c1_i32_322 : BitVec 32 := 1#32
  let v574 : BitVec 32 := Scalar.select v573 c1_i32_322 c2_i32_320
  let v575 : BitVec 32 := Scalar.remsi v18 v574
  let c0_i32_324 : BitVec 32 := 0#32
  let v577 : BitVec 1 := Scalar.cmpi .slt v575 c0_i32_324
  let c0_i32_325 : BitVec 32 := 0#32
  let v578 : BitVec 1 := Scalar.cmpi .slt v574 c0_i32_325
  let v579 : BitVec 1 := Scalar.xori v577 v578
  let c0_i32_323 : BitVec 32 := 0#32
  let v576 : BitVec 1 := Scalar.cmpi .ne v575 c0_i32_323
  let v580 : BitVec 1 := Scalar.andi v579 v576
  let v581 : BitVec 32 := Scalar.addi v575 v574
  let v582 : BitVec 32 := Scalar.select v580 v581 v575
  let c0_i32_326 : BitVec 32 := 0#32
  let v583 : BitVec 1 := Scalar.cmpi .eq v582 c0_i32_326
  let v584 : BitVec 32 := Scalar.extui v583
  let c0_i32_327 : BitVec 32 := 0#32
  let v585 : BitVec 1 := Scalar.cmpi .ne v584 c0_i32_327
  v585

def k0_mult62 (i : grid0.Coords) : BitVec 32 :=
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  v643
def k0_mult63 (i : grid0.Coords) : BitVec 32 :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  v648
def k0_off245 (i : grid0.Coords) : Fin 2 → Nat :=
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c0_i32_387 : BitVec 32 := 0#32
  let v650 : BitVec 32 := Scalar.addi v644 c0_i32_387
  let v651 : Index := Scalar.indexCast v650
  let c0_388 : Index := 0#32
  ![v651.toNat, 0]
def k0_off246 (i : grid0.Coords) : Fin 3 → Nat :=
  let c0_391 : Index := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c0_i32_387 : BitVec 32 := 0#32
  let v650 : BitVec 32 := Scalar.addi v644 c0_i32_387
  let v659 : Index := Scalar.indexCast v650
  let c0_392 : Index := 0#32
  ![0, v659.toNat, 0]
def k0_off247 (i : grid0.Coords) : Fin 2 → Nat :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  let v649 : BitVec 32 := v648
  let c0_i32_396 : BitVec 32 := 0#32
  let v665 : BitVec 32 := Scalar.addi v649 c0_i32_396
  let v666 : Index := Scalar.indexCast v665
  let c0_397 : Index := 0#32
  ![v666.toNat, 0]
def k0_off248 (i : grid0.Coords) : Fin 2 → Nat :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  let v649 : BitVec 32 := v648
  let c0_i32_407 : BitVec 32 := 0#32
  let v681 : BitVec 32 := Scalar.addi v649 c0_i32_407
  let v682 : Index := Scalar.indexCast v681
  let c256_408 : Index := 256#32
  ![v682.toNat, 256]
def k0_off249 (i : grid0.Coords) : Fin 2 → Nat :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  let v649 : BitVec 32 := v648
  let c0_i32_418 : BitVec 32 := 0#32
  let v697 : BitVec 32 := Scalar.addi v649 c0_i32_418
  let v698 : Index := Scalar.indexCast v697
  let c512_419 : Index := 512#32
  ![v698.toNat, 512]
def k0_off250 (i : grid0.Coords) : Fin 2 → Nat :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  let v649 : BitVec 32 := v648
  let c0_i32_429 : BitVec 32 := 0#32
  let v713 : BitVec 32 := Scalar.addi v649 c0_i32_429
  let v714 : Index := Scalar.indexCast v713
  let c768_430 : Index := 768#32
  ![v714.toNat, 768]
def k0_off251 (i : grid0.Coords) : Fin 2 → Nat :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  let v649 : BitVec 32 := v648
  let c0_i32_440 : BitVec 32 := 0#32
  let v729 : BitVec 32 := Scalar.addi v649 c0_i32_440
  let v730 : Index := Scalar.indexCast v729
  let c1024_441 : Index := 1024#32
  ![v730.toNat, 1024]
def k0_off252 (i : grid0.Coords) : Fin 2 → Nat :=
  let c1792_i32_386 : BitVec 32 := 1792#32
  let c0_i32_385 : BitVec 32 := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_382 : BitVec 32 := 1#32
  let v642 : BitVec 32 := Scalar.addi v559 c1_i32_382
  let c256_i32_383 : BitVec 32 := 256#32
  let v643 : BitVec 32 := Scalar.muli v642 c256_i32_383
  let v644 : BitVec 32 := v643
  let c128_i32 : BitVec 32 := 128#32
  let v0 : BitVec 32 := Scalar.muli arg1 c128_i32
  let v645 : BitVec 32 := Scalar.subi v644 v0
  let c1792_i32_384 : BitVec 32 := 1792#32
  let v646 : BitVec 32 := Scalar.addi v645 c1792_i32_384
  let v647 : BitVec 32 := Scalar.maxsi c0_i32_385 v646
  let v648 : BitVec 32 := Scalar.minsi c1792_i32_386 v647
  let v649 : BitVec 32 := v648
  let c0_i32_451 : BitVec 32 := 0#32
  let v745 : BitVec 32 := Scalar.addi v649 c0_i32_451
  let v746 : Index := Scalar.indexCast v745
  let c1280_452 : Index := 1280#32
  ![v746.toNat, 1280]
def k0_off253 (i : grid0.Coords) : Fin 4 → Nat :=
  let c0_459 : Index := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let v759 : Index := Scalar.indexCast v559
  let c0_460 : Index := 0#32
  let c0_461 : Index := 0#32
  ![0, v759.toNat, 0, 0]
def k0_off254 (i : grid0.Coords) : Fin 4 → Nat :=
  let c0_541 : Index := 0#32
  let c2_i32_311 : BitVec 32 := 2#32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi v17 c1_i32_4
  let c1_i32_272 : BitVec 32 := 1#32
  let v486 : BitVec 32 := Scalar.subi v18 c1_i32_272
  let c0_i32_274 : BitVec 32 := 0#32
  let v488 : BitVec 1 := Scalar.cmpi .sgt v486 c0_i32_274
  let v489 : BitVec 32 := Scalar.extui v488
  let c0_i32_275 : BitVec 32 := 0#32
  let v490 : BitVec 1 := Scalar.cmpi .slt v486 c0_i32_275
  let v491 : BitVec 32 := Scalar.extui v490
  let v492 : BitVec 32 := Scalar.subi v489 v491
  let c2_i32_273 : BitVec 32 := 2#32
  let c0_i32_276 : BitVec 32 := 0#32
  let v493 : BitVec 1 := Scalar.cmpi .sgt c2_i32_273 c0_i32_276
  let v494 : BitVec 32 := Scalar.extui v493
  let c0_i32_277 : BitVec 32 := 0#32
  let v495 : BitVec 1 := Scalar.cmpi .slt c2_i32_273 c0_i32_277
  let v496 : BitVec 32 := Scalar.extui v495
  let v497 : BitVec 32 := Scalar.subi v494 v496
  let v498 : BitVec 1 := Scalar.cmpi .ne v492 v497
  let v499 : BitVec 32 := Scalar.remsi v486 c2_i32_273
  let c0_i32_278 : BitVec 32 := 0#32
  let v500 : BitVec 1 := Scalar.cmpi .ne v499 c0_i32_278
  let v501 : BitVec 1 := Scalar.andi v498 v500
  let v487 : BitVec 32 := Scalar.divsi v486 c2_i32_273
  let c1_i32_279 : BitVec 32 := 1#32
  let v502 : BitVec 32 := Scalar.subi v487 c1_i32_279
  let v503 : BitVec 32 := Scalar.select v501 v502 v487
  let v559 : BitVec 32 := Scalar.muli c2_i32_311 v503
  let c1_i32_540 : BitVec 32 := 1#32
  let v888 : BitVec 32 := Scalar.addi v559 c1_i32_540
  let v889 : Index := Scalar.indexCast v888
  let c0_542 : Index := 0#32
  let c0_543 : Index := 0#32
  ![0, v889.toNat, 0, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c37_i32 : BitVec 32 := 37#32
  let c0_i32 : BitVec 32 := 0#32
  ![arg0.toNat, arg1.toNat, c37_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c18_i32 : BitVec 32 := 18#32
  let c0_i32_0 : BitVec 32 := 0#32
  ![arg0.toNat, c0_i32.toNat, c18_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c36_i32 : BitVec 32 := 36#32
  let c0_i32_0 : BitVec 32 := 0#32
  ![arg0.toNat, c0_i32.toNat, c36_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x80x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Ffn.lean ====
abbrev S8x4096x1024 : Shape := ⟨3, ![8, 4096, 1024]⟩
abbrev S8x4096x256 : Shape := ⟨3, ![8, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S32768x1024 : Shape := ⟨2, ![32768, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 19
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S32768x1024, .f32⟩
  | .hbm, ⟨10, _⟩ => ⟨S32768x256, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1024x1024, .bf16⟩
  | .hbm, ⟨17, _⟩ => ⟨S256x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S8x4096x1024 : Shape := ⟨3, ![8, 4096, 1024]⟩
abbrev S8x4096x256 : Shape := ⟨3, ![8, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Gate.lean ====
abbrev S8x4096x1024 : Shape := ⟨3, ![8, 4096, 1024]⟩
abbrev S1024 : Shape := ⟨1, ![1024]⟩
abbrev S1024x3072 : Shape := ⟨2, ![1024, 3072]⟩
abbrev S3072 : Shape := ⟨1, ![3072]⟩
abbrev S32768x1024 : Shape := ⟨2, ![32768, 1024]⟩
abbrev S1x1024 : Shape := ⟨2, ![1, 1024]⟩
abbrev S1x3072 : Shape := ⟨2, ![1, 3072]⟩
abbrev S32768x3072 : Shape := ⟨2, ![32768, 3072]⟩
abbrev S1024x1024 : Shape := ⟨2, ![1024, 1024]⟩
abbrev S1024x1 : Shape := ⟨2, ![1024, 1]⟩
abbrev S1024x512 : Shape := ⟨2, ![1024, 512]⟩
abbrev S1x512 : Shape := ⟨2, ![1, 512]⟩

abbrev nBuf : Space → Nat
  | .hbm => 9
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S32768x1024, .f32⟩
  | .hbm, ⟨5, _⟩ => ⟨S1x1024, .f32⟩
  | .hbm, ⟨6, _⟩ => ⟨S1024x3072, .bf16⟩
  | .hbm, ⟨7, _⟩ => ⟨S1x3072, .f32⟩
  | .hbm, ⟨8, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S1024x3072, .bf16⟩
  | .local _ .vmem, ⟨6, _⟩ => ⟨S1024x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S8x4096x1024 : Shape := ⟨3, ![8, 4096, 1024]⟩
abbrev S1024 : Shape := ⟨1, ![1024]⟩
abbrev S1024x3072 : Shape := ⟨2, ![1024, 3072]⟩
abbrev S3072 : Shape := ⟨1, ![3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S1x1x3072 : Shape := ⟨3, ![1, 1, 3072]⟩
abbrev S32768x3072 : Shape := ⟨2, ![32768, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x3072, .f32⟩
  | .hbm, ⟨21, _⟩ => ⟨S1x1x3072, .f32⟩
  | .hbm, ⟨22, _⟩ => ⟨S8x4096x3072, .f32⟩
  | .hbm, ⟨23, _⟩ => ⟨S8x4096x3072, .f32⟩
  | .hbm, ⟨24, _⟩ => ⟨S8x4096x3072, .f32⟩
  | .hbm, ⟨25, _⟩ => ⟨S8x4096x3072, .f32⟩
  | .hbm, ⟨26, _⟩ => ⟨S_, .f32⟩
  | .hbm, ⟨27, _⟩ => ⟨S8x4096x3072, .f32⟩
  | .hbm, ⟨28, _⟩ => ⟨S8x4096x3072, .f32⟩
  | .hbm, ⟨29, _⟩ => ⟨S_, .f32⟩
  | .hbm, ⟨30, _⟩ => ⟨S8x4096x3072, .f32⟩
  | .hbm, ⟨31, _⟩ => ⟨S8x4096x3072, .f32⟩
  | .hbm, ⟨32, _⟩ => ⟨S32768x3072, .f32⟩
  | .hbm, ⟨33, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Plain.lean ====
abbrev S8x4096x1024 : Shape := ⟨3, ![8, 4096, 1024]⟩
abbrev S1024 : Shape := ⟨1, ![1024]⟩
abbrev S1024x6872 : Shape := ⟨2, ![1024, 6872]⟩
abbrev S1024x768 : Shape := ⟨2, ![1024, 768]⟩
abbrev S1024x512 : Shape := ⟨2, ![1024, 512]⟩
abbrev S1024x1024 : Shape := ⟨2, ![1024, 1024]⟩
abbrev S1024x16 : Shape := ⟨2, ![1024, 16]⟩
abbrev S1024x64 : Shape := ⟨2, ![1024, 64]⟩
abbrev S1024x8 : Shape := ⟨2, ![1024, 8]⟩
abbrev S_ : Shape := ⟨0, ![]⟩
abbrev S1024x128 : Shape := ⟨2, ![1024, 128]⟩
abbrev S1024x4864 : Shape := ⟨2, ![1024, 4864]⟩
abbrev S1024x5120 : Shape := ⟨2, ![1024, 5120]⟩
abbrev S1x5120 : Shape := ⟨2, ![1, 5120]⟩
abbrev S32768x1024 : Shape := ⟨2, ![32768, 1024]⟩
abbrev S1x1024 : Shape := ⟨2, ![1, 1024]⟩
abbrev S32768x5120 : Shape := ⟨2, ![32768, 5120]⟩
abbrev S8192x1024 : Shape := ⟨2, ![8192, 1024]⟩
abbrev S2048x4096 : Shape := ⟨2, ![2048, 4096]⟩
abbrev S256x1024 : Shape := ⟨2, ![256, 1024]⟩
abbrev S64x4096 : Shape := ⟨2, ![64, 4096]⟩
abbrev S2x1024x128 : Shape := ⟨3, ![2, 1024, 128]⟩
abbrev S1024x1 : Shape := ⟨2, ![1024, 1]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 41
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6872, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x512, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x16, .f32⟩
  | .hbm, ⟨11, _⟩ => ⟨S1024x768, .f32⟩
  | .hbm, ⟨12, _⟩ => ⟨S1024x64, .f32⟩
  | .hbm, ⟨13, _⟩ => ⟨S1024x64, .f32⟩
  | .hbm, ⟨14, _⟩ => ⟨S1024x512, .f32⟩
  | .hbm, ⟨15, _⟩ => ⟨S1024x64, .f32⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x4864, .f32⟩
  | .hbm, ⟨30, _⟩ => ⟨S_, .i32⟩
  | .hbm, ⟨31, _⟩ => ⟨S_, .f32⟩
  | .hbm, ⟨32, _⟩ => ⟨S1024x5120, .f32⟩
  | .hbm, ⟨33, _⟩ => ⟨S1024x5120, .bf16⟩
  | .hbm, ⟨34, _⟩ => ⟨S_, .f32⟩
  | .hbm, ⟨35, _⟩ => ⟨S1x5120, .f32⟩
  | .hbm, ⟨36, _⟩ => ⟨S32768x1024, .f32⟩
  | .hbm, ⟨37, _⟩ => ⟨S1x1024, .f32⟩
  | .hbm, ⟨38, _⟩ => ⟨S32768x5120, .bf16⟩
  | .hbm, ⟨39, _⟩ => ⟨S8192x1024, .bf16⟩
  | .hbm, ⟨40, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5120, .bf16⟩
  | .local _ .vmem, ⟨4, _⟩ => ⟨S1x5120, .f32⟩
  | .local _ .vmem, ⟨5, _⟩ => ⟨S1024x5120, .bf16⟩
  | .local _ .vmem, ⟨6, _⟩ => ⟨S1024x5120, .bf16⟩
  | .local _ .vmem, ⟨7, _⟩ => ⟨S256x1024, .bf16⟩
  | .local _ .vmem, ⟨8, _⟩ => ⟨S256x1024, .bf16⟩
  | .local _ .vmem, ⟨9, _⟩ => ⟨S64x4096, .bf16⟩
  | .local _ .vmem, ⟨10, _⟩ => ⟨S64x4096, .bf16⟩
  | .local _ .vmem, ⟨11, _⟩ => ⟨S2x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_c_2 : Ref sig .tc := ⟨.hbm, 26, rfl⟩
abbrev main_call3_v0 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call4_v0 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PlainReferenceIdeal.lean ====
abbrev S8x4096x1024 : Shape := ⟨3, ![8, 4096, 1024]⟩
abbrev S1024 : Shape := ⟨1, ![1024]⟩
abbrev S1024x6872 : Shape := ⟨2, ![1024, 6872]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6872 : Shape := ⟨3, ![8, 4096, 6872]⟩
abbrev S8x4096x768 : Shape := ⟨3, ![8, 4096, 768]⟩
abbrev S8x4096x512 : Shape := ⟨3, ![8, 4096, 512]⟩
abbrev S8x4096x16 : Shape := ⟨3, ![8, 4096, 16]⟩
abbrev S8x4096x64 : Shape := ⟨3, ![8, 4096, 64]⟩
abbrev S8x4096x8 : Shape := ⟨3, ![8, 4096, 8]⟩
abbrev S8x4096x128 : Shape := ⟨3, ![8, 4096, 128]⟩
abbrev S8x4096x384 : Shape := ⟨3, ![8, 4096, 384]⟩
abbrev S8x4096x5120 : Shape := ⟨3, ![8, 4096, 5120]⟩
abbrev S32768x5120 : Shape := ⟨2, ![32768, 5120]⟩
abbrev S8x4096x256 : Shape := ⟨3, ![8, 4096, 256]⟩
abbrev S8192x1024 : Shape := ⟨2, ![8192, 1024]⟩
abbrev S2048x4096 : Shape := ⟨2, ![2048, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6872, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x6872, .f32⟩
  | .hbm, ⟨20, _⟩ => ⟨S8x4096x768, .f32⟩
  | .hbm, ⟨21, _⟩ => ⟨S8x4096x768, .f32⟩
  | .hbm, ⟨22, _⟩ => ⟨S8x4096x768, .f32⟩
  | .hbm, ⟨23, _⟩ => ⟨S8x4096x512, .f32⟩
  | .hbm, ⟨24, _⟩ => ⟨S8x4096x512, .f32⟩
  | .hbm, ⟨25, _⟩ => ⟨S8x4096x1024, .f32⟩
  | .hbm, ⟨26, _⟩ => ⟨S8x4096x1024, .f32⟩
  | .hbm, ⟨27, _⟩ => ⟨S8x4096x16, .f32⟩
  | .hbm, ⟨28, _⟩ => ⟨S8x4096x768, .f32⟩
  | .hbm, ⟨29, _⟩ => ⟨S8x4096x64, .f32⟩
  | .hbm, ⟨30, _⟩ => ⟨S8x4096x64, .f32⟩
  | .hbm, ⟨31, _⟩ => ⟨S8x4096x512, .f32⟩
  | .hbm, ⟨32, _⟩ => ⟨S8x4096x64, .f32⟩
  | .hbm, ⟨33, _⟩ => ⟨S8x4096x8, .f32⟩
  | .hbm, ⟨34, _⟩ => ⟨S_, .i32⟩
  | .hbm, ⟨35, _⟩ => ⟨S_, .f32⟩
  | .hbm, ⟨36, _⟩ => ⟨S8x4096x128, .f32⟩
  | .hbm, ⟨37, _⟩ => ⟨S_, .i32⟩
  | .hbm, ⟨38, _⟩ => ⟨S_, .f32⟩
  | .hbm, ⟨39, _⟩ => ⟨S8x4096x128, .f32⟩
  | .hbm, ⟨40, _⟩ => ⟨S_, .i32⟩
  | .hbm, ⟨41, _⟩ => ⟨S_, .f32⟩
  | .hbm, ⟨42, _⟩ => ⟨S8x4096x128, .f32⟩
  | .hbm, ⟨43, _⟩ => ⟨S_, .i32⟩
  | .hbm, ⟨44, _⟩ => ⟨S_, .f32⟩
  | .hbm, ⟨45, _⟩ => ⟨S8x4096x384, .f32⟩
  | .hbm, ⟨46, _⟩ => ⟨S8x4096x5120, .f32⟩
  | .hbm, ⟨47, _⟩ => ⟨S32768x5120, .f32⟩
  | .hbm, ⟨48, _⟩ => ⟨S32768x5120, .bf16⟩
  | .hbm, ⟨49, _⟩ => ⟨S8x4096x256, .f32⟩
  | .hbm, ⟨50, _⟩ => ⟨S8192x1024, .f32⟩
  | .hbm, ⟨51, _⟩ => ⟨S8192x1024, .bf16⟩
  | .hbm, ⟨52, _⟩ => ⟨S8x4096x256, .f32⟩
  | .hbm, ⟨53, _⟩ => ⟨S2048x4096, .f32⟩
  | .hbm, ⟨54, _⟩ => ⟨S2048x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_c_2 : Ref sig .tc := ⟨.hbm, 37, rfl⟩
abbrev main_call1_v0 : Ref sig .tc := ⟨.hbm, 38, rfl⟩
abbrev main_v29 : Ref sig .tc := ⟨.hbm, 39, rfl⟩
abbrev main_c_3 : Ref sig .tc := ⟨.hbm, 40, rfl⟩
abbrev main_call2_v0 : Ref sig .tc := ⟨.hbm, 41, rfl⟩
abbrev main_v30 : Ref sig .tc := ⟨.hbm, 42, rfl⟩
abbrev main_c_4 : Ref sig .tc := ⟨.hbm, 43, rfl⟩
abbrev main_call3_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Qk.lean ====
abbrev S8x4096x1024 : Shape := ⟨3, ![8, 4096, 1024]⟩
abbrev S1024 : Shape := ⟨1, ![1024]⟩
abbrev S1024x6872 : Shape := ⟨2, ![1024, 6872]⟩
abbrev S64 : Shape := ⟨1, ![64]⟩
abbrev S256x256 : Shape := ⟨2, ![256, 256]⟩
abbrev S1024x768 : Shape := ⟨2, ![1024, 768]⟩
abbrev S1024x512 : Shape := ⟨2, ![1024, 512]⟩
abbrev S1024x1024 : Shape := ⟨2, ![1024, 1024]⟩
abbrev S1024x16 : Shape := ⟨2, ![1024, 16]⟩
abbrev S1024x64 : Shape := ⟨2, ![1024, 64]⟩
abbrev S1024x8 : Shape := ⟨2, ![1024, 8]⟩
abbrev S1024x2368 : Shape := ⟨2, ![1024, 2368]⟩
abbrev S_ : Shape := ⟨0, ![]⟩
abbrev S1024x2560 : Shape := ⟨2, ![1024, 2560]⟩
abbrev S1x64 : Shape := ⟨2, ![1, 64]⟩
abbrev S12x64 : Shape := ⟨2, ![12, 64]⟩
abbrev S768 : Shape := ⟨1, ![768]⟩
abbrev S2368 : Shape := ⟨1, ![2368]⟩
abbrev S2560 : Shape := ⟨1, ![2560]⟩
abbrev S1x2560 : Shape := ⟨2, ![1, 2560]⟩
abbrev S32768x1024 : Shape := ⟨2, ![32768, 1024]⟩
abbrev S1x1024 : Shape := ⟨2, ![1, 1024]⟩
abbrev S32768x2560 : Shape := ⟨2, ![32768, 2560]⟩
abbrev S8192x1024 : Shape := ⟨2, ![8192, 1024]⟩
abbrev S2048x4096 : Shape := ⟨2, ![2048, 4096]⟩
abbrev S256x1024 : Shape := ⟨2, ![256, 1024]⟩
abbrev S64x4096 : Shape := ⟨2, ![64, 4096]⟩
abbrev S2x1024x128 : Shape := ⟨3, ![2, 1024, 128]⟩
abbrev S1024x1 : Shape := ⟨2, ![1024, 1]⟩
abbrev S1024x256 : Shape := ⟨2, ![1024, 256]⟩
abbrev S1x512 : Shape := ⟨2, ![1, 512]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 54
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x6872, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S256x256, .bf16⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S1024x16, .f32⟩
  | .hbm, ⟨16, _⟩ => ⟨S1024x768, .f32⟩
  | .hbm, ⟨17, _⟩ => ⟨S1024x64, .f32⟩
  | .hbm, ⟨18, _⟩ => ⟨S1024x64, .f32⟩
  | .hbm, ⟨19, _⟩ => ⟨S1024x512, .f32⟩
  | .hbm, ⟨20, _⟩ => ⟨S1024x64, .f32⟩
  | .hbm, ⟨21, _⟩ => ⟨S1024x8, .f32⟩
  | .hbm, ⟨22, _⟩ => ⟨S1024x2368, .f32⟩
  | .hbm, ⟨23, _⟩ => ⟨S_, .i32⟩
  | .hbm, ⟨24, _⟩ => ⟨S_, .f32⟩
  | .hbm, ⟨25, _⟩ => ⟨S1024x2560, .f32⟩
  | .hbm, ⟨26, _⟩ => ⟨S1024x2560, .bf16⟩
  | .hbm, ⟨27, _⟩ => ⟨S1x64, .f32⟩
  | .hbm, ⟨28, _⟩ => ⟨S12x64, .f32⟩
  | .hbm, ⟨29, _⟩ => ⟨S768, .f32⟩
  | .hbm, ⟨30, _⟩ => ⟨S_, .f32⟩
  | .hbm, ⟨31, _⟩ => ⟨S768, .f32⟩
  | .hbm, ⟨32, _⟩ => ⟨S768, .f32⟩
  | .hbm, ⟨33, _⟩ => ⟨S1x64, .f32⟩
  | .hbm, ⟨34, _⟩ => ⟨S12x64, .f32⟩
  | .hbm, ⟨35, _⟩ => ⟨S768, .f32⟩
  | .hbm, ⟨36, _⟩ => ⟨S1x64, .f32⟩
  | .hbm, ⟨37, _⟩ => ⟨S12x64, .f32⟩
  | .hbm, ⟨38, _⟩ => ⟨S768, .f32⟩
  | .hbm, ⟨39, _⟩ => ⟨S_, .f32⟩
  | .hbm, ⟨40, _⟩ => ⟨S768, .f32⟩
  | .hbm, ⟨41, _⟩ => ⟨S768, .f32⟩
  | .hbm, ⟨42, _⟩ => ⟨S2368, .f32⟩
  | .hbm, ⟨43, _⟩ => ⟨S_, .i32⟩
  | .hbm, ⟨44, _⟩ => ⟨S_, .f32⟩
  | .hbm, ⟨45, _⟩ => ⟨S2560, .f32⟩
  | .hbm, ⟨46, _⟩ => ⟨S1x2560, .f32⟩
  | .hbm, ⟨47, _⟩ => ⟨S32768x1024, .f32⟩
  | .hbm, ⟨48, _⟩ => ⟨S1x1024, .f32⟩
  | .hbm, ⟨49, _⟩ => ⟨S32768x2560, .bf16⟩
  | .hbm, ⟨50, _⟩ => ⟨S8192x1024, .bf16⟩
  | .hbm, ⟨51, _⟩ => ⟨S2048x4096, .bf16⟩
  | .hbm, ⟨52, _⟩ => ⟨S8192x1024, .bf16⟩
  | .hbm, ⟨53, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x2560, .f32⟩
  | .local _ .vmem, ⟨5, _⟩ => ⟨S256x256, .bf16⟩
  | .local _ .vmem, ⟨6, _⟩ => ⟨S1024x2560, .bf16⟩
  | .local _ .vmem, ⟨7, _⟩ => ⟨S1024x2560, .bf16⟩
  | .local _ .vmem, ⟨8, _⟩ => ⟨S256x1024, .bf16⟩
  | .local _ .vmem, ⟨9, _⟩ => ⟨S256x1024, .bf16⟩
  | .local _ .vmem, ⟨10, _⟩ => ⟨S64x4096, .bf16⟩
  | .local _ .vmem, ⟨11, _⟩ => ⟨S64x4096, .bf16⟩
  | .local _ .vmem, ⟨12, _⟩ => ⟨S256x1024, .bf16⟩
  | .local _ .vmem, ⟨13, _⟩ => ⟨S256x1024, .bf16⟩
  | .local _ .vmem, ⟨14, _⟩ => ⟨S64x4096, .bf16⟩
  | .local _ .vmem, ⟨15, _⟩ => ⟨S64x4096, .bf16⟩
  | .local _ .vmem, ⟨16, _⟩ => ⟨S2x1024x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_2 : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v35_3 : Ref sig .tc := ⟨.hbm, 52, rfl⟩
abbrev main_v35_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkReferenceIdeal.lean ====
abbrev S8x4096x1024 : Shape := ⟨3, ![8, 4096, 1024]⟩
abbrev S1024 : Shape := ⟨1, ![1024]⟩
abbrev S1024x6872 : Shape := ⟨2, ![1024, 6872]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6872 : Shape := ⟨3, ![8, 4096, 6872]⟩
abbrev S8x4096x768 : Shape := ⟨3, ![8, 4096, 768]⟩
abbrev S8x4096x512 : Shape := ⟨3, ![8, 4096, 512]⟩
abbrev S8x4096x16 : Shape := ⟨3, ![8, 4096, 16]⟩
abbrev S8x4096x64 : Shape := ⟨3, ![8, 4096, 64]⟩
abbrev S8x4096x8 : Shape := ⟨3, ![8, 4096, 8]⟩
abbrev S8x4096x12x64 : Shape := ⟨4, ![8, 4096, 12, 64]⟩
abbrev S8x4096x12 : Shape := ⟨3, ![8, 4096, 12]⟩
abbrev S8x4096x12x1 : Shape := ⟨4, ![8, 4096, 12, 1]⟩
abbrev S1x1x1x64 : Shape := ⟨4, ![1, 1, 1, 64]⟩
abbrev S1x1x64 : Shape := ⟨3, ![1, 1, 64]⟩
abbrev S8x4096x256 : Shape := ⟨3, ![8, 4096, 256]⟩
abbrev S8x4096x2560 : Shape := ⟨3, ![8, 4096, 2560]⟩
abbrev S32768x2560 : Shape := ⟨2, ![32768, 2560]⟩
abbrev S8192x1024 : Shape := ⟨2, ![8192, 1024]⟩
abbrev S2048x4096 : Shape := ⟨2, ![2048, 4096]⟩

abbrev nBuf : Space → Nat
  | .hbm => 135
  | .vmem => 0
  | .smem => 0
  | _ => 0

abbrev hbmTy0_0 (i : Nat) : BufTy := match i % 128 with
  | 0 => ⟨S8x4096x1024, .f32⟩
  | 1 => ⟨S1024, .f32⟩
  | 2 => ⟨S1024x6872, .f32⟩
  | 3 => ⟨S64, .f32⟩
  | 4 => ⟨S64, .f32⟩
  | 5 => ⟨S64, .f32⟩
  | 6 => ⟨S64, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x6872, .f32⟩
  | 24 => ⟨S8x4096x768, .f32⟩
  | 25 => ⟨S8x4096x768, .f32⟩
  | 26 => ⟨S8x4096x768, .f32⟩
  | 27 => ⟨S8x4096x512, .f32⟩
  | 28 => ⟨S8x4096x512, .f32⟩
  | 29 => ⟨S8x4096x1024, .f32⟩
  | 30 => ⟨S8x4096x1024, .f32⟩
  | 31 => ⟨S8x4096x16, .f32⟩
  | 32 => ⟨S8x4096x768, .f32⟩
  | 33 => ⟨S8x4096x64, .f32⟩
  | 34 => ⟨S8x4096x64, .f32⟩
  | 35 => ⟨S8x4096x512, .f32⟩
  | 36 => ⟨S8x4096x64, .f32⟩
  | 37 => ⟨S8x4096x8, .f32⟩
  | 38 => ⟨S8x4096x12x64, .f32⟩
  | 39 => ⟨S8x4096x12x64, .f32⟩
  | 40 => ⟨S_, .f32⟩
  | 41 => ⟨S8x4096x12, .f32⟩
  | 42 => ⟨S8x4096x12x1, .f32⟩
  | 43 => ⟨S_, .f32⟩
  | 44 => ⟨S8x4096x12x1, .f32⟩
  | 45 => ⟨S8x4096x12x1, .f32⟩
  | 46 => ⟨S_, .f32⟩
  | 47 => ⟨S8x4096x12x1, .f32⟩
  | 48 => ⟨S8x4096x12x1, .f32⟩
  | 49 => ⟨S8x4096x12x1, .f32⟩
  | 50 => ⟨S8x4096x12x64, .f32⟩
  | 51 => ⟨S8x4096x12x64, .f32⟩
  | 52 => ⟨S1x1x1x64, .f32⟩
  | 53 => ⟨S8x4096x12x64, .f32⟩
  | 54 => ⟨S8x4096x12x64, .f32⟩
  | 55 => ⟨S_, .f32⟩
  | 56 => ⟨S8x4096x12x64, .f32⟩
  | 57 => ⟨S8x4096x12x64, .f32⟩
  | 58 => ⟨S8x4096x768, .f32⟩
  | 59 => ⟨S8x4096x12x64, .f32⟩
  | 60 => ⟨S8x4096x12x64, .f32⟩
  | 61 => ⟨S_, .f32⟩
  | 62 => ⟨S8x4096x12, .f32⟩
  | 63 => ⟨S8x4096x12x1, .f32⟩
  | 64 => ⟨S_, .f32⟩
  | 65 => ⟨S8x4096x12x1, .f32⟩
  | 66 => ⟨S8x4096x12x1, .f32⟩
  | 67 => ⟨S_, .f32⟩
  | 68 => ⟨S8x4096x12x1, .f32⟩
  | 69 => ⟨S8x4096x12x1, .f32⟩
  | 70 => ⟨S8x4096x12x1, .f32⟩
  | 71 => ⟨S8x4096x12x64, .f32⟩
  | 72 => ⟨S8x4096x12x64, .f32⟩
  | 73 => ⟨S1x1x1x64, .f32⟩
  | 74 => ⟨S8x4096x12x64, .f32⟩
  | 75 => ⟨S8x4096x12x64, .f32⟩
  | 76 => ⟨S8x4096x768, .f32⟩
  | 77 => ⟨S8x4096x12x64, .f32⟩
  | 78 => ⟨S8x4096x12x64, .f32⟩
  | 79 => ⟨S_, .f32⟩
  | 80 => ⟨S8x4096x12, .f32⟩
  | 81 => ⟨S8x4096x12x1, .f32⟩
  | 82 => ⟨S_, .f32⟩
  | 83 => ⟨S8x4096x12x1, .f32⟩
  | 84 => ⟨S8x4096x12x1, .f32⟩
  | 85 => ⟨S_, .f32⟩
  | 86 => ⟨S8x4096x12x1, .f32⟩
  | 87 => ⟨S8x4096x12x1, .f32⟩
  | 88 => ⟨S8x4096x12x1, .f32⟩
  | 89 => ⟨S8x4096x12x64, .f32⟩
  | 90 => ⟨S8x4096x12x64, .f32⟩
  | 91 => ⟨S1x1x1x64, .f32⟩
  | 92 => ⟨S8x4096x12x64, .f32⟩
  | 93 => ⟨S8x4096x12x64, .f32⟩
  | 94 => ⟨S_, .f32⟩
  | 95 => ⟨S8x4096x12x64, .f32⟩
  | 96 => ⟨S8x4096x12x64, .f32⟩
  | 97 => ⟨S_, .f32⟩
  | 98 => ⟨S8x4096x12x64, .f32⟩
  | 99 => ⟨S8x4096x12x64, .f32⟩
  | 100 => ⟨S8x4096x768, .f32⟩
  | 101 => ⟨S8x4096x64, .f32⟩
  | 102 => ⟨S_, .f32⟩
  | 103 => ⟨S8x4096, .f32⟩
  | 104 => ⟨S8x4096x1, .f32⟩
  | 105 => ⟨S_, .f32⟩
  | 106 => ⟨S8x4096x1, .f32⟩
  | 107 => ⟨S8x4096x1, .f32⟩
  | 108 => ⟨S_, .f32⟩
  | 109 => ⟨S8x4096x1, .f32⟩
  | 110 => ⟨S8x4096x1, .f32⟩
  | 111 => ⟨S8x4096x1, .f32⟩
  | 112 => ⟨S8x4096x64, .f32⟩
  | 113 => ⟨S8x4096x64, .f32⟩
  | 114 => ⟨S1x1x64, .f32⟩
  | 115 => ⟨S8x4096x64, .f32⟩
  | 116 => ⟨S8x4096x64, .f32⟩
  | 117 => ⟨S_, .i32⟩
  | 118 => ⟨S_, .f32⟩
  | 119 => ⟨S8x4096x256, .f32⟩
  | 120 => ⟨S8x4096x2560, .f32⟩
  | 121 => ⟨S32768x2560, .f32⟩
  | 122 => ⟨S32768x2560, .bf16⟩
  | 123 => ⟨S8x4096x256, .f32⟩
  | 124 => ⟨S8192x1024, .f32⟩
  | 125 => ⟨S8192x1024, .bf16⟩
  | 126 => ⟨S8x4096x256, .f32⟩
  | 127 => ⟨S2048x4096, .f32⟩
  | _ => ⟨S8x4096x1024, .f32⟩

abbrev hbmTy0_1 (i : Nat) : BufTy := match i % 128 with
  | 0 => ⟨S2048x4096, .bf16⟩
  | 1 => ⟨S8x4096x256, .f32⟩
  | 2 => ⟨S8192x1024, .f32⟩
  | 3 => ⟨S8192x1024, .bf16⟩
  | 4 => ⟨S8x4096x256, .f32⟩
  | 5 => ⟨S2048x4096, .f32⟩
  | 6 => ⟨S2048x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_cst_15 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c : Ref sig .tc := ⟨.hbm, 117, rfl⟩
abbrev main_call0_v0 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩

abbrev nD : Nat := 1
abbrev τ : Topo := Topo.v7x

variable {F : FTy → Type} [FloatOps F]
-- ==== Proof.Owned.lean ====
/- A kernel body that only loads and stores inside memrefs it owns whole: the assertion `Owned.All` (each memref of a
   list is held, at contents nothing is said of), the statement `Owned.Safe` (a program run from it ends in it), and one
   rule per construct a body is built of.  What is read never matters: every rule is stated for all contents. -/
module

public import Idealize.ShloMosaic.Lib.Pipeline.FrameBody
public import Idealize.ShloMosaic.Lib.Pipeline.FrameSuffix
public import Idealize.ShloMosaic.Lib.Tactic

@[expose] public section

noncomputable section

namespace Cert.Proof.Owned

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [BitOps F] {Λ : Labels}

local notation "𝕄" => MT nD τ sig Unit (Elt F) ℕ (UR sig nD τ) ℕ

/-- A memref of a TensorCore's body, its space, shape and element type beside it. -/
structure Slot (sig : RefSig) where
  {cs : CoreSpace}
  {s : Shape}
  {e : EltTy}
  /-- The memref. -/
  m : Memref sig .tc cs s e

/-- Core `c` holds one memref whole, at some contents. -/
def one (c : Dev nD) (b : Slot sig) : sProp 𝕄 :=
  iprop(∃ f : Buf (Elt F) (b.m.view.loc (c : Thread nD τ)), b.m.view.loc (c : Thread nD τ) ↦[b.m.view.set]{fullShare} f)

/-- What holds of a memref at known contents is held at some. -/
theorem one_of_owns (c : Dev nD) (b : Slot sig) (X : b.s.Idx → Elt F b.e) :
    (owns (c : Thread nD τ) b.m fullShare X : sProp 𝕄) ⊢ one (τ := τ) (F := F) c b := by
  unfold one owns
  iintro ⟨%f, %_, H⟩
  iexists f; iexact H

/-- A memref held at some contents reads some contents. -/
theorem owns_of_one (c : Dev nD) (b : Slot sig) :
    one (τ := τ) (F := F) c b ⊢ (iprop(∃ X : b.s.Idx → Elt F b.e, owns (c : Thread nD τ) b.m fullShare X) : sProp 𝕄) := by
  unfold one
  iintro ⟨%f, H⟩
  iexists b.m.view.read (Elt F) f
  iapply (owns_intro (c : Thread nD τ) b.m fullShare f); iexact H

/-- A memref that is its whole buffer is held when the buffer is. -/
theorem one_of_univ (c : Dev nD) (b : Slot sig) (h : b.m.view.set = Finset.univ) :
    (iprop(∃ f : Buf (Elt F) (b.m.view.loc (c : Thread nD τ)), b.m.view.loc (c : Thread nD τ) ↦{fullShare} f) : sProp 𝕄)
      = one (τ := τ) (F := F) c b := by
  unfold one; rw [h]

/-- Core `c` holds every memref of the list whole, each at some contents. -/
def All (c : Dev nD) : List (Slot sig) → sProp 𝕄
  | [] => iprop(emp)
  | b :: L => iprop(one (τ := τ) (F := F) c b ∗ All c L)

/-- One memref out of the list, and the list back when it is returned. -/
theorem All.take (c : Dev nD) {b : Slot sig} : ∀ {L : List (Slot sig)}, b ∈ L →
    All (τ := τ) (F := F) c L ⊢ iprop(one (τ := τ) (F := F) c b ∗ (one (τ := τ) (F := F) c b -∗ All (τ := τ) (F := F) c L))
  | [], h => absurd h (by simp)
  | a :: L, h => by
    rcases List.mem_cons.mp h with rfl | h
    · unfold All
      iintro ⟨H, HL⟩
      isplitl [H]; · iexact H
      iintro H
      isplitl [H]; · iexact H
      iexact HL
    · have ih := All.take c h
      unfold All
      iintro ⟨H, HL⟩
      ihave HL' := ih $$ HL
      icases HL' with ⟨Hb, Hback⟩
      isplitl [Hb]; · iexact Hb
      iintro Hb
      isplitl [H]; · iexact H
      iapply Hback; iexact Hb

/-- The program, run by core `c` while it holds the memrefs of `L`, ends holding them. -/
def Safe (defs : Defs nD τ sig (Elt F) Λ) (c : Dev nD) (L : List (Slot sig)) {α : Type}
    (p : Prog (TpuEff nD τ sig (Elt F) Λ .tc) α) : Prop :=
  All (τ := τ) (F := F) c L
    ⊢ (wp frame (wpE defs Variants.none (c : Thread nD τ) none) Set.univ p (fun _ => All (τ := τ) (F := F) c L) : sProp 𝕄)

variable {defs : Defs nD τ sig (Elt F) Λ} {c : Dev nD} {L : List (Slot sig)} {α β : Type}

theorem Safe.pure (a : α) : Safe defs c L (Pure.pure a : Prog (TpuEff nD τ sig (Elt F) Λ .tc) α) :=
  le_wp_ret frame (wpE defs Variants.none (c : Thread nD τ) none) Set.univ a (fun _ => All (τ := τ) (F := F) c L)

theorem Safe.bind {p : Prog (TpuEff nD τ sig (Elt F) Λ .tc) α} {k : α → Prog (TpuEff nD τ sig (Elt F) Λ .tc) β}
    (hp : Safe defs c L p) (hk : ∀ x, Safe defs c L (k x)) : Safe defs c L (p >>= k) := by
  unfold Safe at *
  rw [wp_bind]
  exact hp.trans (wp_mono _ _ _ hk)

theorem Safe.load {cs : CoreSpace} {s : Shape} {e : EltTy} {m : Memref sig .tc cs s e} {r : LoadRect s} {hl : m.view.LoadsAt r}
    (hm : (⟨m⟩ : Slot sig) ∈ L) :
    Safe defs c L (Prog.lift (TpuEff.load m r hl) : Prog (TpuEff nD τ sig (Elt F) Λ .tc) _) := by
  unfold Safe
  iintro HL
  ihave HL' := (All.take (τ := τ) (F := F) c hm) $$ HL
  icases HL' with ⟨Hb, Hback⟩
  unfold one
  icases Hb with ⟨%f, Hb⟩
  iapply (wp_load (defs := defs) Variants.none (c : Thread nD τ) none Set.univ (S := m.view.set) (m.view.setOn_subset_set _)) $$ Hb
  iintro Hb
  iapply le_wp_ret
  iapply Hback
  iexists f; iexact Hb

theorem Safe.store {cs : CoreSpace} {s : Shape} {e : EltTy} {m : Memref sig .tc cs s e} {r : Rect s} {w : r.shape.Idx → Elt F e}
    {Mk : Finset r.shape.Idx} {hx : (m.access r).Stores Mk} {hu : Mk = Finset.univ ∨ ∀ a, r.stride a = 1}
    (hm : (⟨m⟩ : Slot sig) ∈ L) :
    Safe defs c L (Prog.lift (TpuEff.store m r w Mk hx hu) : Prog (TpuEff nD τ sig (Elt F) Λ .tc) _) := by
  unfold Safe
  iintro HL
  ihave HL' := (All.take (τ := τ) (F := F) c hm) $$ HL
  icases HL' with ⟨Hb, Hback⟩
  unfold one
  icases Hb with ⟨%f, Hb⟩
  iapply (wp_store (defs := defs) Variants.none (c : Thread nD τ) none Set.univ (S := m.view.set)
    (((m.access r).setOn_subset_set Mk).trans (m.view.set_slice_subset r))) $$ Hb
  iintro Hb
  iapply le_wp_ret
  iapply Hback
  iexists (m.access r).write (Elt F) f w Mk; iexact Hb

theorem Safe.loop {w : Nat} {l : Scf.Loop w} {hok : l.OK} {σ : Type} {init : σ}
    {body : Fin l.trips → σ → Prog (TpuEff nD τ sig (Elt F) Λ .tc) σ} (hb : ∀ k acc, Safe defs c L (body k acc)) :
    Safe defs c L (Scf.Loop.for l hok init body) := by
  unfold Safe
  iintro HL
  iapply (Scf.wp_for frame (wpE defs Variants.none (c : Thread nD τ) none) Set.univ l.lb l.ub l.st hok init body
    (fun _ _ => All (τ := τ) (F := F) c L) hb)
  isplitl [HL]; · iexact HL
  iintro %acc H
  iexact H

theorem Safe.dite {P : Prop} [Decidable P] {p : P → Prog (TpuEff nD τ sig (Elt F) Λ .tc) α} {q : ¬P → Prog (TpuEff nD τ sig (Elt F) Λ .tc) α}
    (hp : ∀ h, Safe defs c L (p h)) (hq : ∀ h, Safe defs c L (q h)) : Safe defs c L (if h : P then p h else q h) := by
  split
  · exact hp _
  · exact hq _

theorem Safe.ite {P : Prop} [Decidable P] {p q : Prog (TpuEff nD τ sig (Elt F) Λ .tc) α}
    (hp : Safe defs c L p) (hq : Safe defs c L q) : Safe defs c L (if P then p else q) := by
  split
  · exact hp
  · exact hq

end Cert.Proof.Owned

end
-- ==== Proof.DsaBody.lean ====
/- The body of the sparse-attention call, read through its skeleton: it only loads and stores inside the nineteen memrefs
   it is handed, under loops and branches, so it runs to the end from any contents of them (`body_safe`). -/
module

public import proofs.«01_k».proof.Proof.Owned
public import proofs.«01_k».proof.Proof.Gen.Dsa.Skeleton

@[expose] public section

noncomputable section

namespace Cert.Proof.Dsa

open Cert.Dsa Cert.Dsa.Gen Cert.Proof.Owned
open Idealize.ShloMosaic Idealize.ShloMosaic.TcCoe
open Idealize.SL Idealize.SL.Sem

variable {F : FTy → Type} [BitOps F] {c : Dev nD} {L : List (Slot sig)}
variable (i : grid0.Coords)
  (arg2 : Memref sig .tc .vmem S1x128x768 .bf16) (harg2 : arg2.IsWhole)
  (arg3 : Memref sig .tc .vmem S1x128x512 .bf16) (harg3 : arg3.IsWhole)
  (arg4 : Memref sig .tc .vmem S1x128x128 .bf16) (harg4 : arg4.IsWhole)
  (arg5 : Memref sig .tc .vmem S1x4096x128 .bf16) (harg5 : arg5.IsWhole)
  (arg6 : Memref sig .tc .vmem S1x4096x128 .bf16) (harg6 : arg6.IsWhole)
  (arg7 : Memref sig .tc .vmem S1x16x80x256 .bf16) (harg7 : arg7.IsWhole)
  (arg8 : Memref sig .tc .vmem S2048x1536 .f32) (harg8 : arg8.IsWhole)
  (arg9 : Memref sig .tc .vmem S768x1024 .bf16) (harg9 : arg9.IsWhole)
  (arg10 : Memref sig .tc .vmem S1x128x1024 .f32) (harg10 : arg10.IsWhole)
  (arg11 : Memref sig .tc .vmem S4096x128 .i32) (harg11 : arg11.IsWhole)
  (arg12 : Memref sig .tc .vmem S16x32x8x128 .i32) (harg12 : arg12.IsWhole)
  (arg13 : Memref sig .tc .vmem S256x1536 .bf16) (harg13 : arg13.IsWhole)
  (arg14 : Memref sig .tc .vmem S128x1024 .bf16) (harg14 : arg14.IsWhole)
  (arg15 : Memref sig .tc .vmem S80x1536 .f32) (harg15 : arg15.IsWhole)
  (arg16 : Memref sig .tc .vmem S256x1536 .f32) (harg16 : arg16.IsWhole)
  (arg17 : Memref sig .tc .vmem S256x1536 .f32) (harg17 : arg17.IsWhole)
  (arg18 : Memref sig .tc .vmem S8x1536 .f32) (harg18 : arg18.IsWhole)
  (arg19 : Memref sig .tc .vmem S8x1536 .f32) (harg19 : arg19.IsWhole)
  (arg20 : Memref sig .tc .vmem S8x1536 .f32) (harg20 : arg20.IsWhole)

set_option maxHeartbeats 40000000 in
/-- Whatever the nineteen memrefs hold, the body runs to the end and still holds them. -/
theorem body_safe (m2 : (⟨arg2⟩ : Slot sig) ∈ L) (m3 : (⟨arg3⟩ : Slot sig) ∈ L) (m4 : (⟨arg4⟩ : Slot sig) ∈ L) (m5 : (⟨arg5⟩ : Slot sig) ∈ L) (m6 : (⟨arg6⟩ : Slot sig) ∈ L) (m7 : (⟨arg7⟩ : Slot sig) ∈ L) (m8 : (⟨arg8⟩ : Slot sig) ∈ L) (m9 : (⟨arg9⟩ : Slot sig) ∈ L) (m10 : (⟨arg10⟩ : Slot sig) ∈ L) (m11 : (⟨arg11⟩ : Slot sig) ∈ L) (m12 : (⟨arg12⟩ : Slot sig) ∈ L) (m13 : (⟨arg13⟩ : Slot sig) ∈ L) (m14 : (⟨arg14⟩ : Slot sig) ∈ L) (m15 : (⟨arg15⟩ : Slot sig) ∈ L) (m16 : (⟨arg16⟩ : Slot sig) ∈ L) (m17 : (⟨arg17⟩ : Slot sig) ∈ L) (m18 : (⟨arg18⟩ : Slot sig) ∈ L) (m19 : (⟨arg19⟩ : Slot sig) ∈ L) (m20 : (⟨arg20⟩ : Slot sig) ∈ L) :
    Safe (defs₀ (F := F)) c L (cc0_dsa_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  unfold cc0_dsa_skel
  repeat' (first
      | assumption
      | with_reducible exact Safe.pure _
      | with_reducible refine Safe.bind ?_ fun _ => ?_
      | with_reducible refine Safe.load ?_
      | with_reducible refine Safe.store ?_
      | with_reducible refine Safe.loop fun _ _ => ?_
      | with_reducible refine Safe.dite (fun _ => ?_) (fun _ => ?_)
      | with_reducible refine Safe.ite ?_ ?_
      | simp only [k0_part1_eq_skeleton, k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton, k0_part44_eq_skeleton, k0_part45_eq_skeleton, k0_part46_eq_skeleton, k0_part47_eq_skeleton, k0_part48_eq_skeleton,
      k0_part49_eq_skeleton, k0_part50_eq_skeleton, k0_part51_eq_skeleton, k0_part52_eq_skeleton, k0_part53_eq_skeleton, k0_part54_eq_skeleton,
      k0_part55_eq_skeleton, k0_part56_eq_skeleton, k0_part57_eq_skeleton, k0_part58_eq_skeleton, k0_part59_eq_skeleton, k0_part60_eq_skeleton,
      k0_part61_eq_skeleton, k0_part62_eq_skeleton, k0_part63_eq_skeleton, k0_part64_eq_skeleton, k0_part65_eq_skeleton, k0_part66_eq_skeleton,
      k0_part67_eq_skeleton, k0_part68_eq_skeleton, k0_part69_eq_skeleton, k0_part70_eq_skeleton, k0_part71_eq_skeleton, k0_part72_eq_skeleton,
      k0_part73_eq_skeleton, k0_part74_eq_skeleton, k0_part75_eq_skeleton, k0_part76_eq_skeleton, k0_part77_eq_skeleton, k0_part78_eq_skeleton,
      k0_part79_eq_skeleton, k0_part80_eq_skeleton, k0_part81_eq_skeleton, k0_part82_eq_skeleton, k0_part83_eq_skeleton, k0_part84_eq_skeleton,
      k0_part85_eq_skeleton, k0_part86_eq_skeleton, k0_part87_eq_skeleton, k0_part88_eq_skeleton, k0_part89_eq_skeleton, k0_part90_eq_skeleton,
      k0_part91_eq_skeleton, k0_part92_eq_skeleton, k0_part93_eq_skeleton, k0_part94_eq_skeleton, k0_part95_eq_skeleton, k0_part96_eq_skeleton,
      k0_part97_eq_skeleton, k0_part98_eq_skeleton, k0_part99_eq_skeleton, k0_part100_eq_skeleton, k0_part101_eq_skeleton, k0_part102_eq_skeleton,
      k0_part103_eq_skeleton, k0_part104_eq_skeleton, k0_part105_eq_skeleton, k0_part106_eq_skeleton, k0_part107_eq_skeleton, k0_part108_eq_skeleton,
      k0_part109_eq_skeleton, k0_part110_eq_skeleton, k0_part111_eq_skeleton, k0_part112_eq_skeleton, k0_part113_eq_skeleton, k0_part114_eq_skeleton,
      k0_part115_eq_skeleton, k0_part116_eq_skeleton, k0_part117_eq_skeleton, k0_part118_eq_skeleton, k0_part119_eq_skeleton, k0_part120_eq_skeleton,
      k0_part121_eq_skeleton, k0_part122_eq_skeleton, k0_part123_eq_skeleton, k0_part124_eq_skeleton, k0_part125_eq_skeleton, k0_part126_eq_skeleton,
      k0_part127_eq_skeleton, k0_part128_eq_skeleton, k0_part129_eq_skeleton, k0_part130_eq_skeleton, k0_part131_eq_skeleton, k0_part132_eq_skeleton,
      k0_part133_eq_skeleton, k0_part134_eq_skeleton, k0_part135_eq_skeleton, k0_part136_eq_skeleton, k0_part137_eq_skeleton, k0_part138_eq_skeleton,
      k0_part139_eq_skeleton, k0_part140_eq_skeleton, k0_part141_eq_skeleton, k0_part142_eq_skeleton, k0_part143_eq_skeleton, k0_part144_eq_skeleton,
      k0_part145_eq_skeleton, k0_part146_eq_skeleton, k0_part147_eq_skeleton, k0_part148_eq_skeleton, k0_part149_eq_skeleton, k0_part150_eq_skeleton,
      k0_part151_eq_skeleton, k0_part152_eq_skeleton, k0_part153_eq_skeleton, k0_part154_eq_skeleton, k0_part155_eq_skeleton, k0_part156_eq_skeleton,
      k0_part157_eq_skeleton, k0_part158_eq_skeleton, k0_part159_eq_skeleton, k0_part160_eq_skeleton, k0_part161_eq_skeleton, k0_part162_eq_skeleton,
      k0_part163_eq_skeleton, k0_part164_eq_skeleton, k0_part165_eq_skeleton, k0_part166_eq_skeleton, k0_part167_eq_skeleton, k0_part168_eq_skeleton,
      k0_part169_eq_skeleton, k0_part170_eq_skeleton, k0_part171_eq_skeleton, k0_part172_eq_skeleton, k0_part173_eq_skeleton, k0_part174_eq_skeleton,
      k0_part175_eq_skeleton, k0_part176_eq_skeleton, k0_part177_eq_skeleton, k0_part178_eq_skeleton, k0_part179_eq_skeleton, k0_part180_eq_skeleton,
      k0_part181_eq_skeleton, k0_part182_eq_skeleton, k0_part183_eq_skeleton, k0_part184_eq_skeleton, k0_part185_eq_skeleton, k0_part186_eq_skeleton,
      k0_part187_eq_skeleton, k0_part188_eq_skeleton, k0_part189_eq_skeleton, k0_part190_eq_skeleton, k0_part191_eq_skeleton, k0_part192_eq_skeleton,
      k0_part193_eq_skeleton, k0_part194_eq_skeleton, k0_part195_eq_skeleton, k0_part196_eq_skeleton, k0_part197_eq_skeleton, k0_part198_eq_skeleton,
      k0_part199_eq_skeleton, k0_part200_eq_skeleton, k0_part201_eq_skeleton, k0_part202_eq_skeleton, k0_part203_eq_skeleton, k0_part204_eq_skeleton,
      k0_part205_eq_skeleton, k0_part206_eq_skeleton, k0_part207_eq_skeleton, k0_part208_eq_skeleton, k0_part209_eq_skeleton, k0_part210_eq_skeleton,
      k0_part211_eq_skeleton, k0_part212_eq_skeleton, k0_part213_eq_skeleton, k0_part214_eq_skeleton, k0_part215_eq_skeleton, k0_part216_eq_skeleton,
      k0_part217_eq_skeleton, k0_part218_eq_skeleton, k0_part219_eq_skeleton, k0_part220_eq_skeleton, k0_part221_eq_skeleton, k0_part222_eq_skeleton,
      k0_part223_eq_skeleton, k0_part224_eq_skeleton, k0_part225_eq_skeleton, k0_part226_eq_skeleton, k0_part227_eq_skeleton, k0_part228_eq_skeleton,
      k0_part229_eq_skeleton, k0_part230_eq_skeleton, k0_part231_eq_skeleton, k0_part232_eq_skeleton, k0_part233_eq_skeleton, k0_part234_eq_skeleton,
      k0_part235_eq_skeleton, k0_part236_eq_skeleton, k0_part237_eq_skeleton, k0_part238_eq_skeleton, k0_part239_eq_skeleton, k0_part240_eq_skeleton,
      k0_part241_eq_skeleton, k0_part242_eq_skeleton]
      | refine Safe.bind ?_ fun _ => ?_
      | exact Safe.pure _
      | refine Safe.dite (fun _ => ?_) (fun _ => ?_)
      | refine Safe.ite ?_ ?_)
end Cert.Proof.Dsa
-- ==== Proof.DsaFrame.lean ====
/- The frame of the sparse-attention call: from any memory the program runs to the end, leaves its argument arrays as it
   found them and every semaphore counter at zero.  The body keeps hold of its nine staging buffers and ten scratch
   buffers (`body_safe`); nothing is said of what they hold. -/
module

public import proofs.«01_k».proof.Proof.DsaBody
public import proofs.«01_k».proof.Proof.Gen.Dsa.Frame

@[expose] public section

noncomputable section

namespace Cert.Proof.Dsa

open Cert.Dsa Cert.Dsa.Gen Cert.Proof.Owned
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The region's data: the arrays as the region finds them, nothing said of what the body leaves in a staging buffer. -/
def rdats (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The nineteen memrefs the body works in at point `t`: the windows' current staging buffers, then the scratch. -/
def slots (t : Fin cfg0.N) : List (Slot sig) :=
  [⟨win0_0.stage (cfg0.slots t 0)⟩, ⟨win0_1.stage (cfg0.slots t 1)⟩, ⟨win0_2.stage (cfg0.slots t 2)⟩,
   ⟨win0_3.stage (cfg0.slots t 3)⟩, ⟨win0_4.stage (cfg0.slots t 4)⟩, ⟨win0_5.stage (cfg0.slots t 5)⟩,
   ⟨win0_6.stage (cfg0.slots t 6)⟩, ⟨win0_7.stage (cfg0.slots t 7)⟩, ⟨win0_8.stage (cfg0.slots t 8)⟩,
   ⟨Memref.whole cc0_scratch0⟩, ⟨Memref.whole cc0_scratch1⟩, ⟨Memref.whole cc0_scratch2⟩, ⟨Memref.whole cc0_scratch3⟩,
   ⟨Memref.whole cc0_scratch4⟩, ⟨Memref.whole cc0_scratch5⟩, ⟨Memref.whole cc0_scratch6⟩, ⟨Memref.whole cc0_scratch7⟩,
   ⟨Memref.whole cc0_scratch8⟩, ⟨Memref.whole cc0_scratch9⟩]

theorem body_safe_at (c : Dev nD) (t : Fin cfg0.N) : Safe (defs₀ (F := F)) c (slots t) (bodyAt0 (F := F) t) := by
  unfold bodyAt0
  rw [cc0_dsa_eq_skeleton]
  apply body_safe <;> simp [slots]

theorem defs₀_row (t : Fin cfg0.N) : defs₀ (F := F) .tc cfg0.body (cfg0.bodyArgs t (cfg0.slots t)) = bodyAt0 t := by
  unfold defs₀; rw [Defs.onTc_tc]

/-- A program safe at the memrefs it holds carries anything else along. -/
theorem framed {c : Dev nD} {L : List (Slot sig)} {p : Prog (TpuEff nD τ sig (Elt F) Λ₀ .tc) PUnit} (h : Safe (defs₀ (F := F)) c L p)
    (R : sProp 𝕄) :
    iprop(R ∗ All (τ := τ) (F := F) c L) ⊢
      (wp frame (wpE (defs₀ (F := F)) Variants.none (c : Thread nD τ) none) Set.univ p (fun _ => iprop(R ∗ All (τ := τ) (F := F) c L)) : sProp 𝕄) := by
  iintro ⟨HR, HL⟩
  iapply (wp_frame_l frame (wpE (defs₀ (F := F)) Variants.none (c : Thread nD τ) none) Set.univ)
  isplitl [HR]; · iexact HR
  unfold Safe at h
  iapply h; iexact HL

/-- What the launch hands the body holds the nineteen memrefs. -/
theorem gather (c : Dev nD) (t : Fin cfg0.N) (O : sProp 𝕄) (Y : (w : Fin cfg0.W) → (cfg0.win w).block.Idx → Elt F (cfg0.win w).elt) :
    iprop(Pipeline.ΦA spec0 c ∗ O ∗ bigSep Finset.univ fun w : Fin 9 => owns (c : Thread nD τ) ((cfg0.win w).stage (cfg0.slots t w)) fullShare (Y w))
      ⊢ (iprop(((∃ r, prngReg c r) ∗ O) ∗ All (τ := τ) (F := F) c (slots t)) : sProp 𝕄) := by
  rw [bigSep_W0]
  unfold Pipeline.ΦA slots
  rw [scopedRest0_eq]
  simp only [All]
  iintro ⟨⟨⟨s0, s1, s2, s3, s4, s5, s6, s7, s8, s9⟩, Hp⟩, HO, w0, w1, w2, w3, w4, w5, w6, w7, w8⟩
  isplitl [Hp HO]
  · isplitl [Hp]; · iexact Hp
    iexact HO
  isplitl [w0]; · iapply (one_of_owns (F := F) c _ (Y 0)); iexact w0
  isplitl [w1]; · iapply (one_of_owns (F := F) c _ (Y 1)); iexact w1
  isplitl [w2]; · iapply (one_of_owns (F := F) c _ (Y 2)); iexact w2
  isplitl [w3]; · iapply (one_of_owns (F := F) c _ (Y 3)); iexact w3
  isplitl [w4]; · iapply (one_of_owns (F := F) c _ (Y 4)); iexact w4
  isplitl [w5]; · iapply (one_of_owns (F := F) c _ (Y 5)); iexact w5
  isplitl [w6]; · iapply (one_of_owns (F := F) c _ (Y 6)); iexact w6
  isplitl [w7]; · iapply (one_of_owns (F := F) c _ (Y 7)); iexact w7
  isplitl [w8]; · iapply (one_of_owns (F := F) c _ (Y 8)); iexact w8
  isplitl [s0]; · iapply (Entails.of_eq (one_of_univ (F := F) c ⟨Memref.whole cc0_scratch0⟩ (View.set_whole _))); iexact s0
  isplitl [s1]; · iapply (Entails.of_eq (one_of_univ (F := F) c ⟨Memref.whole cc0_scratch1⟩ (View.set_whole _))); iexact s1
  isplitl [s2]; · iapply (Entails.of_eq (one_of_univ (F := F) c ⟨Memref.whole cc0_scratch2⟩ (View.set_whole _))); iexact s2
  isplitl [s3]; · iapply (Entails.of_eq (one_of_univ (F := F) c ⟨Memref.whole cc0_scratch3⟩ (View.set_whole _))); iexact s3
  isplitl [s4]; · iapply (Entails.of_eq (one_of_univ (F := F) c ⟨Memref.whole cc0_scratch4⟩ (View.set_whole _))); iexact s4
  isplitl [s5]; · iapply (Entails.of_eq (one_of_univ (F := F) c ⟨Memref.whole cc0_scratch5⟩ (View.set_whole _))); iexact s5
  isplitl [s6]; · iapply (Entails.of_eq (one_of_univ (F := F) c ⟨Memref.whole cc0_scratch6⟩ (View.set_whole _))); iexact s6
  isplitl [s7]; · iapply (Entails.of_eq (one_of_univ (F := F) c ⟨Memref.whole cc0_scratch7⟩ (View.set_whole _))); iexact s7
  isplitl [s8]; · iapply (Entails.of_eq (one_of_univ (F := F) c ⟨Memref.whole cc0_scratch8⟩ (View.set_whole _))); iexact s8
  isplitl [s9]; · iapply (Entails.of_eq (one_of_univ (F := F) c ⟨Memref.whole cc0_scratch9⟩ (View.set_whole _))); iexact s9
  iempintro

/-- The nineteen memrefs go back to the launch, whatever they hold. -/
theorem scatter (c : Dev nD) (t : Fin cfg0.N) (O : sProp 𝕄) :
    (iprop(((∃ r, prngReg c r) ∗ O) ∗ All (τ := τ) (F := F) c (slots t)) : sProp 𝕄) ⊢
    iprop(Pipeline.ΦA spec0 c ∗ O ∗ bigSep Finset.univ fun w : Fin 9 =>
      iprop(∃ X, ⌜True⌝ ∗ owns (c : Thread nD τ) ((cfg0.win w).stage (cfg0.slots t w)) fullShare X)) := by
  rw [bigSep_W0]
  unfold Pipeline.ΦA slots
  rw [scopedRest0_eq]
  simp only [All]
  iintro ⟨⟨Hp, HO⟩, w0, w1, w2, w3, w4, w5, w6, w7, w8, s0, s1, s2, s3, s4, s5, s6, s7, s8, s9, -⟩
  isplitl [Hp s0 s1 s2 s3 s4 s5 s6 s7 s8 s9]
  · isplitr [Hp]
    · isplitl [s0]; · iapply (Entails.of_eq (one_of_univ (F := F) c ⟨Memref.whole cc0_scratch0⟩ (View.set_whole _)).symm); iexact s0
      isplitl [s1]; · iapply (Entails.of_eq (one_of_univ (F := F) c ⟨Memref.whole cc0_scratch1⟩ (View.set_whole _)).symm); iexact s1
      isplitl [s2]; · iapply (Entails.of_eq (one_of_univ (F := F) c ⟨Memref.whole cc0_scratch2⟩ (View.set_whole _)).symm); iexact s2
      isplitl [s3]; · iapply (Entails.of_eq (one_of_univ (F := F) c ⟨Memref.whole cc0_scratch3⟩ (View.set_whole _)).symm); iexact s3
      isplitl [s4]; · iapply (Entails.of_eq (one_of_univ (F := F) c ⟨Memref.whole cc0_scratch4⟩ (View.set_whole _)).symm); iexact s4
      isplitl [s5]; · iapply (Entails.of_eq (one_of_univ (F := F) c ⟨Memref.whole cc0_scratch5⟩ (View.set_whole _)).symm); iexact s5
      isplitl [s6]; · iapply (Entails.of_eq (one_of_univ (F := F) c ⟨Memref.whole cc0_scratch6⟩ (View.set_whole _)).symm); iexact s6
      isplitl [s7]; · iapply (Entails.of_eq (one_of_univ (F := F) c ⟨Memref.whole cc0_scratch7⟩ (View.set_whole _)).symm); iexact s7
      isplitl [s8]; · iapply (Entails.of_eq (one_of_univ (F := F) c ⟨Memref.whole cc0_scratch8⟩ (View.set_whole _)).symm); iexact s8
      iapply (Entails.of_eq (one_of_univ (F := F) c ⟨Memref.whole cc0_scratch9⟩ (View.set_whole _)).symm); iexact s9
    iexact Hp
  isplitl [HO]; · iexact HO
  isplitl [w0]
  · ihave H := (owns_of_one (F := F) c _) $$ w0
    icases H with ⟨%X, H⟩
    iexists X
    isplitr; · ipureintro; trivial
    iexact H
  isplitl [w1]
  · ihave H := (owns_of_one (F := F) c _) $$ w1
    icases H with ⟨%X, H⟩
    iexists X
    isplitr; · ipureintro; trivial
    iexact H
  isplitl [w2]
  · ihave H := (owns_of_one (F := F) c _) $$ w2
    icases H with ⟨%X, H⟩
    iexists X
    isplitr; · ipureintro; trivial
    iexact H
  isplitl [w3]
  · ihave H := (owns_of_one (F := F) c _) $$ w3
    icases H with ⟨%X, H⟩
    iexists X
    isplitr; · ipureintro; trivial
    iexact H
  isplitl [w4]
  · ihave H := (owns_of_one (F := F) c _) $$ w4
    icases H with ⟨%X, H⟩
    iexists X
    isplitr; · ipureintro; trivial
    iexact H
  isplitl [w5]
  · ihave H := (owns_of_one (F := F) c _) $$ w5
    icases H with ⟨%X, H⟩
    iexists X
    isplitr; · ipureintro; trivial
    iexact H
  isplitl [w6]
  · ihave H := (owns_of_one (F := F) c _) $$ w6
    icases H with ⟨%X, H⟩
    iexists X
    isplitr; · ipureintro; trivial
    iexact H
  isplitl [w7]
  · ihave H := (owns_of_one (F := F) c _) $$ w7
    icases H with ⟨%X, H⟩
    iexists X
    isplitr; · ipureintro; trivial
    iexact H
  ihave H := (owns_of_one (F := F) c _) $$ w8
  icases H with ⟨%X, H⟩
  iexists X
  isplitr; · ipureintro; trivial
  iexact H

/-- The body at every point, from whatever it finds. -/
theorem body_all (c : Dev nD) : (rdats (F := F) m c).BodyObligation (defs₀ (F := F)) Variants.none () Set.univ := by
  intro t Y _
  rw [defs₀_row]
  exact (gather c t _ Y).trans ((framed (body_safe_at c t) _).trans (wp_mono _ _ _ fun _ => scatter c t _))

/-- The run: every argument array ends as it began and every semaphore counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  RDat.θ_run_frame_around_T_track_shared cfgs 0 launch₀0 defs₀ Variants.none (rdats m) {main_v3} m ρ main (body_all m)
    (fun _ _ _ => rfl) (fun _ _ => rfl) (V0 m) [hostOps1] sfx_sub sfx_fresh sfx_keeps
    (by
      intro ops ho op hop b hb
      simp only [List.mem_singleton] at ho; subst ho
      simp only [List.mem_singleton] at hop; subst hop
      exact Finset.mem_singleton.mpr (Proc.devRef_injective _ (Finset.mem_singleton.mp hb)))
    (hmain m Variants.none) (fun _ _ => rfl) (fun _ => .rfl) (fun _ => .rfl) _
    fun r h => ⟨fun c =>
      ⟨((h.1 c).2 main_arg0 (by decide)).trans (V_main_arg0 m c), ((h.1 c).2 main_arg1 (by decide)).trans (V_main_arg1 m c),
       (RDat.FramePostR.arr_in h.1 c 5 rfl).trans (V_main_arg2 m c), (RDat.FramePostR.arr_in h.1 c 6 rfl).trans (V_main_arg3 m c),
       (RDat.FramePostR.arr_in h.1 c 7 rfl).trans (V_main_arg4 m c)⟩, h.2⟩

end Cert.Proof.Dsa

end
-- ==== Proof.FfnRow.lean ====
/- One row of the feed-forward network with the gated per-layer embedding, on the extended reals: what both the kernel
   and the reference compute from a row of the residual stream.  Also the sum over all 2816 hidden units as the sum of
   eleven sums over 256 of them. -/
module

public import Idealize.ShloMosaic.Lib.Pointwise

@[expose] public section

noncomputable section

namespace Cert.Proof.Ffn

open Idealize.ShloMosaic

/-- The row `x` over its root mean square, times the gain `g`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- One hidden unit: the gate's value times its logistic, times the other projection, from the unit's two weight columns. -/
def unit (u a b : Fin 1024 → EReal) : EReal :=
  (∑ k, u k * a k) * Ideal.logistic (∑ k, u k * a k) * ∑ k, u k * b k

/-- The row after the feed-forward network. -/
def mid (x g : Fin 1024 → EReal) (a b : Fin 1024 → Fin 2816 → EReal) (w : Fin 2816 → Fin 1024 → EReal) (d : Fin 1024) : EReal :=
  x d + ∑ j, unit (rms x g) (fun k => a k j) (fun k => b k j) * w j d

/-- The row `y` after the gated embedding `p` is added. -/
def ple (y : Fin 1024 → EReal) (p : Fin 256 → EReal) (g : Fin 1024 → EReal) (a : Fin 1024 → Fin 1024 → EReal)
    (b : Fin 256 → Fin 1024 → EReal) (d : Fin 1024) : EReal :=
  y d + Ideal.logistic (∑ k, rms y g k * a k d) * ∑ k, p k * b k d

/-- The row function at place `q` of sequence `s`, from the nine arguments. -/
def G (h : Shape.Idx ⟨3, ![8, 4096, 1024]⟩ → EReal) (p : Shape.Idx ⟨3, ![8, 4096, 256]⟩ → EReal) (g : Shape.Idx ⟨1, ![1024]⟩ → EReal)
    (a b : Shape.Idx ⟨2, ![1024, 2816]⟩ → EReal) (w : Shape.Idx ⟨2, ![2816, 1024]⟩ → EReal) (g' : Shape.Idx ⟨1, ![1024]⟩ → EReal)
    (a' : Shape.Idx ⟨2, ![1024, 1024]⟩ → EReal) (b' : Shape.Idx ⟨2, ![256, 1024]⟩ → EReal) (s : Fin 8) (q : Fin 4096) (d : Fin 1024) : EReal :=
  ple (mid (fun k => h (ix3 s q k)) (fun k => g (ix1 k)) (fun k j => a (ix2 k j)) (fun k j => b (ix2 k j)) (fun j k => w (ix2 j k)))
    (fun k => p (ix3 s q k)) (fun k => g' (ix1 k)) (fun k j => a' (ix2 k j)) (fun k j => b' (ix2 k j)) d

/-- Hidden unit `i` of chunk `j`. -/
def at_ (j : Fin 11) (i : Fin 256) : Fin 2816 := ⟨256 * j.1 + i.1, by omega⟩

/-- The first chunk's units are the first 256. -/
theorem at_zero (i : Fin 256) : at_ 0 i = ⟨i.1, by omega⟩ := Fin.ext (by simp [at_])

/-- Eleven numbers added from the left. -/
theorem sum_eleven (g : Fin 11 → EReal) :
    ∑ j, g j = g 0 + g 1 + g 2 + g 3 + g 4 + g 5 + g 6 + g 7 + g 8 + g 9 + g 10 := by
  simp only [Fin.sum_univ_castSucc, Fin.sum_univ_zero, zero_add]
  rfl

/-- The sum over the hidden units, chunk by chunk in the kernel's order. -/
theorem sum_chunks (f : Fin 2816 → EReal) : ∑ j, f j =
    (∑ i, f (at_ 0 i)) + (∑ i, f (at_ 1 i)) + (∑ i, f (at_ 2 i)) + (∑ i, f (at_ 3 i)) + (∑ i, f (at_ 4 i)) + (∑ i, f (at_ 5 i))
      + (∑ i, f (at_ 6 i)) + (∑ i, f (at_ 7 i)) + (∑ i, f (at_ 8 i)) + (∑ i, f (at_ 9 i)) + (∑ i, f (at_ 10 i)) := by
  have h : ∑ j, f j = ∑ x : Fin 11 × Fin 256, f (at_ x.1 x.2) :=
    ((finProdFinEquiv (m := 11) (n := 256)).sum_comp f).symm.trans
      (Finset.sum_congr rfl fun x _ => congrArg f (Fin.ext (by simp only [at_, finProdFinEquiv_apply_val]; omega)))
  rw [h, Fintype.sum_prod_type, sum_eleven]

end Cert.Proof.Ffn

end
-- ==== Proof.FfnBlock.lean ====
/- What the kernel's body computes from the blocks it is given: every row of the result block is the row function of the
   same row of the input blocks. -/
module

public import proofs.«01_k».proof.Proof.FfnRow
public import proofs.«01_k».proof.Proof.Gen.FfnIdeal.Value

@[expose] public section

set_option maxRecDepth 16384

noncomputable section

namespace Cert.Proof.Ffn

open Cert.FfnIdeal Cert.FfnIdeal.Gen Idealize.ShloMosaic

/-- The normed rows. -/
theorem pay3_at (x : Vec Ideal S512x1024 .f32) (g : Vec Ideal S1x1024 .f32) (r : Fin 512) (d : Fin 1024) :
    k0_pay3 x g (ix2 r d) = rms (fun k => x (ix2 r k)) (fun k => g (ix2 0 k)) d := by
  unfold rms
  pointwise [k0_pay3, k0_pay2]

/-- One chunk of hidden units, from its columns of the gate and up weights and its rows of the down weights. -/
theorem pay4_at (x : Vec Ideal S512x1024 .f32) (g : Vec Ideal S1x1024 .f32) (a b : Vec Ideal S1024x256 .bf16) (w : Vec Ideal S256x1024 .bf16)
    (r : Fin 512) (d : Fin 1024) :
    k0_pay4 x g a b w (ix2 r d)
      = ∑ i, unit (rms (fun k => x (ix2 r k)) (fun k => g (ix2 0 k))) (fun k => a (ix2 k i)) (fun k => b (ix2 k i)) * w (ix2 i d) := by
  unfold unit
  simp only [← pay3_at]
  pointwise [k0_pay4]

variable (x0 : Vec Ideal S512x1024 .f32) (x1 : Vec Ideal S512x256 .f32) (x2 : Vec Ideal S1x1024 .f32) (x3 : Vec Ideal S1024x2816 .bf16)
  (x4 : Vec Ideal S1024x2816 .bf16) (x5 : Vec Ideal S2816x1024 .bf16) (x6 : Vec Ideal S1x1024 .f32) (x7 : Vec Ideal S1024x1024 .bf16)
  (x8 : Vec Ideal S256x1024 .bf16)

/-- The rows after the feed-forward network, as the body leaves them for its second half. -/
def midBlk : FVec Ideal S512x1024 .f32 :=
  k0_pay14 (k0_pay16 x0 x1 x2 x3 x4 x5 x6 x7 x8) (k0_pay17 x0 x1 x2 x3 x4 x5 x6 x7 x8) (k0_pay18 x0 x1 x2 x3 x4 x5 x6 x7 x8)
    (k0_pay19 x0 x1 x2 x3 x4 x5 x6 x7 x8) (View.ld x4 r0_20) (View.ld x5 r0_21) (View.ld x3 r0_22) (View.ld x4 r0_22) (View.ld x5 r0_23)

/-- They are the rows of the residual stream plus the eleven chunks, added one after the other. -/
theorem midBlk_eq : midBlk x0 x1 x2 x3 x4 x5 x6 x7 x8 =
    addf (k0_pay2 (View.ld x0 r0_0)) (addf (addf (addf (addf (addf (addf (addf (addf (addf (addf
      (k0_pay4 (View.ld x0 r0_0) (View.ld x2 r0_1) (View.ld x3 r0_2) (View.ld x4 r0_2) (View.ld x5 r0_3))
      (k0_pay4 (View.ld x0 r0_0) (View.ld x2 r0_1) (View.ld x3 r0_4) (View.ld x4 r0_4) (View.ld x5 r0_5)))
      (k0_pay4 (View.ld x0 r0_0) (View.ld x2 r0_1) (View.ld x3 r0_6) (View.ld x4 r0_6) (View.ld x5 r0_7)))
      (k0_pay4 (View.ld x0 r0_0) (View.ld x2 r0_1) (View.ld x3 r0_8) (View.ld x4 r0_8) (View.ld x5 r0_9)))
      (k0_pay4 (View.ld x0 r0_0) (View.ld x2 r0_1) (View.ld x3 r0_10) (View.ld x4 r0_10) (View.ld x5 r0_11)))
      (k0_pay4 (View.ld x0 r0_0) (View.ld x2 r0_1) (View.ld x3 r0_12) (View.ld x4 r0_12) (View.ld x5 r0_13)))
      (k0_pay4 (View.ld x0 r0_0) (View.ld x2 r0_1) (View.ld x3 r0_14) (View.ld x4 r0_14) (View.ld x5 r0_15)))
      (k0_pay4 (View.ld x0 r0_0) (View.ld x2 r0_1) (View.ld x3 r0_16) (View.ld x4 r0_16) (View.ld x5 r0_17)))
      (k0_pay4 (View.ld x0 r0_0) (View.ld x2 r0_1) (View.ld x3 r0_18) (View.ld x4 r0_18) (View.ld x5 r0_19)))
      (k0_pay4 (View.ld x0 r0_0) (View.ld x2 r0_1) (View.ld x3 r0_20) (View.ld x4 r0_20) (View.ld x5 r0_21)))
      (k0_pay4 (View.ld x0 r0_0) (View.ld x2 r0_1) (View.ld x3 r0_22) (View.ld x4 r0_22) (View.ld x5 r0_23))) := rfl

/-- So each row is the row function's. -/
theorem midBlk_at (r : Fin 512) (d : Fin 1024) : midBlk x0 x1 x2 x3 x4 x5 x6 x7 x8 (ix2 r d) =
    mid (fun k => x0 (ix2 r k)) (fun k => x2 (ix2 0 k)) (fun k j => x3 (ix2 k j)) (fun k j => x4 (ix2 k j)) (fun j k => x5 (ix2 j k)) d := by
  rw [midBlk_eq]
  unfold mid
  rw [sum_chunks]
  simp only [at_zero]
  pointwise [k0_pay2]
  simp only [pay4_at]
  pointwise []
  rfl

/-- The second half norms those rows as the first half did. -/
theorem pay15_at (a : FVec Ideal S512x1024 .f32) (b : FVec Ideal S512x1024 .bf16) (c : FVec Ideal S512x1024 .f32) (d : FVec Ideal S512x256 .f32)
    (e : Vec Ideal S1024x256 .bf16) (f : Vec Ideal S256x1024 .bf16) (g h : Vec Ideal S1024x256 .bf16) (i : Vec Ideal S256x1024 .bf16)
    (j : Vec Ideal S1x1024 .f32) (r : Fin 512) (k : Fin 1024) :
    k0_pay15 a b c d e f g h i j (ix2 r k) = rms (fun l => k0_pay14 a b c d e f g h i (ix2 r l)) (fun l => j (ix2 0 l)) k := by
  unfold rms
  pointwise [k0_pay15]

/-- The body's result. -/
theorem out_at (r : Fin 512) (d : Fin 1024) : out0_9 x0 x1 x2 x3 x4 x5 x6 x7 x8 (ix2 r d) =
    ple (mid (fun k => x0 (ix2 r k)) (fun k => x2 (ix2 0 k)) (fun k j => x3 (ix2 k j)) (fun k j => x4 (ix2 k j)) (fun j k => x5 (ix2 j k)))
      (fun k => x1 (ix2 r k)) (fun k => x6 (ix2 0 k)) (fun k j => x7 (ix2 k j)) (fun k j => x8 (ix2 k j)) d := by
  have h : mid (fun k => x0 (ix2 r k)) (fun k => x2 (ix2 0 k)) (fun k j => x3 (ix2 k j)) (fun k j => x4 (ix2 k j)) (fun j k => x5 (ix2 j k))
      = fun k => midBlk x0 x1 x2 x3 x4 x5 x6 x7 x8 (ix2 r k) := funext fun k => (midBlk_at x0 x1 x2 x3 x4 x5 x6 x7 x8 r k).symm
  rw [h]
  unfold ple out0_9
  rw [View.canon_unit_zero (by funext a; fin_cases a <;> rfl)]
  pointwise [k0_pay1]
  simp only [pay15_at]
  unfold midBlk
  pointwise []

end Cert.Proof.Ffn

end
-- ==== Proof.FfnKernel.lean ====
/- The array the kernel leaves: the row function of every row of the two flattened inputs. -/
module

public import proofs.«01_k».proof.Proof.FfnBlock
public import Idealize.ShloMosaic.Lib.Pipeline.ValueKit

@[expose] public section

set_option maxRecDepth 16384

noncomputable section

namespace Cert.Proof.Ffn

open Cert.FfnIdeal Cert.FfnIdeal.Gen Idealize.ShloMosaic Idealize.ShloMosaic.TcCoe

variable (m : (ℓ : Loc nD τ sig) → Buf (Elt Ideal) ℓ)

/-- What the kernel's result holds. -/
def res (c : Dev nD) : Vec Ideal S32768x1024 .f32 := fun i =>
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    ⟨(i 0).val / 4096, by have := (i 0).isLt; change _ < 32768 at this; omega⟩ ⟨(i 0).val % 4096, by omega⟩ ⟨(i 1).val, (i 1).isLt⟩

/-- Where the windows stand at each point: the two inputs and the result at row block `t`, the weights in place. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

/-- The sequence row `r` of block `t` belongs to. -/
def seqOf (t : Fin cfg0.N) (r : Fin 512) : Fin 8 := ⟨(t.val * 512 + r.val) / 4096, by have := t.isLt; change _ < 64 at this; omega⟩

/-- Its place in that sequence. -/
def posOf (t : Fin cfg0.N) (r : Fin 512) : Fin 4096 := ⟨(t.val * 512 + r.val) % 4096, by omega⟩

/-- A row of the residual stream's block. -/
theorem blk0 (c : Dev nD) (t : Fin cfg0.N) (r : Fin 512) (k : Fin 1024) : iblk m c 0 t (ix2 r k) = m ((c : Thread nD τ).loc main_arg0) (ix3 (seqOf t r) (posOf t r) k) := by
  blk_ext! [iblk, V, idx t]
  all_goals simp only [seqOf, posOf]

/-- A row of the embedding's block. -/
theorem blk1 (c : Dev nD) (t : Fin cfg0.N) (r : Fin 512) (k : Fin 256) : iblk m c 1 t (ix2 r k) = m ((c : Thread nD τ).loc main_arg1) (ix3 (seqOf t r) (posOf t r) k) := by
  blk_ext! [iblk, V, idx t]
  all_goals simp only [seqOf, posOf]

/-- The first gain. -/
theorem blk2 (c : Dev nD) (t : Fin cfg0.N) (k : Fin 1024) : iblk m c 2 t (ix2 0 k) = m ((c : Thread nD τ).loc main_arg2) (ix1 k) := by
  blk_ext! [iblk, V, idx t]

/-- A weight matrix, rounding aside. -/
theorem blk3 (c : Dev nD) (t : Fin cfg0.N) (k : Fin 1024) (j : Fin 2816) : iblk m c 3 t (ix2 k j) = m ((c : Thread nD τ).loc main_arg3) (ix2 k j) := by
  blk_ext! [iblk, V, idx t]

/-- A weight matrix, rounding aside. -/
theorem blk4 (c : Dev nD) (t : Fin cfg0.N) (k : Fin 1024) (j : Fin 2816) : iblk m c 4 t (ix2 k j) = m ((c : Thread nD τ).loc main_arg4) (ix2 k j) := by
  blk_ext! [iblk, V, idx t]

/-- A weight matrix, rounding aside. -/
theorem blk5 (c : Dev nD) (t : Fin cfg0.N) (k : Fin 2816) (j : Fin 1024) : iblk m c 5 t (ix2 k j) = m ((c : Thread nD τ).loc main_arg5) (ix2 k j) := by
  blk_ext! [iblk, V, idx t]

/-- A weight matrix, rounding aside. -/
theorem blk7 (c : Dev nD) (t : Fin cfg0.N) (k : Fin 1024) (j : Fin 1024) : iblk m c 7 t (ix2 k j) = m ((c : Thread nD τ).loc main_arg7) (ix2 k j) := by
  blk_ext! [iblk, V, idx t]

/-- A weight matrix, rounding aside. -/
theorem blk8 (c : Dev nD) (t : Fin cfg0.N) (k : Fin 256) (j : Fin 1024) : iblk m c 8 t (ix2 k j) = m ((c : Thread nD τ).loc main_arg8) (ix2 k j) := by
  blk_ext! [iblk, V, idx t]

/-- The second gain. -/
theorem blk6 (c : Dev nD) (t : Fin cfg0.N) (k : Fin 1024) : iblk m c 6 t (ix2 0 k) = m ((c : Thread nD τ).loc main_arg6) (ix1 k) := by
  blk_ext! [iblk, V, idx t]

theorem arr_eq (c : Dev nD) : (dats m 0 c).arrAt 9 cfg0.N = res m c := by
  refine (dats m 0 c).arrAt_eq_of_covers 9 _ (by decide +kernel) fun t hf y => ?_
  blk_simp
  rw [after0_9]
  idx_vars y
  rw [out_at]
  simp only [blk0, blk1, blk2, blk3, blk4, blk5, blk6, blk7, blk8]
  have e0 : ((((View.whole main_v9).slice (win0_9.rect t)).emb (ix2 y0 y1) 0 : Fin _) : ℕ) = t.val * 512 + y0.val := by
    blk_simp [idx t]
  have e1 : ((((View.whole main_v9).slice (win0_9.rect t)).emb (ix2 y0 y1) 1 : Fin _) : ℕ) = y1.val := by
    blk_simp [idx t]
  unfold res G seqOf posOf
  simp only [e0, e1]

end Cert.Proof.Ffn

end
-- ==== Proof.FfnReference.lean ====
/- The array the reference leaves: the same row function of every row. -/
module

public import proofs.«01_k».proof.Proof.FfnRow
public import proofs.«01_k».proof.Proof.Gen.FfnReferenceIdeal.Run

@[expose] public section

set_option maxRecDepth 16384

noncomputable section

namespace Cert.Proof.FfnRef

open Cert.FfnReferenceIdeal Cert.FfnReferenceIdeal.Gen Cert.FfnReferenceIdeal.Value Cert.Proof.Ffn Idealize.ShloMosaic Idealize.ShloMosaic.TcCoe

/-- The normed rows of `x`. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The hidden units of the normed rows `u`. -/
def hidden (u : FVec Ideal S8x4096x1024 .f32) (a b : FVec Ideal S1024x2816 .f32) : FVec Ideal S8x4096x2816 .f32 :=
  mulf (mulf (Host.dotGeneral dot_S8x4096x1024_S1024x2816_S8x4096x2816_2_0_01_1_n_n none u a)
    (Host.divf (broadcastInDim S8x4096x2816 ![] bcast_S_S8x4096x2816 (constant S_ .f32 0x3F800000#32))
      (addf (broadcastInDim S8x4096x2816 ![] bcast_S_S8x4096x2816 (constant S_ .f32 0x3F800000#32))
        (Host.exp (Host.negf (Host.dotGeneral dot_S8x4096x1024_S1024x2816_S8x4096x2816_2_0_01_1_n_n none u a))))))
    (Host.dotGeneral dot_S8x4096x1024_S1024x2816_S8x4096x2816_2_0_01_1_n_n none u b)

/-- The rows after the feed-forward network. -/
def ffn (x : FVec Ideal S8x4096x1024 .f32) (g : FVec Ideal S1024 .f32) (a b : FVec Ideal S1024x2816 .f32) (w : FVec Ideal S2816x1024 .f32) :
    FVec Ideal S8x4096x1024 .f32 :=
  addf x (Host.dotGeneral dot_S8x4096x2816_S2816x1024_S8x4096x1024_2_0_01_1_n_n none (hidden (norm x g) a b) w)

/-- The rows after the gated embedding. -/
def gated (y : FVec Ideal S8x4096x1024 .f32) (p : FVec Ideal S8x4096x256 .f32) (g : FVec Ideal S1024 .f32) (a : FVec Ideal S1024x1024 .f32)
    (b : FVec Ideal S256x1024 .f32) : FVec Ideal S8x4096x1024 .f32 :=
  addf y (mulf (Host.divf (broadcastInDim S8x4096x1024 ![] bcast_S_S8x4096x1024 (constant S_ .f32 0x3F800000#32))
      (addf (broadcastInDim S8x4096x1024 ![] bcast_S_S8x4096x1024 (constant S_ .f32 0x3F800000#32))
        (Host.exp (Host.negf (Host.dotGeneral dot_S8x4096x1024_S1024x1024_S8x4096x1024_2_0_01_1_n_n none (norm y g) a)))))
    (Host.dotGeneral dot_S8x4096x256_S256x1024_S8x4096x1024_2_0_01_1_n_n none p b))

theorem norm_at (x : FVec Ideal S8x4096x1024 .f32) (g : FVec Ideal S1024 .f32) (s : Fin 8) (q : Fin 4096) (d : Fin 1024) :
    norm x g (ix3 s q d) = rms (fun k => x (ix3 s q k)) (fun k => g (ix1 k)) d := by
  unfold rms
  pointwise [norm]

theorem hidden_at (u : FVec Ideal S8x4096x1024 .f32) (a b : FVec Ideal S1024x2816 .f32) (s : Fin 8) (q : Fin 4096) (j : Fin 2816) :
    hidden u a b (ix3 s q j) = unit (fun k => u (ix3 s q k)) (fun k => a (ix2 k j)) (fun k => b (ix2 k j)) := by
  unfold unit
  pointwise [hidden]
  rfl

theorem ffn_at (x : FVec Ideal S8x4096x1024 .f32) (g : FVec Ideal S1024 .f32) (a b : FVec Ideal S1024x2816 .f32) (w : FVec Ideal S2816x1024 .f32)
    (s : Fin 8) (q : Fin 4096) (d : Fin 1024) :
    ffn x g a b w (ix3 s q d) = mid (fun k => x (ix3 s q k)) (fun k => g (ix1 k)) (fun k j => a (ix2 k j)) (fun k j => b (ix2 k j))
      (fun j k => w (ix2 j k)) d := by
  unfold mid
  pointwise [ffn]
  simp only [hidden_at, norm_at]

theorem gated_at (y : FVec Ideal S8x4096x1024 .f32) (p : FVec Ideal S8x4096x256 .f32) (g : FVec Ideal S1024 .f32) (a : FVec Ideal S1024x1024 .f32)
    (b : FVec Ideal S256x1024 .f32) (s : Fin 8) (q : Fin 4096) (d : Fin 1024) :
    gated y p g a b (ix3 s q d) = ple (fun k => y (ix3 s q k)) (fun k => p (ix3 s q k)) (fun k => g (ix1 k)) (fun k j => a (ix2 k j))
      (fun k j => b (ix2 k j)) d := by
  unfold ple
  pointwise [gated]
  simp only [norm_at]
  rfl

variable (m : (ℓ : Loc nD τ sig) → Buf (Elt Ideal) ℓ)

theorem out_eq (c : Dev nD) : res_out0 m c = shapeCast _ (gated
      (ffn (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)))
      (m ((c.tc : Thread nD τ).loc main_arg1)) (m ((c.tc : Thread nD τ).loc main_arg6)) (m ((c.tc : Thread nD τ).loc main_arg7))
      (m ((c.tc : Thread nD τ).loc main_arg8))) shapeCasts_S8x4096x1024_S32768x1024 := rfl

/-- What the reference's result holds. -/
theorem out_at (c : Dev nD) (r : Fin 32768) (d : Fin 1024) : res_out0 m c (ix2 r d) =
    G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      ⟨r.val / 4096, by omega⟩ ⟨r.val % 4096, by omega⟩ d := by
  rw [out_eq]
  unfold G
  pointwise []
  simp only [gated_at, ffn_at]

end Cert.Proof.FfnRef

end
-- ==== Proof.FfnClaims.lean ====
/- The claims of the feed-forward call, assembled. -/
module

public import proofs.«01_k».proof.Defs
public import proofs.«01_k».proof.Proof.FfnKernel
public import proofs.«01_k».proof.Proof.FfnReference
public import proofs.«01_k».proof.Proof.Gen.Ffn.Frame
public import Idealize.ShloMosaic.Lib.Quiescent

@[expose] public section

set_option maxRecDepth 16384

noncomputable section

namespace Cert.Proof

open Idealize.ShloMosaic Idealize.SL.Sem

/-- The frame of the call, as printed. -/
theorem frame_ffn : Cert.quiescent_Ffn := fun m ρ _ => Cert.Ffn.Gen.frame m ρ

/-- The frame of the call on the extended reals. -/
theorem frame_ffn_ideal : Cert.quiescent_FfnIdeal := fun m ρ _ => Cert.FfnIdeal.Gen.frame m ρ

/-- The frame of the reference: it declares no semaphore. -/
theorem frame_ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- Nothing was rewritten. -/
theorem preserves_ffn : Cert.preserves_Ffn_FfnIdeal := trivial

/-- Kernel and reference end with the same array: the row function of every row. -/
theorem algebraic_ffn : Cert.algebraic_FfnIdeal_FfnReferenceIdeal := by
  intro m ρ m' ρ' _ hagree
  refine ⟨fun c => Ffn.res m c, ?_, ?_⟩
  · exact (θ_run Cert.FfnIdeal.defs _ _).mono (fun _ h c => ⟨(h c).1.trans (Ffn.arr_eq m c), (h c).2⟩)
      (Cert.FfnIdeal.Value.run_blocks (F := Ideal) m ρ)
  · refine (θ_run Cert.FfnReferenceIdeal.defs _ _).mono (fun _ h c => ⟨(h c).1.trans ?_, (h c).2⟩)
      (Cert.FfnReferenceIdeal.Value.run (F := Ideal) m' ρ')
    obtain ⟨h0, h1, h2, h3, h4, h5, h6, h7, h8⟩ := hagree c
    funext i
    rw [eq_ix2 i]
    refine (FfnRef.out_at m' c (i 0) (i 1)).trans ?_
    rw [h0, h1, h2, h3, h4, h5, h6, h7, h8]
    rfl

end Cert.Proof

end
-- ==== Proof.GateKernel.lean ====
/- The gate projection's kernel: its result holds, of every row, the logistic of the normed row's product with the weights
   plus the bias. -/
module

public import proofs.«01_k».proof.Proof.FfnRow
public import proofs.«01_k».proof.Proof.Gen.GateIdeal.Value
public import Idealize.ShloMosaic.Lib.Pipeline.ValueKit

@[expose] public section

set_option maxRecDepth 16384

noncomputable section

namespace Cert.Proof.Gate

open Cert.GateIdeal Cert.GateIdeal.Gen Cert.Proof.Ffn Idealize.ShloMosaic Idealize.ShloMosaic.TcCoe

/-- One gate: from the row `x`, the gain `g`, the gate's weight column `a` and its bias `b`. -/
def gate (x g a : Fin 1024 → EReal) (b : EReal) : EReal := Ideal.logistic ((∑ k, rms x g k * a k) + b)

/-- The normed rows. -/
theorem pay2_at (x : Vec Ideal S1024x1024 .f32) (g : Vec Ideal S1x1024 .f32) (r : Fin 1024) (d : Fin 1024) :
    k0_pay2 x g (ix2 r d) = rms (fun k => x (ix2 r k)) (fun k => g (ix2 0 k)) d := by
  unfold rms
  pointwise [k0_pay2]

/-- One block of 512 gates. -/
theorem pay3_at (x : Vec Ideal S1024x1024 .f32) (g : Vec Ideal S1x1024 .f32) (w : Vec Ideal S1024x512 .bf16) (b : Vec Ideal S1x512 .f32)
    (r : Fin 1024) (d : Fin 512) :
    k0_pay3 x g w b (ix2 r d) = gate (fun k => x (ix2 r k)) (fun k => g (ix2 0 k)) (fun k => w (ix2 k d)) (b (ix2 0 d)) := by
  unfold gate
  simp only [← pay2_at]
  pointwise [k0_pay3]

variable (x0 : Vec Ideal S1024x1024 .f32) (x1 : Vec Ideal S1x1024 .f32) (x2 : Vec Ideal S1024x3072 .bf16) (x3 : Vec Ideal S1x3072 .f32)

/-- The six blocks are made alike. -/
theorem out_eq : out0_4 x0 x1 x2 x3 = View.canon
    [⟨r0_12, k0_pay3 (View.ld x0 r0_0) (View.ld x1 r0_1) (View.ld x2 r0_12) (View.ld x3 r0_13)⟩,
     ⟨r0_10, k0_pay3 (View.ld x0 r0_0) (View.ld x1 r0_1) (View.ld x2 r0_10) (View.ld x3 r0_11)⟩,
     ⟨r0_8, k0_pay3 (View.ld x0 r0_0) (View.ld x1 r0_1) (View.ld x2 r0_8) (View.ld x3 r0_9)⟩,
     ⟨r0_6, k0_pay3 (View.ld x0 r0_0) (View.ld x1 r0_1) (View.ld x2 r0_6) (View.ld x3 r0_7)⟩,
     ⟨r0_4, k0_pay3 (View.ld x0 r0_0) (View.ld x1 r0_1) (View.ld x2 r0_4) (View.ld x3 r0_5)⟩,
     ⟨r0_2, k0_pay3 (View.ld x0 r0_0) (View.ld x1 r0_1) (View.ld x2 r0_2) (View.ld x3 r0_3)⟩] := rfl

/-- The body's result. -/
theorem out_at (r : Fin 1024) (d : Fin 3072) : out0_4 x0 x1 x2 x3 (ix2 r d) =
    gate (fun k => x0 (ix2 r k)) (fun k => x1 (ix2 0 k)) (fun k => x2 (ix2 k d)) (x3 (ix2 0 d)) := by
  rw [out_eq]
  canon_tiles x h
  all_goals
    idx_vars x
    obtain rfl : r = x0 := Fin.ext h0
    rw [pay3_at]
    pointwise []
    simp only [← h1]

variable (m : (ℓ : Loc nD τ sig) → Buf (Elt Ideal) ℓ)

/-- The gates of place `q` of sequence `s`, from the four arguments. -/
def G (h : Shape.Idx ⟨3, ![8, 4096, 1024]⟩ → EReal) (g : Shape.Idx ⟨1, ![1024]⟩ → EReal) (w : Shape.Idx ⟨2, ![1024, 3072]⟩ → EReal)
    (b : Shape.Idx ⟨1, ![3072]⟩ → EReal) (s : Fin 8) (q : Fin 4096) (d : Fin 3072) : EReal :=
  gate (fun k => h (ix3 s q k)) (fun k => g (ix1 k)) (fun k => w (ix2 k d)) (b (ix1 d))

/-- What the kernel's result holds. -/
def res (c : Dev nD) : Vec Ideal S32768x3072 .bf16 := fun i =>
  G (m ((c : Thread nD τ).loc main_arg0)) (m ((c : Thread nD τ).loc main_arg1)) (m ((c : Thread nD τ).loc main_arg2))
    (m ((c : Thread nD τ).loc main_arg3))
    ⟨(i 0).val / 4096, by have := (i 0).isLt; change _ < 32768 at this; omega⟩ ⟨(i 0).val % 4096, by omega⟩ ⟨(i 1).val, (i 1).isLt⟩

/-- Where the windows stand at each point: the input and the result at row block `t`, the rest in place. -/
theorem idx : ∀ t : Fin cfg0.N, win0_0.index t = ![t.val, 0] ∧ win0_1.index t = ![0, 0] ∧ win0_2.index t = ![0, 0] ∧ win0_3.index t = ![0, 0]
    ∧ win0_4.index t = ![t.val, 0] :=
  (by decide +kernel : ∀ t : Fin grid0.N, _)

/-- The sequence row `r` of block `t` belongs to. -/
def seqOf (t : Fin cfg0.N) (r : Fin 1024) : Fin 8 := ⟨(t.val * 1024 + r.val) / 4096, by have := t.isLt; change _ < 32 at this; omega⟩

/-- Its place in that sequence. -/
def posOf (t : Fin cfg0.N) (r : Fin 1024) : Fin 4096 := ⟨(t.val * 1024 + r.val) % 4096, by omega⟩

/-- A row of the residual stream's block. -/
theorem blk0 (c : Dev nD) (t : Fin cfg0.N) (r : Fin 1024) (k : Fin 1024) : iblk m c 0 t (ix2 r k) = m ((c : Thread nD τ).loc main_arg0) (ix3 (seqOf t r) (posOf t r) k) := by
  blk_ext! [iblk, V, idx t]
  all_goals simp only [seqOf, posOf]

/-- The gain. -/
theorem blk1 (c : Dev nD) (t : Fin cfg0.N) (k : Fin 1024) : iblk m c 1 t (ix2 0 k) = m ((c : Thread nD τ).loc main_arg1) (ix1 k) := by
  blk_ext! [iblk, V, idx t]

/-- The weights, rounding aside. -/
theorem blk2 (c : Dev nD) (t : Fin cfg0.N) (k : Fin 1024) (j : Fin 3072) : iblk m c 2 t (ix2 k j) = m ((c : Thread nD τ).loc main_arg2) (ix2 k j) := by
  blk_ext! [iblk, V, idx t]

/-- The bias. -/
theorem blk3 (c : Dev nD) (t : Fin cfg0.N) (k : Fin 3072) : iblk m c 3 t (ix2 0 k) = m ((c : Thread nD τ).loc main_arg3) (ix1 k) := by
  blk_ext! [iblk, V, idx t]

theorem arr_eq (c : Dev nD) : (dats m 0 c).arrAt 4 cfg0.N = res m c := by
  refine (dats m 0 c).arrAt_eq_of_covers 4 _ (by decide +kernel) fun t hf y => ?_
  blk_simp
  rw [after0_4]
  idx_vars y
  rw [out_at]
  simp only [blk0, blk1, blk2, blk3]
  have e0 : ((((View.whole main_v4).slice (win0_4.rect t)).emb (ix2 y0 y1) 0 : Fin _) : ℕ) = t.val * 1024 + y0.val := by
    blk_simp [idx t]
  have e1 : ((((View.whole main_v4).slice (win0_4.rect t)).emb (ix2 y0 y1) 1 : Fin _) : ℕ) = y1.val := by
    blk_simp [idx t]
  unfold res G seqOf posOf
  simp only [e0, e1]

end Cert.Proof.Gate

end
-- ==== Proof.GateReference.lean ====
/- The gate projection's reference: the same gates. -/
module

public import proofs.«01_k».proof.Proof.GateKernel
public import proofs.«01_k».proof.Proof.Gen.GateReferenceIdeal.Run

@[expose] public section

set_option maxRecDepth 16384

noncomputable section

namespace Cert.Proof.GateRef

open Cert.GateReferenceIdeal Cert.GateReferenceIdeal.Gen Cert.GateReferenceIdeal.Value Cert.Proof.Ffn Cert.Proof.Gate
open Idealize.ShloMosaic Idealize.ShloMosaic.TcCoe

/-- The normed rows of `x`. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The gates of the normed rows `u`. -/
def gates (u : FVec Ideal S8x4096x1024 .f32) (w : FVec Ideal S1024x3072 .f32) (b : FVec Ideal S3072 .f32) : FVec Ideal S8x4096x3072 .f32 :=
  Host.divf (broadcastInDim S8x4096x3072 ![] bcast_S_S8x4096x3072 (constant S_ .f32 0x3F800000#32))
    (addf (broadcastInDim S8x4096x3072 ![] bcast_S_S8x4096x3072 (constant S_ .f32 0x3F800000#32))
      (Host.exp (Host.negf (addf (Host.dotGeneral dot_S8x4096x1024_S1024x3072_S8x4096x3072_2_0_01_1_n_n none u w)
        (broadcastInDim S8x4096x3072 ![0, 1, 2] bcast_S1x1x3072_S8x4096x3072_0_1_2 (broadcastInDim S1x1x3072 ![2] bcast_S3072_S1x1x3072_2 b))))))

theorem norm_at (x : FVec Ideal S8x4096x1024 .f32) (g : FVec Ideal S1024 .f32) (s : Fin 8) (q : Fin 4096) (d : Fin 1024) :
    norm x g (ix3 s q d) = rms (fun k => x (ix3 s q k)) (fun k => g (ix1 k)) d := by
  unfold rms
  pointwise [norm]

theorem gates_at (x : FVec Ideal S8x4096x1024 .f32) (g : FVec Ideal S1024 .f32) (w : FVec Ideal S1024x3072 .f32) (b : FVec Ideal S3072 .f32)
    (s : Fin 8) (q : Fin 4096) (d : Fin 3072) : gates (norm x g) w b (ix3 s q d) = Gate.G x g w b s q d := by
  unfold Gate.G gate
  simp only [← norm_at]
  pointwise [gates]
  rfl

variable (m : (ℓ : Loc nD τ sig) → Buf (Elt Ideal) ℓ)

/-- What the reference's result holds, as an array. -/
def out (c : Dev nD) : FVec Ideal S32768x3072 .bf16 := truncf .bf16 (shapeCast _ (gates
      (norm (m ((c.tc : Thread nD τ).loc main_arg0)) (m ((c.tc : Thread nD τ).loc main_arg1)))
      (m ((c.tc : Thread nD τ).loc main_arg2)) (m ((c.tc : Thread nD τ).loc main_arg3))) shapeCasts_S8x4096x3072_S32768x3072) bitsLt_bf16_f32

/-- And element by element. -/
theorem out_at (c : Dev nD) (r : Fin 32768) (d : Fin 3072) : out m c (ix2 r d) =
    Gate.G (m ((c.tc : Thread nD τ).loc main_arg0)) (m ((c.tc : Thread nD τ).loc main_arg1)) (m ((c.tc : Thread nD τ).loc main_arg2))
      (m ((c.tc : Thread nD τ).loc main_arg3)) ⟨r.val / 4096, by omega⟩ ⟨r.val % 4096, by omega⟩ d := by
  pointwise [out]
  simp only [gates_at]

end Cert.Proof.GateRef

end
-- ==== Proof.GateClaims.lean ====
/- The claims of the gate projection, assembled. -/
module

public import proofs.«01_k».proof.Defs
public import proofs.«01_k».proof.Proof.GateKernel
public import proofs.«01_k».proof.Proof.GateReference
public import proofs.«01_k».proof.Proof.Gen.Gate.Frame
public import Idealize.ShloMosaic.Lib.Quiescent

@[expose] public section

set_option maxRecDepth 16384

noncomputable section

namespace Cert.Proof

open Idealize.ShloMosaic Idealize.SL.Sem

/-- The frame of the call, as printed. -/
theorem frame_gate : Cert.quiescent_Gate := fun m ρ _ => Cert.Gate.Gen.frame m ρ

/-- The frame of the call on the extended reals. -/
theorem frame_gate_ideal : Cert.quiescent_GateIdeal := fun m ρ _ => Cert.GateIdeal.Gen.frame m ρ

/-- The frame of the reference: it declares no semaphore. -/
theorem frame_gate_reference : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Value.run (F := Ideal) m ρ)

/-- Nothing was rewritten. -/
theorem preserves_gate : Cert.preserves_Gate_GateIdeal := trivial

/-- Kernel and reference end with the same array: the gates of every row. -/
theorem algebraic_gate : Cert.algebraic_GateIdeal_GateReferenceIdeal := by
  intro m ρ m' ρ' _ hagree
  refine ⟨fun c => Gate.res m c, ?_, ?_⟩
  · exact (θ_run Cert.GateIdeal.defs _ _).mono (fun _ h c => ⟨(h c).1.trans (Gate.arr_eq m c), (h c).2⟩)
      (Cert.GateIdeal.Value.run_blocks (F := Ideal) m ρ)
  · refine (θ_run Cert.GateReferenceIdeal.defs _ _).mono (fun _ h c => ⟨(h c).1.trans ?_, (h c).2⟩)
      (Cert.GateReferenceIdeal.Value.run (F := Ideal) m' ρ')
    obtain ⟨h0, h1, h2, h3⟩ := hagree c
    change GateRef.out m' c = _
    funext i
    rw [eq_ix2 i]
    refine (GateRef.out_at m' c (i 0) (i 1)).trans ?_
    rw [h0, h1, h2, h3]
    rfl

end Cert.Proof

end
-- ==== Proof.PlainRow.lean ====
/- Where each column of the second projected array comes from: the layer's input weights, regrouped by branch and padded with
   zero columns. -/
module

public import proofs.«01_k».proof.Proof.FfnRow

@[expose] public section

set_option maxRecDepth 16384

noncomputable section

namespace Cert.Proof.Plain

open Idealize.ShloMosaic Cert.Proof.Ffn

/-- A quantity `f` of the source columns, at column `d` of the regrouped array; zero at the padding. -/
def pick (f : Fin 6872 → EReal) (d : Fin 5120) : EReal :=
  if h : d.val < 1024 then f ⟨3328 + d.val, by omega⟩
  else if h : d.val - 1024 < 1024 then f ⟨4352 + (d.val - 1024), by omega⟩
  else if h : d.val - 1024 - 1024 < 512 then f ⟨2304 + (d.val - 1024 - 1024), by omega⟩
  else if h : d.val - 1024 - 1024 - 512 < 512 then f ⟨2816 + (d.val - 1024 - 1024 - 512), by omega⟩
  else if h : d.val - 1024 - 1024 - 512 - 512 < 512 then f ⟨6288 + (d.val - 1024 - 1024 - 512 - 512), by omega⟩
  else if h : d.val - 1024 - 1024 - 512 - 512 - 512 < 768 then f ⟨1536 + (d.val - 1024 - 1024 - 512 - 512 - 512), by omega⟩
  else if h : d.val - 1024 - 1024 - 512 - 512 - 512 - 768 < 128 then
    if h : d.val - 1024 - 1024 - 512 - 512 - 512 - 768 < 16 then f ⟨5376 + (d.val - 1024 - 1024 - 512 - 512 - 512 - 768), by omega⟩ else 0
  else if h : d.val - 1024 - 1024 - 512 - 512 - 512 - 768 - 128 < 128 then
    if h : d.val - 1024 - 1024 - 512 - 512 - 512 - 768 - 128 < 64 then f ⟨6224 + (d.val - 1024 - 1024 - 512 - 512 - 512 - 768 - 128), by omega⟩ else 0
  else if h : d.val - 1024 - 1024 - 512 - 512 - 512 - 768 - 128 - 128 < 128 then
    if h : d.val - 1024 - 1024 - 512 - 512 - 512 - 768 - 128 - 128 < 64 then f ⟨6800 + (d.val - 1024 - 1024 - 512 - 512 - 512 - 768 - 128 - 128), by omega⟩ else 0
  else if h : d.val - 1024 - 1024 - 512 - 512 - 512 - 768 - 128 - 128 - 128 < 8 then
    f ⟨6864 + (d.val - 1024 - 1024 - 512 - 512 - 512 - 768 - 128 - 128 - 128), by omega⟩
  else 0

/-- A quantity read at one source column, or zero. -/
def Reads (Q : (Fin 6872 → EReal) → EReal) : Prop := ∃ e : Option (Fin 6872), ∀ f, Q f = e.elim 0 f

theorem reads_dite {p : Prop} [Decidable p] {A : p → (Fin 6872 → EReal) → EReal} {B : ¬p → (Fin 6872 → EReal) → EReal}
    (hA : ∀ h, Reads (A h)) (hB : ∀ h, Reads (B h)) : Reads (fun f => if h : p then A h f else B h f) := by
  by_cases h : p
  · simp only [dif_pos h]
    exact hA h
  · simp only [dif_neg h]
    exact hB h

theorem reads_one (j : Fin 6872) : Reads (fun f => f j) := ⟨some j, fun _ => rfl⟩

theorem reads_zero : Reads (fun _ => 0) := ⟨none, fun _ => rfl⟩

theorem reads_pick (d : Fin 5120) : Reads (fun f => pick f d) := by
  unfold pick
  iterate 6 refine reads_dite (fun _ => reads_one _) (fun _ => ?_)
  iterate 3 refine reads_dite (fun _ => reads_dite (fun _ => reads_one _) (fun _ => reads_zero)) (fun _ => ?_)
  exact reads_dite (fun _ => reads_one _) (fun _ => reads_zero)

/-- Picking columns of the weights and then multiplying is picking columns of the product. -/
theorem sum_pick (u : Fin 1024 → EReal) (w : Fin 1024 → Fin 6872 → EReal) (d : Fin 5120) :
    ∑ k, u k * pick (w k) d = pick (fun j => ∑ k, u k * w k j) d := by
  obtain ⟨e, he⟩ := reads_pick d
  simp only [he]
  cases e with
  | none => simp only [Option.elim_none, mul_zero, Finset.sum_const_zero]
  | some e => rfl

/-- The values' columns. -/
theorem pick_v (f : Fin 6872 → EReal) (d : Fin 5120) (h : 3584 ≤ d.val) (h' : d.val < 4352) : pick f d = f ⟨d.val - 2048, by omega⟩ := by
  unfold pick
  rw [dif_neg (by omega), dif_neg (by omega), dif_neg (by omega), dif_neg (by omega), dif_neg (by omega), dif_pos (by omega)]
  refine congrArg f (Fin.ext ?_)
  change 1536 + (d.val - 1024 - 1024 - 512 - 512 - 512) = d.val - 2048
  omega

end Cert.Proof.Plain

end
-- ==== Proof.PlainWeights.lean ====
/- The second projection's weights as the host lines regroup them. -/
module

public import proofs.«01_k».proof.Proof.PlainRow
public import proofs.«01_k».proof.Proof.Gen.PlainIdeal.Value
public import Idealize.ShloMosaic.Lib.Pipeline.ValueKit

@[expose] public section

set_option maxRecDepth 16384

noncomputable section

namespace Cert.Proof.Plain

open Cert.PlainIdeal Cert.PlainIdeal.Gen Cert.Proof.Ffn Idealize.ShloMosaic Idealize.ShloMosaic.TcCoe

variable (m : (ℓ : Loc nD τ sig) → Buf (Elt Ideal) ℓ)

/-- The ten pieces side by side. -/
def cat (a0 : Vec Ideal S1024x1024 .f32) (a1 : Vec Ideal S1024x1024 .f32) (a2 : Vec Ideal S1024x512 .f32) (a3 : Vec Ideal S1024x512 .f32) (a4 : Vec Ideal S1024x512 .f32) (a5 : Vec Ideal S1024x768 .f32) (a6 : Vec Ideal S1024x128 .f32) (a7 : Vec Ideal S1024x128 .f32) (a8 : Vec Ideal S1024x128 .f32) (a9 : Vec Ideal S1024x128 .f32) : Vec Ideal S1024x4864 .f32 :=
  concatenate S1024x4864 1 [⟨S1024x1024, a0⟩, ⟨S1024x1024, a1⟩, ⟨S1024x512, a2⟩, ⟨S1024x512, a3⟩, ⟨S1024x512, a4⟩, ⟨S1024x768, a5⟩, ⟨S1024x128, a6⟩, ⟨S1024x128, a7⟩, ⟨S1024x128, a8⟩, ⟨S1024x128, a9⟩]
    concatenates_S1024x1024_S1024x1024_S1024x512_S1024x512_S1024x512_S1024x768_S1024x128_S1024x128_S1024x128_S1024x128_S1024x4864_d1

theorem ops_cat : (hostOps0_8 : List (HloOp τ sig (Elt Ideal))) =
    [StableHlo.nary ![main_v5, main_v6, main_v3, main_v4, main_v11, main_v2, main_v14, main_v15, main_v16, main_v17] main_v18
      (fun u => cat (u 0) (u 1) (u 2) (u 3) (u 4) (u 5) (u 6) (u 7) (u 8) (u 9)), StableHlo.nullary main_c_3 (constantI S_ 32 0#32)] := rfl

set_option maxHeartbeats 4000000 in
/-- The weights, rounding aside. -/
theorem weights_at (c : Dev nD) (k : Fin 1024) (j : Fin 5120) : V m c main_v20 (ix2 k j)
    = pick (fun j => m ((c : Thread nD τ).loc main_arg2) (ix2 k j)) j := by
  simp only [V, hostOps0, hostOps0_1, hostOps0_2, hostOps0_3, hostOps0_4, hostOps0_5, hostOps0_6, hostOps0_7, ops_cat, hostOps0_9, hostOps0_10,
    List.flatten_cons, List.flatten_nil, List.cons_append, List.nil_append, List.append_nil, StableHlo.TRef.unary, StableHlo.TRef.binary,
    StableHlo.TRef.toBuf, StableHlo.TRef.ofBuf, cast_eq]
  after_results_simp
  dsimp only [Matrix.cons_val]
  after_results_simp
  pointwise [cat]
  have z : FloatOps.sitofp (F := Ideal) FTy.f32 0#32 = (0 : EReal) := by
    change (((0#32 : BitVec 32).toInt : ℝ) : EReal) = 0
    simp
  simp only [z]
  by_cases h : j.val < 4864
  · rw [dif_pos h]
    rfl
  · rw [dif_neg h]
    unfold pick
    repeat rw [dif_neg (by omega)]

/-- The residual stream, one row for each place of each sequence. -/
theorem rows_at (c : Dev nD) (r : Fin 32768) (k : Fin 1024) : V m c main_v22 (ix2 r k)
    = m ((c : Thread nD τ).loc main_arg0) (ix3 ⟨r.val / 4096, by omega⟩ ⟨r.val % 4096, by omega⟩ k) := by
  simp only [V, hostOps0, hostOps0_1, hostOps0_2, hostOps0_3, hostOps0_4, hostOps0_5, hostOps0_6, hostOps0_7, ops_cat, hostOps0_9, hostOps0_10,
    List.flatten_cons, List.flatten_nil, List.cons_append, List.nil_append, List.append_nil, StableHlo.TRef.unary, StableHlo.TRef.binary,
    StableHlo.TRef.toBuf, StableHlo.TRef.ofBuf, cast_eq]
  after_results_simp
  pointwise []

/-- The gain. -/
theorem gain_at (c : Dev nD) (k : Fin 1024) : V m c main_v23 (ix2 0 k) = m ((c : Thread nD τ).loc main_arg1) (ix1 k) := by
  simp only [V, hostOps0, hostOps0_1, hostOps0_2, hostOps0_3, hostOps0_4, hostOps0_5, hostOps0_6, hostOps0_7, ops_cat, hostOps0_9, hostOps0_10,
    List.flatten_cons, List.flatten_nil, List.cons_append, List.nil_append, List.append_nil, StableHlo.TRef.unary, StableHlo.TRef.binary,
    StableHlo.TRef.toBuf, StableHlo.TRef.ofBuf, cast_eq]
  after_results_simp
  pointwise []

end Cert.Proof.Plain

end
-- ==== Proof.PlainKernel.lean ====
/- The second projection's kernel: its three results hold the normed rows' products with the regrouped weights, the second and
   third regrouped by phase of the place in the sequence. -/
module

public import proofs.«01_k».proof.Proof.PlainWeights

@[expose] public section

set_option maxRecDepth 16384

noncomputable section

namespace Cert.Proof.Plain

open Cert.PlainIdeal Cert.PlainIdeal.Gen Cert.Proof.Ffn Idealize.ShloMosaic Idealize.ShloMosaic.TcCoe

/-- The normed rows. -/
theorem pay4_at (x : Vec Ideal S1024x1024 .f32) (g : Vec Ideal S1x1024 .f32) (r : Fin 1024) (d : Fin 1024) :
    k0_pay4 x g (ix2 r d) = rms (fun k => x (ix2 r k)) (fun k => g (ix2 0 k)) d := by
  unfold rms
  pointwise [k0_pay4]

/-- One block of 512 columns. -/
theorem pay12_at (u : Vec Ideal S1024x1024 .bf16) (w : Vec Ideal S1024x512 .bf16) (r : Fin 1024) (d : Fin 512) :
    k0_pay12 u w (ix2 r d) = ∑ k, u (ix2 r k) * w (ix2 k d) := by
  pointwise [k0_pay12]

theorem pay13_at (u : Vec Ideal S1024x1024 .bf16) (w : Vec Ideal S1024x512 .bf16) (r : Fin 1024) (d : Fin 512) :
    k0_pay13 u w (ix2 r d) = ∑ k, u (ix2 r k) * w (ix2 k d) := by
  rw [← pay12_at]
  pointwise [k0_pay13]

/-- The two halves of 128 values that the scratch keeps. -/
theorem pay14_at (u : Vec Ideal S1024x1024 .bf16) (w : Vec Ideal S1024x512 .bf16) (r : Fin 1024) (d : Fin 128) :
    k0_pay14 u w (ix3 0 r d) = ∑ k, u (ix2 r k) * w (ix2 k ⟨256 + d.val, by omega⟩) := by
  rw [← pay12_at]
  pointwise [k0_pay14]

theorem pay15_at (u : Vec Ideal S1024x1024 .bf16) (w : Vec Ideal S1024x512 .bf16) (r : Fin 1024) (d : Fin 128) :
    k0_pay15 (k0_pay12 u w) (ix3 0 r d) = ∑ k, u (ix2 r k) * w (ix2 k ⟨384 + d.val, by omega⟩) := by
  rw [← pay12_at]
  pointwise [k0_pay15]

theorem pay26_at (u : Vec Ideal S1024x1024 .bf16) (w : Vec Ideal S1024x512 .bf16) (r : Fin 1024) (d : Fin 128) :
    k0_pay26 u w (ix3 0 r d) = ∑ k, u (ix2 r k) * w (ix2 k ⟨d.val, by omega⟩) := by
  rw [← pay12_at]
  pointwise [k0_pay26]
  rfl

theorem pay27_at (u : Vec Ideal S1024x1024 .bf16) (w : Vec Ideal S1024x512 .bf16) (r : Fin 1024) (d : Fin 128) :
    k0_pay27 u w (ix3 0 r d) = ∑ k, u (ix2 r k) * w (ix2 k ⟨128 + d.val, by omega⟩) := by
  rw [← pay12_at]
  pointwise [k0_pay27]
  rfl

/-- One phase of one half. -/
theorem pay16_at (v : Vec Ideal S1x256x128 .f32) (r : Fin 256) (d : Fin 128) : k0_pay16 v (ix2 r d) = v (ix3 0 r d) := by
  pointwise [k0_pay16]

theorem pay28_at (v : Vec Ideal S1x64x128 .f32) (r : Fin 64) (d : Fin 128) : k0_pay28 v (ix2 r d) = v (ix3 0 r d) := by
  pointwise [k0_pay28]

variable (m : (ℓ : Loc nD τ sig) → Buf (Elt Ideal) ℓ)

/-- What the scratch holds when the second group's values are read. -/
theorem scr5_at (u : Vec Ideal S1024x1024 .bf16) (w : Vec Ideal S1024x5120 .bf16) (h : Fin 2) (r : Fin 1024) (d : Fin 128) (j : Fin 5120)
    (hj : j.val = 3840 + 128 * h.val + d.val) :
    (View.canon [⟨Rect.unit ![1, 0, 0] ![1, 1024, 128] inb_S2x1024x128_S1x1024x128_1_0_0,
        k0_pay15 (k0_pay12 u (View.ld w (Rect.unit ![0, 3584] ![1024, 512] inb_S1024x5120_S1024x512_0_3584)))⟩,
      ⟨Rect.unit ![0, 0, 0] ![1, 1024, 128] inb_S2x1024x128_S1x1024x128_0_0_0,
        k0_pay14 u (View.ld w (Rect.unit ![0, 3584] ![1024, 512] inb_S1024x5120_S1024x512_0_3584))⟩] :
      Vec Ideal S2x1024x128 .f32) (ix3 h r d) = ∑ k, u (ix2 r k) * w (ix2 k j) := by
  canon_tiles x h
  all_goals
    idx_vars x
    obtain rfl : r = x1 := Fin.ext h1
    obtain rfl : d = x2 := Fin.ext h2
    obtain rfl : x0 = 0 := Subsingleton.elim _ _
    first | rw [pay14_at] | rw [pay15_at]
    pointwise []
    simp only [Fin.val_zero] at h0
    refine Finset.sum_congr rfl fun k _ => congrArg (fun i => u (ix2 r k) * w (ix2 k i)) (Fin.ext ?_)
    change _ = j.val
    simp only
    omega

theorem out4_at (c : Dev nD) (t : Fin cfg0.N) (r : Fin 1024) (d : Fin 5120) : (outsAt0 m c t).1 (ix2 r d) =
    ∑ k, rms (fun k => iblk m c 0 t (ix2 r k)) (fun k => iblk m c 1 t (ix2 0 k)) k * iblk m c 2 t (ix2 k d) := by
  unfold outsAt0
  unfold out0_A_4
  rw [View.read_writes_junk_eq_canon]
  frame_out
  simp only [← pay4_at]
  canon_tiles x h
  all_goals
    idx_vars x
    obtain rfl : r = x0 := Fin.ext h0
    change k0_pay13 (k0_pay4 (iblk m c 0 t) (iblk m c 1 t)) _ (ix2 _ _) = _
    rw [pay13_at]
    pointwise []
    simp only [← h1]

/-- A place in the scratch by its coordinates. -/
theorem at_box (f : Vec Ideal S2x1024x128 .f32) (i : S2x1024x128.Idx) (h : Fin 2) (r : Fin 1024) (d : Fin 128)
    (hh : (i 0).val = h.val) (hr : (i 1).val = r.val) (hd : (i 2).val = d.val) : f i = f (ix3 h r d) := by
  obtain rfl : i 0 = h := Fin.ext hh
  obtain rfl : i 1 = r := Fin.ext hr
  obtain rfl : i 2 = d := Fin.ext hd
  exact congrArg f (eq_ix3 i)

/-- The body's second result. -/
theorem out5_at (c : Dev nD) (t : Fin cfg0.N) (r : Fin 256) (e : Fin 1024) : (outsAt0 m c t).2.1 (ix2 r e) =
    ∑ k, rms (fun k => iblk m c 0 t (ix2 ⟨4 * r.val + e.val / 256, by omega⟩ k)) (fun k => iblk m c 1 t (ix2 0 k)) k
      * iblk m c 2 t (ix2 k ⟨3840 + e.val % 256, by omega⟩) := by
  unfold outsAt0
  unfold out0_A_5
  rw [View.read_writes_junk_eq_canon]
  frame_out
  simp only [← pay4_at]
  canon_tiles x h
  all_goals
    idx_vars x
    obtain rfl : r = x0 := Fin.ext h0
    change k0_pay16 _ (ix2 _ _) = _
    rw [pay16_at, View.readCov_eq_canon']
    refine (at_box _ _ ⟨e.val / 128 % 2, by omega⟩ ⟨4 * r.val + e.val / 256, by omega⟩ ⟨e.val % 128, by omega⟩ ?_ ?_ ?_).trans
      (scr5_at _ _ _ _ _ _ ?_)
    all_goals
      simp [LoadRect.idx_apply]
      omega

end Cert.Proof.Plain

end
-- ==== Proof.PlainThird.lean ====
/- The second projection's kernel: its third result. -/
module

public import proofs.«01_k».proof.Proof.PlainKernel

@[expose] public section

set_option maxRecDepth 16384

noncomputable section

namespace Cert.Proof.Plain

open Cert.PlainIdeal Cert.PlainIdeal.Gen Cert.Proof.Ffn Idealize.ShloMosaic Idealize.ShloMosaic.TcCoe

/-- Writes older than two that hold a place do not count there. -/
theorem canon_prefix {s : Shape} {e : EltTy} (p q : View.Piece (Elt Ideal) s e) (L : List (View.Piece (Elt Ideal) s e)) (y : s.Idx)
    (h : y ∈ p.1.set ∨ y ∈ q.1.set) : View.canon (p :: q :: L) y = View.canon [p, q] y := by
  by_cases hp : y ∈ p.1.set
  · obtain ⟨R, w⟩ := p
    obtain ⟨x, rfl⟩ : ∃ x, R.emb x = y := R.exists_idx_of_mem hp
    rw [View.canon_cons_emb, View.canon_cons_emb]
  · rw [View.canon_cons_of_not_mem p _ hp, View.canon_cons_of_not_mem p _ hp]
    obtain ⟨R, w⟩ := q
    obtain ⟨x, rfl⟩ : ∃ x, R.emb x = y := R.exists_idx_of_mem (h.resolve_left hp)
    rw [View.canon_cons_emb, View.canon_cons_emb]

/-- Each place of the scratch lies in one of its halves. -/
theorem in_half (h : Fin 2) (r : Fin 1024) (d : Fin 128) :
    (ix3 h r d : S2x1024x128.Idx) ∈ (Rect.unit (s := S2x1024x128) ![1, 0, 0] ![1, 1024, 128] inb_S2x1024x128_S1x1024x128_1_0_0).set
    ∨ (ix3 h r d : S2x1024x128.Idx) ∈ (Rect.unit (s := S2x1024x128) ![0, 0, 0] ![1, 1024, 128] inb_S2x1024x128_S1x1024x128_0_0_0).set := by
  rw [LoadRect.mem_set, LoadRect.mem_set]
  rcases (by omega : h.val = 1 ∨ h.val = 0) with e | e
  · exact Or.inl fun
      | 0 => ⟨0, by decide, e⟩
      | 1 => ⟨r.val, r.isLt, (by simp : r.val = 0 + 1 * r.val)⟩
      | 2 => ⟨d.val, d.isLt, (by simp : d.val = 0 + 1 * d.val)⟩
  · exact Or.inr fun
      | 0 => ⟨0, by decide, e⟩
      | 1 => ⟨r.val, r.isLt, (by simp : r.val = 0 + 1 * r.val)⟩
      | 2 => ⟨d.val, d.isLt, (by simp : d.val = 0 + 1 * d.val)⟩

/-- What the scratch holds when the third group's values are read. -/
theorem scr6_at (u : Vec Ideal S1024x1024 .bf16) (w : Vec Ideal S1024x5120 .bf16) (h : Fin 2) (r : Fin 1024) (d : Fin 128) (j : Fin 5120)
    (hj : j.val = 4096 + 128 * h.val + d.val) (L : List (View.Piece (Elt Ideal) S2x1024x128 .f32)) :
    (View.canon (⟨Rect.unit ![1, 0, 0] ![1, 1024, 128] inb_S2x1024x128_S1x1024x128_1_0_0,
        k0_pay27 u (View.ld w (Rect.unit ![0, 4096] ![1024, 512] inb_S1024x5120_S1024x512_0_4096))⟩ ::
      ⟨Rect.unit ![0, 0, 0] ![1, 1024, 128] inb_S2x1024x128_S1x1024x128_0_0_0,
        k0_pay26 u (View.ld w (Rect.unit ![0, 4096] ![1024, 512] inb_S1024x5120_S1024x512_0_4096))⟩ :: L) :
      Vec Ideal S2x1024x128 .f32) (ix3 h r d) = ∑ k, u (ix2 r k) * w (ix2 k j) := by
  refine (canon_prefix _ _ L _ ?_).trans ?_
  · exact in_half h r d
  canon_tiles x h
  all_goals
    idx_vars x
    obtain rfl : r = x1 := Fin.ext h1
    obtain rfl : d = x2 := Fin.ext h2
    obtain rfl : x0 = 0 := Subsingleton.elim _ _
    first | rw [pay26_at] | rw [pay27_at]
    pointwise []
    simp only [Fin.val_zero] at h0
    refine Finset.sum_congr rfl fun k _ => congrArg (fun i => u (ix2 r k) * w (ix2 k i)) (Fin.ext ?_)
    change _ = j.val
    simp only
    omega

variable (m : (ℓ : Loc nD τ sig) → Buf (Elt Ideal) ℓ)

set_option maxHeartbeats 1000000 in
/-- The body's third result. -/
theorem out6_at (c : Dev nD) (t : Fin cfg0.N) (r : Fin 64) (e : Fin 4096) : (outsAt0 m c t).2.2 (ix2 r e) =
    ∑ k, rms (fun k => iblk m c 0 t (ix2 ⟨16 * r.val + e.val / 256, by omega⟩ k)) (fun k => iblk m c 1 t (ix2 0 k)) k
      * iblk m c 2 t (ix2 k ⟨4096 + e.val % 256, by omega⟩) := by
  unfold outsAt0
  unfold out0_A_6
  rw [View.read_writes_junk_eq_canon]
  frame_out
  simp only [← pay4_at]
  canon_tiles x h
  all_goals
    idx_vars x
    obtain rfl : r = x0 := Fin.ext h0
    change k0_pay28 _ (ix2 _ _) = _
    rw [pay28_at, View.readCov_eq_canon']
    refine (at_box _ _ ⟨e.val / 128 % 2, by omega⟩ ⟨16 * r.val + e.val / 256, by omega⟩ ⟨e.val % 128, by omega⟩ ?_ ?_ ?_).trans
      (scr6_at _ _ _ _ _ _ ?_ _)
    all_goals
      simp [LoadRect.idx_apply]
      omega

end Cert.Proof.Plain

end
-- ==== Proof.PlainArrays.lean ====
/- The second projection's kernel: its three results as whole arrays. -/
module

public import proofs.«01_k».proof.Proof.PlainThird

@[expose] public section

set_option maxRecDepth 16384

noncomputable section

namespace Cert.Proof.Plain

open Cert.PlainIdeal Cert.PlainIdeal.Gen Cert.Proof.Ffn Idealize.ShloMosaic Idealize.ShloMosaic.TcCoe

variable (m : (ℓ : Loc nD τ sig) → Buf (Elt Ideal) ℓ)

/-- Where the windows stand at each point: the input and the results at block `t`, the rest in place. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-- One projected value: the normed row's product with one column of the input weights. -/
def prod (h : Shape.Idx ⟨3, ![8, 4096, 1024]⟩ → EReal) (g : Shape.Idx ⟨1, ![1024]⟩ → EReal) (w : Shape.Idx ⟨2, ![1024, 6872]⟩ → EReal)
    (T : Fin 32768) (j : Fin 6872) : EReal :=
  ∑ k, rms (fun k => h (ix3 ⟨T.val / 4096, by omega⟩ ⟨T.val % 4096, by omega⟩ k)) (fun k => g (ix1 k)) k * w (ix2 k j)

/-- The same, of the kernel's arguments. -/
def val (c : Dev nD) (T : Fin 32768) (j : Fin 6872) : EReal :=
  prod (m ((c : Thread nD τ).loc main_arg0)) (m ((c : Thread nD τ).loc main_arg1)) (m ((c : Thread nD τ).loc main_arg2)) T j

/-- What the kernel's three results hold. -/
def res4 (c : Dev nD) : Vec Ideal S32768x5120 .bf16 := fun i => pick (val m c ⟨(i 0).val, (i 0).isLt⟩) ⟨(i 1).val, (i 1).isLt⟩

def res5 (c : Dev nD) : Vec Ideal S8192x1024 .bf16 := fun i => val m c
  ⟨4 * (i 0).val + (i 1).val / 256, by have a := (i 0).isLt; have b := (i 1).isLt; change (i 0).val < 8192 at a; change (i 1).val < 1024 at b; omega⟩
  ⟨1792 + (i 1).val % 256, by omega⟩

def res6 (c : Dev nD) : Vec Ideal S2048x4096 .bf16 := fun i => val m c
  ⟨16 * (i 0).val + (i 1).val / 256, by have a := (i 0).isLt; have b := (i 1).isLt; change (i 0).val < 2048 at a; change (i 1).val < 4096 at b; omega⟩
  ⟨2048 + (i 1).val % 256, by omega⟩

/-- A row of the residual stream's block. -/
theorem blk0 (c : Dev nD) (t : Fin cfg0.N) (r : Fin 1024) (k : Fin 1024) : iblk m c 0 t (ix2 r k)
    = V m c main_v22 (ix2 ⟨t.val * 1024 + r.val, by have := t.isLt; change _ < 32 at this; omega⟩ k) := by
  blk_ext! [iblk, idx t]

/-- The gain. -/
theorem blk1 (c : Dev nD) (t : Fin cfg0.N) (k : Fin 1024) : iblk m c 1 t (ix2 0 k) = V m c main_v23 (ix2 0 k) := by
  blk_ext! [iblk, idx t]

/-- The weights. -/
theorem blk2 (c : Dev nD) (t : Fin cfg0.N) (k : Fin 1024) (j : Fin 5120) : iblk m c 2 t (ix2 k j) = V m c main_v20 (ix2 k j) := by
  blk_ext! [iblk, idx t]

/-- A row's product with one column of the regrouped weights. -/
theorem sum_eq (c : Dev nD) (T : Fin 32768) (d : Fin 5120) :
    ∑ k, rms (fun k => V m c main_v22 (ix2 T k)) (fun k => V m c main_v23 (ix2 0 k)) k * V m c main_v20 (ix2 k d) = pick (val m c T) d := by
  have e (k) : rms (fun k => V m c main_v22 (ix2 T k)) (fun k => V m c main_v23 (ix2 0 k)) k * V m c main_v20 (ix2 k d)
      = rms (fun k => (m ((c : Thread nD τ).loc main_arg0) : Vec Ideal S8x4096x1024 .f32) (ix3 ⟨T.val / 4096, by omega⟩ ⟨T.val % 4096, by omega⟩ k))
        (fun k => (m ((c : Thread nD τ).loc main_arg1) : Vec Ideal S1024 .f32) (ix1 k)) k
        * pick (fun j => (m ((c : Thread nD τ).loc main_arg2) : Vec Ideal S1024x6872 .f32) (ix2 k j)) d :=
    congr (congrArg HMul.hMul (congrFun (congr (congrArg rms (funext fun k => rows_at m c T k)) (funext fun k => gain_at m c k)) k)) (weights_at m c k d)
  exact (Finset.sum_congr rfl fun k _ => e k).trans (sum_pick _ _ _)

theorem arr4_eq (c : Dev nD) : (dats m 0 c).arrAt 4 cfg0.N = res4 m c := by
  refine (dats m 0 c).arrAt_eq_of_covers 4 _ (by decide +kernel) fun t hf y => ?_
  blk_simp
  rw [after0_4]
  idx_vars y
  rw [out4_at]
  simp only [blk0, blk1, blk2]
  have e0 : ((((View.whole main_v24_0).slice (win0_4.rect t)).emb (ix2 y0 y1) 0 : Fin _) : ℕ) = t.val * 1024 + y0.val := by
    blk_simp [idx t]
  have e1 : ((((View.whole main_v24_0).slice (win0_4.rect t)).emb (ix2 y0 y1) 1 : Fin _) : ℕ) = y1.val := by
    blk_simp [idx t]
  refine (sum_eq m c _ _).trans ?_
  unfold res4
  simp only [e0, e1]

theorem arr5_eq (c : Dev nD) : (dats m 0 c).arrAt 5 cfg0.N = res5 m c := by
  refine (dats m 0 c).arrAt_eq_of_covers 5 _ (by decide +kernel) fun t hf y => ?_
  blk_simp
  rw [after0_5]
  idx_vars y
  rw [out5_at]
  simp only [blk0, blk1, blk2]
  have e0 : ((((View.whole main_v24_1).slice (win0_5.rect t)).emb (ix2 y0 y1) 0 : Fin _) : ℕ) = t.val * 256 + y0.val := by
    blk_simp [idx t]
  have e1 : ((((View.whole main_v24_1).slice (win0_5.rect t)).emb (ix2 y0 y1) 1 : Fin _) : ℕ) = y1.val := by
    blk_simp [idx t]
  refine (sum_eq m c _ _).trans ((pick_v _ _ (by simp only; omega) (by simp only; omega)).trans ?_)
  unfold res5
  refine congr (congrArg (val m c) (Fin.ext ?_)) (Fin.ext ?_)
  · simp only [e0, e1]
    omega
  · simp only [e1]
    omega

theorem arr6_eq (c : Dev nD) : (dats m 0 c).arrAt 6 cfg0.N = res6 m c := by
  refine (dats m 0 c).arrAt_eq_of_covers 6 _ (by decide +kernel) fun t hf y => ?_
  blk_simp
  rw [after0_6]
  idx_vars y
  rw [out6_at]
  simp only [blk0, blk1, blk2]
  have e0 : ((((View.whole main_v24_2).slice (win0_6.rect t)).emb (ix2 y0 y1) 0 : Fin _) : ℕ) = t.val * 64 + y0.val := by
    blk_simp [idx t]
  have e1 : ((((View.whole main_v24_2).slice (win0_6.rect t)).emb (ix2 y0 y1) 1 : Fin _) : ℕ) = y1.val := by
    blk_simp [idx t]
  refine (sum_eq m c _ _).trans ((pick_v _ _ (by simp only; omega) (by simp only; omega)).trans ?_)
  unfold res6
  refine congr (congrArg (val m c) (Fin.ext ?_)) (Fin.ext ?_)
  · simp only [e0, e1]
    omega
  · simp only [e1]
    omega

end Cert.Proof.Plain

end
-- ==== Proof.PlainReference.lean ====
/- The second projection's reference: the same values. -/
module

public import proofs.«01_k».proof.Proof.PlainRow
public import proofs.«01_k».proof.Proof.Gen.PlainReferenceIdeal.Run
public import Idealize.ShloMosaic.Lib.Pipeline.ValueKit

@[expose] public section

set_option maxRecDepth 16384

noncomputable section

namespace Cert.Proof.PlainRef

open Cert.PlainReferenceIdeal Cert.PlainReferenceIdeal.Gen Cert.PlainReferenceIdeal.Value Cert.Proof.Ffn Cert.Proof.Plain
open Idealize.ShloMosaic Idealize.ShloMosaic.TcCoe

/-- The normed rows of `x`. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- Their product with the input weights. -/
def proj (x : FVec Ideal S8x4096x1024 .f32) (g : FVec Ideal S1024 .f32) (w : FVec Ideal S1024x6872 .f32) : FVec Ideal S8x4096x6872 .f32 :=
  Host.dotGeneral dot_S8x4096x1024_S1024x6872_S8x4096x6872_2_0_01_1_n_n none (norm x g) w

theorem norm_at (x : FVec Ideal S8x4096x1024 .f32) (g : FVec Ideal S1024 .f32) (s : Fin 8) (q : Fin 4096) (d : Fin 1024) :
    norm x g (ix3 s q d) = rms (fun k => x (ix3 s q k)) (fun k => g (ix1 k)) d := by
  unfold rms
  pointwise [norm]

/-- One projected value: the normed row's product with one column of the input weights. -/
theorem proj_at (x : FVec Ideal S8x4096x1024 .f32) (g : FVec Ideal S1024 .f32) (w : FVec Ideal S1024x6872 .f32) (s : Fin 8) (q : Fin 4096)
    (j : Fin 6872) : proj x g w (ix3 s q j) = ∑ k, rms (fun k => x (ix3 s q k)) (fun k => g (ix1 k)) k * w (ix2 k j) := by
  simp only [← norm_at]
  pointwise [proj]

/-- What the branches are padded with. -/
def zero : FVec Ideal S_ .f32 := sitofp .f32 (constantI S_ 32 0#32)

/-- The ten branches' columns of `y` side by side, padded. -/
def cat (y : FVec Ideal S8x4096x6872 .f32) : FVec Ideal S8x4096x5120 .f32 :=
  fn_main_v32 (F := Ideal) (extractStridedSlice S8x4096x1024 ![0, 0, 3328] y slices_S8x4096x6872_S8x4096x1024_0_0_3328)
    (extractStridedSlice S8x4096x1024 ![0, 0, 4352] y slices_S8x4096x6872_S8x4096x1024_0_0_4352)
    (extractStridedSlice S8x4096x512 ![0, 0, 2304] y slices_S8x4096x6872_S8x4096x512_0_0_2304)
    (extractStridedSlice S8x4096x512 ![0, 0, 2816] y slices_S8x4096x6872_S8x4096x512_0_0_2816)
    (extractStridedSlice S8x4096x512 ![0, 0, 6288] y slices_S8x4096x6872_S8x4096x512_0_0_6288)
    (extractStridedSlice S8x4096x768 ![0, 0, 1536] y slices_S8x4096x6872_S8x4096x768_0_0_1536)
    (pad S8x4096x128 ![0, 0, 0] ![0, 0, 112] ![0, 0, 0] (extractStridedSlice S8x4096x16 ![0, 0, 5376] y slices_S8x4096x6872_S8x4096x16_0_0_5376)
      zero pads_S8x4096x16_S8x4096x128_000_000_01120 h_S_)
    (pad S8x4096x128 ![0, 0, 0] ![0, 0, 64] ![0, 0, 0] (extractStridedSlice S8x4096x64 ![0, 0, 6224] y slices_S8x4096x6872_S8x4096x64_0_0_6224)
      zero pads_S8x4096x64_S8x4096x128_000_000_0640 h_S_)
    (pad S8x4096x128 ![0, 0, 0] ![0, 0, 64] ![0, 0, 0] (extractStridedSlice S8x4096x64 ![0, 0, 6800] y slices_S8x4096x6872_S8x4096x64_0_0_6800)
      zero pads_S8x4096x64_S8x4096x128_000_000_0640 h_S_)
    (pad S8x4096x384 ![0, 0, 0] ![0, 0, 376] ![0, 0, 0] (extractStridedSlice S8x4096x8 ![0, 0, 6864] y slices_S8x4096x6872_S8x4096x8_0_0_6864)
      zero pads_S8x4096x8_S8x4096x384_000_000_03760 h_S_)

set_option maxHeartbeats 4000000 in
theorem cat_at (y : FVec Ideal S8x4096x6872 .f32) (s : Fin 8) (q : Fin 4096) (j : Fin 5120) :
    cat y (ix3 s q j) = pick (fun j => y (ix3 s q j)) j := by
  pointwise [cat, zero, fn_main_v32]
  have z : FloatOps.sitofp (F := Ideal) FTy.f32 0#32 = (0 : EReal) := by
    change (((0#32 : BitVec 32).toInt : ℝ) : EReal) = 0
    simp
  simp only [z]
  rfl

variable (m : (ℓ : Loc nD τ sig) → Buf (Elt Ideal) ℓ)

/-- The projected values of the reference's arguments. -/
def y (c : Dev nD) : FVec Ideal S8x4096x6872 .f32 := proj (m ((c.tc : Thread nD τ).loc main_arg0)) (m ((c.tc : Thread nD τ).loc main_arg1))
  (m ((c.tc : Thread nD τ).loc main_arg2))

/-- The reference's three results, as arrays. -/
def out0 (c : Dev nD) : FVec Ideal S32768x5120 .bf16 :=
  truncf .bf16 (shapeCast _ (cat (y m c)) shapeCasts_S8x4096x5120_S32768x5120) bitsLt_bf16_f32

def out1 (c : Dev nD) : FVec Ideal S8192x1024 .bf16 := truncf .bf16 (shapeCast _ (extractStridedSlice S8x4096x256 ![0, 0, 256]
  (extractStridedSlice S8x4096x768 ![0, 0, 1536] (y m c) slices_S8x4096x6872_S8x4096x768_0_0_1536) slices_S8x4096x768_S8x4096x256_0_0_256)
  shapeCasts_S8x4096x256_S8192x1024) bitsLt_bf16_f32

def out2 (c : Dev nD) : FVec Ideal S2048x4096 .bf16 := truncf .bf16 (shapeCast _ (extractStridedSlice S8x4096x256 ![0, 0, 512]
  (extractStridedSlice S8x4096x768 ![0, 0, 1536] (y m c) slices_S8x4096x6872_S8x4096x768_0_0_1536) slices_S8x4096x768_S8x4096x256_0_0_512)
  shapeCasts_S8x4096x256_S2048x4096) bitsLt_bf16_f32

/-- And element by element. -/
theorem out0_at (c : Dev nD) (r : Fin 32768) (d : Fin 5120) : out0 m c (ix2 r d) =
    pick (fun j => y m c (ix3 ⟨r.val / 4096, by omega⟩ ⟨r.val % 4096, by omega⟩ j)) d := by
  pointwise [out0]
  simp only [cat_at]

theorem out1_at (c : Dev nD) (r : Fin 8192) (e : Fin 1024) : out1 m c (ix2 r e) =
    y m c (ix3 ⟨(4 * r.val + e.val / 256) / 4096, by omega⟩ ⟨(4 * r.val + e.val / 256) % 4096, by omega⟩ ⟨1792 + e.val % 256, by omega⟩) := by
  pointwise [out1]
  refine congrArg (y m c) ?_
  congr 1 <;> refine Fin.ext ?_ <;> simp only <;> omega

theorem out2_at (c : Dev nD) (r : Fin 2048) (e : Fin 4096) : out2 m c (ix2 r e) =
    y m c (ix3 ⟨(16 * r.val + e.val / 256) / 4096, by omega⟩ ⟨(16 * r.val + e.val / 256) % 4096, by omega⟩ ⟨2048 + e.val % 256, by omega⟩) := by
  pointwise [out2]
  refine congrArg (y m c) ?_
  congr 1 <;> refine Fin.ext ?_ <;> simp only <;> omega

theorem res0_eq (c : Dev nD) : res_main_v34 m c = out0 m c := rfl

end Cert.Proof.PlainRef

end
-- ==== Proof.PlainClaims.lean ====
/- The claims of the second projection, assembled. -/
module

public import proofs.«01_k».proof.Defs
public import proofs.«01_k».proof.Proof.PlainArrays
public import proofs.«01_k».proof.Proof.PlainReference
public import proofs.«01_k».proof.Proof.Gen.Plain.Frame
public import Idealize.ShloMosaic.Lib.Quiescent

@[expose] public section

set_option maxRecDepth 16384

noncomputable section

namespace Cert.Proof

open Idealize.ShloMosaic Idealize.SL.Sem

/-- The frame of the call, as printed. -/
theorem frame_plain : Cert.quiescent_Plain := fun m ρ _ => Cert.Plain.Gen.frame m ρ

/-- The frame of the call on the extended reals. -/
theorem frame_plain_ideal : Cert.quiescent_PlainIdeal := fun m ρ _ => Cert.PlainIdeal.Gen.frame m ρ

/-- The frame of the reference: it declares no semaphore. -/
theorem frame_plain_reference : Cert.quiescent_PlainReferenceIdeal := fun m ρ _ =>
  (θ_run Cert.PlainReferenceIdeal.defs _ _).mono (fun r h => ⟨fun c => (h c).2.2.2, sem_eq_zero_of_no_sems (by decide) r.2⟩)
    (Cert.PlainReferenceIdeal.Value.run (F := Ideal) m ρ)

/-- Nothing was rewritten. -/
theorem preserves_plain : Cert.preserves_Plain_PlainIdeal := trivial

section

variable (m : (ℓ : Loc PlainIdeal.nD PlainIdeal.τ PlainIdeal.sig) → Buf (Elt Ideal) ℓ)
  (m' : (ℓ : Loc PlainReferenceIdeal.nD PlainReferenceIdeal.τ PlainReferenceIdeal.sig) → Buf (Elt Ideal) ℓ)

theorem plain_res0 (c : Dev PlainIdeal.nD)
    (e : ∀ T j, PlainRef.y m' c (ix3 ⟨T.val / 4096, by omega⟩ ⟨T.val % 4096, by omega⟩ j) = Plain.val m c T j) :
    PlainRef.out0 m' c = Plain.res4 m c := by
  funext i
  obtain ⟨r, d, rfl⟩ : ∃ (r : Fin 32768) (d : Fin 5120), i = ix2 r d := ⟨i 0, i 1, eq_ix2 i⟩
  rw [PlainRef.out0_at]
  simp only [e]
  rfl

theorem plain_res1 (c : Dev PlainIdeal.nD)
    (e : ∀ T j, PlainRef.y m' c (ix3 ⟨T.val / 4096, by omega⟩ ⟨T.val % 4096, by omega⟩ j) = Plain.val m c T j) :
    PlainRef.out1 m' c = Plain.res5 m c := by
  funext i
  obtain ⟨r, d, rfl⟩ : ∃ (r : Fin 8192) (d : Fin 1024), i = ix2 r d := ⟨i 0, i 1, eq_ix2 i⟩
  rw [PlainRef.out1_at]
  exact e ⟨4 * r.val + d.val / 256, by omega⟩ _

theorem plain_res2 (c : Dev PlainIdeal.nD)
    (e : ∀ T j, PlainRef.y m' c (ix3 ⟨T.val / 4096, by omega⟩ ⟨T.val % 4096, by omega⟩ j) = Plain.val m c T j) :
    PlainRef.out2 m' c = Plain.res6 m c := by
  funext i
  obtain ⟨r, d, rfl⟩ : ∃ (r : Fin 2048) (d : Fin 4096), i = ix2 r d := ⟨i 0, i 1, eq_ix2 i⟩
  rw [PlainRef.out2_at]
  exact e ⟨16 * r.val + d.val / 256, by omega⟩ _

end

/-- Kernel and reference end with the same arrays: the projected values, regrouped. -/
theorem algebraic_plain : Cert.algebraic_PlainIdeal_PlainReferenceIdeal := by
  intro m ρ m' ρ' _ hagree
  have e (c) (T : Fin 32768) (j : Fin 6872) : PlainRef.y m' c (ix3 ⟨T.val / 4096, by omega⟩ ⟨T.val % 4096, by omega⟩ j) = Plain.val m c T j := by
    obtain ⟨h0, h1, h2⟩ := hagree c
    refine (PlainRef.proj_at _ _ _ _ _ _).trans ?_
    rw [h0, h1, h2]
    rfl
  refine ⟨fun c => Plain.res4 m c, fun c => Plain.res5 m c, fun c => Plain.res6 m c, ?_, ?_⟩
  · exact (θ_run Cert.PlainIdeal.defs _ _).mono (fun _ h c => ⟨(h c).1.trans (Plain.arr4_eq m c), (h c).2.1.trans (Plain.arr5_eq m c),
      (h c).2.2.1.trans (Plain.arr6_eq m c), (h c).2.2.2⟩) (Cert.PlainIdeal.Value.run_blocks (F := Ideal) m ρ)
  · refine (θ_run Cert.PlainReferenceIdeal.defs _ _).mono (fun _ h c => ⟨(h c).1.trans ?_, (h c).2.1.trans ?_, (h c).2.2.1.trans ?_, (h c).2.2.2⟩)
      (Cert.PlainReferenceIdeal.Value.run (F := Ideal) m' ρ')
    · exact (PlainRef.res0_eq m' c).trans (plain_res0 m m' c (e c))
    · change PlainRef.out1 m' c = _
      exact plain_res1 m m' c (e c)
    · change PlainRef.out2 m' c = _
      exact plain_res2 m m' c (e c)

end Cert.Proof

end
-- ==== Proof.QkLit.lean ====
/- The table the head sums are taken with: one where two columns are of one head, zero elsewhere. -/
module

public import proofs.«01_k».proof.QkIdeal
public import proofs.«01_k».proof.Proof.FfnRow

@[expose] public section

set_option maxRecDepth 16384

noncomputable section

namespace Cert.Proof.Qk

open Idealize.ShloMosaic Cert.QkIdeal

/-- Sixteen of the table's rows are as they should be. -/
def Rows (n : ℕ) : Prop := ∀ (a : Fin 16) (b : Fin 256),
  lit0t (256 * (16 * n + a.val) + b.val) = if (16 * n + a.val) / 64 = b.val / 64 then 0x3F80#16 else 0#16

instance (n : ℕ) : Decidable (Rows n) := inferInstanceAs (Decidable (∀ (a : Fin 16) (b : Fin 256),
  lit0t (256 * (16 * n + a.val) + b.val) = if (16 * n + a.val) / 64 = b.val / 64 then 0x3F80#16 else 0#16))

set_option maxHeartbeats 40000000 in
theorem rows (n : ℕ) (h : n < 16) : Rows n := by
  interval_cases n
  all_goals decide +kernel

theorem lit0_at (a b : Fin 256) : lit0t (256 * a.val + b.val) = if a.val / 64 = b.val / 64 then 0x3F80#16 else 0#16 := by
  have h := rows (a.val / 16) (by omega) ⟨a.val % 16, by omega⟩ b
  simp only at h
  rwa [(by omega : 16 * (a.val / 16) + a.val % 16 = a.val)] at h

end Cert.Proof.Qk
-- ==== Proof.QkMath.lean ====
/- A value over its head's root mean square, and what is finite when the numbers it is made of are. -/
module

public import proofs.«01_k».proof.Proof.FfnRow

@[expose] public section

set_option maxRecDepth 16384

noncomputable section

namespace Cert.Proof.Qk

open Idealize.ShloMosaic Cert.Proof.Ffn

/-- A value of a head of 64 over the head's root mean square. -/
def hn (x : Fin 64 → EReal) (d : Fin 64) : EReal :=
  x d * Ideal.rsqrt (Ideal.div (∑ k, x k * x k) (Ideal.ofBits .f32 0x42800000#32) + Ideal.ofBits .f32 0x358637BD#32)

/-- A finite number. -/
def Fine (x : EReal) : Prop := ∃ r : ℝ, x = (r : EReal)

theorem Fine.mul {x y : EReal} (hx : Fine x) (hy : Fine y) : Fine (x * y) := by
  obtain ⟨a, rfl⟩ := hx
  obtain ⟨b, rfl⟩ := hy
  exact ⟨a * b, (EReal.coe_mul a b).symm⟩

theorem Fine.sum {n : ℕ} {f : Fin n → EReal} (h : ∀ k, Fine (f k)) : Fine (∑ k, f k) := by
  choose r hr using h
  refine ⟨∑ k, r k, ?_⟩
  simp only [hr]
  induction (Finset.univ : Finset (Fin n)) using Finset.induction_on with
  | empty => simp
  | insert a s ha ih => rw [Finset.sum_insert ha, Finset.sum_insert ha, ih, EReal.coe_add]

/-- A finite number less itself is zero: false of an infinite one. -/
theorem Fine.sub_self {x : EReal} (h : Fine x) : x - x = 0 := by
  obtain ⟨a, rfl⟩ := h
  rw [← EReal.coe_sub, _root_.sub_self]
  rfl

theorem fine_of_sub {x : EReal} (h : x - x = 0) : Fine x := by
  induction x using EReal.rec with
  | bot => exact absurd h (by simp)
  | coe r => exact ⟨r, rfl⟩
  | top => exact absurd h (by simp)

theorem lit_1024 : Ideal.ofBits .f32 0x44800000#32 = ((1024 : ℝ) : EReal) := by
  simp [Ideal.ofBits, Ideal.ieee, -EReal.coe_mul]; norm_num

theorem lit_64 : Ideal.ofBits .f32 0x42800000#32 = ((64 : ℝ) : EReal) := by
  simp [Ideal.ofBits, Ideal.ieee, -EReal.coe_mul]; norm_num

theorem lit_64th : Ideal.ofBits .f32 0x3C800000#32 = ((1 / 64 : ℝ) : EReal) := by
  simp [Ideal.ofBits, Ideal.ieee, -EReal.coe_mul]; norm_num

theorem lit_one : Ideal.ofBits .bf16 0x3F80#16 = 1 := by
  simp [Ideal.ofBits, Ideal.ieee, -EReal.coe_mul]; norm_num

theorem lit_eps : ∃ r : ℝ, 0 < r ∧ Ideal.ofBits .f32 0x358637BD#32 = (r : EReal) := by
  refine ⟨8796093 / 8796093022208, by norm_num, ?_⟩
  simp [Ideal.ofBits, Ideal.ieee, -EReal.coe_mul]; norm_num

theorem mean_64 (x : EReal) : Ideal.div x (Ideal.ofBits .f32 0x42800000#32) = x * Ideal.ofBits .f32 0x3C800000#32 := by
  rw [lit_64, lit_64th, Ideal.div_coe (by norm_num)]

theorem square_nonneg (x : EReal) : 0 ≤ x * x := by
  induction x using EReal.rec with
  | bot => simp
  | coe r => exact_mod_cast mul_self_nonneg r
  | top => simp

theorem square_top {x : EReal} (h : ¬ Fine x) : x * x = ⊤ := by
  induction x using EReal.rec with
  | bot => simp
  | coe r => exact absurd ⟨r, rfl⟩ h
  | top => simp

/-- The normed row is finite where the gain is: an infinite number in the row leaves zeros. -/
theorem fine_rms {x g : Fin 1024 → EReal} (hg : ∀ k, Fine (g k)) (d : Fin 1024) : Fine (rms x g d) := by
  unfold rms
  obtain ⟨e, he, heq⟩ := lit_eps
  by_cases hx : ∀ k, Fine (x k)
  · refine ((hx d).mul ?_).mul (hg d)
    choose r hr using hx
    have hs : ∑ k, x k * x k = ((∑ k, r k * r k : ℝ) : EReal) := by
      simp only [hr]
      induction (Finset.univ : Finset (Fin 1024)) using Finset.induction_on with
      | empty => simp
      | insert a s ha ih => rw [Finset.sum_insert ha, Finset.sum_insert ha, ih, EReal.coe_add, EReal.coe_mul]
    rw [hs, heq, lit_1024, Ideal.div_coe (by norm_num), ← EReal.coe_mul, ← EReal.coe_add]
    have hp : 0 < (∑ k, r k * r k : ℝ) * (1 / 1024) + e := by
      have : 0 ≤ ∑ k, r k * r k := Finset.sum_nonneg fun k _ => mul_self_nonneg _
      positivity
    rw [Ideal.rsqrt_coe, if_neg hp.le.not_gt, if_neg hp.ne']
    exact ⟨_, rfl⟩
  · obtain ⟨k, hk⟩ := not_forall.mp hx
    have hs : ∑ k, x k * x k = ⊤ := by
      rw [← Finset.add_sum_erase _ _ (Finset.mem_univ k), square_top hk]
      exact EReal.top_add_of_ne_bot (ne_of_gt (lt_of_lt_of_le EReal.bot_lt_zero (Finset.sum_nonneg fun k _ => square_nonneg _)))
    rw [hs, heq, lit_1024, Ideal.div_coe (by norm_num), EReal.top_mul_of_pos (by norm_num), EReal.top_add_coe]
    change Fine (x d * 0 * g d)
    rw [mul_zero, zero_mul]
    exact ⟨0, rfl⟩

/-- The sum over 256 columns of the values of one head of 64. -/
theorem head_sum (f : Fin 256 → EReal) (a : ℕ) (ha : a < 4) :
    ∑ k : Fin 256, f k * (if k.val / 64 = a then 1 else 0) = ∑ q : Fin 64, f ⟨64 * a + q.val, by omega⟩ := by
  simp only [mul_ite, mul_one, mul_zero]
  rw [← Finset.sum_filter]
  refine (Finset.sum_bij (fun (q : Fin 64) _ => (⟨64 * a + q.val, by omega⟩ : Fin 256)) ?_ ?_ ?_ ?_).symm
  · intro q _
    simp only [Finset.mem_filter, Finset.mem_univ, true_and]
    omega
  · intro p _ q _ h
    have := congrArg Fin.val h
    simp only at this
    exact Fin.ext (by omega)
  · intro k hk
    simp only [Finset.mem_filter, Finset.mem_univ, true_and] at hk
    exact ⟨⟨k.val % 64, by omega⟩, Finset.mem_univ _, Fin.ext (by simp only; omega)⟩
  · intro q _
    rfl

end Cert.Proof.Qk

end
-- ==== Proof.QkRow.lean ====
/- One block of 512 columns of the first projection: the normed rows' products, each value over its head's root mean square and
   times its gain. -/
module

public import proofs.«01_k».proof.Proof.Gen.QkIdeal.Value
public import proofs.«01_k».proof.Proof.QkMath

@[expose] public section

set_option maxRecDepth 16384

noncomputable section

namespace Cert.Proof.Qk

open Cert.QkIdeal Cert.QkIdeal.Gen Cert.Proof.Ffn Idealize.ShloMosaic Idealize.ShloMosaic.TcCoe

/-- The table is one where two columns are of one head. -/
def Heads (b : Vec Ideal S256x256 .bf16) : Prop :=
  ∀ p q : Fin 256, b (ix2 p q) = if p.val / 64 = q.val / 64 then 1 else 0

/-- The normed rows. -/
theorem pay2_at (x : Vec Ideal S1024x1024 .f32) (g : Vec Ideal S1x1024 .f32) (r : Fin 1024) (d : Fin 1024) :
    k0_pay2 x g (ix2 r d) = rms (fun k => x (ix2 r k)) (fun k => g (ix2 0 k)) d := by
  unfold rms
  pointwise [k0_pay2]

/-- A product of the normed rows. -/
def acc (u : Vec Ideal S1024x1024 .bf16) (w : Vec Ideal S1024x512 .bf16) (r : Fin 1024) (d : Fin 512) : EReal :=
  ∑ k, u (ix2 r k) * w (ix2 k d)

theorem pay59_at (u : Vec Ideal S1024x1024 .bf16) (w : Vec Ideal S1024x512 .bf16) (r : Fin 1024) (d : Fin 512) :
    k0_pay59 u w (ix2 r d) = acc u w r d := by
  unfold acc
  pointwise [k0_pay59]

/-- The squares' rounded part, then what the rounding left: zero of a finite product. -/
theorem pay61_at (u : Vec Ideal S1024x1024 .bf16) (w : Vec Ideal S1024x512 .bf16) (r : Fin 1024) (d : Fin 512) :
    k0_pay61 u w (ix2 r d) = acc u w r d * acc u w r d := by
  rw [← pay59_at]
  pointwise [k0_pay61, k0_pay60]

theorem pay62_at (u : Vec Ideal S1024x1024 .bf16) (w : Vec Ideal S1024x512 .bf16) (r : Fin 1024) (d : Fin 512)
    (hf : Fine (acc u w r d)) : k0_pay62 u w (ix2 r d) = 0 := by
  rw [← (hf.mul hf).sub_self, ← pay61_at]
  pointwise [k0_pay62, k0_pay60, k0_pay61]

/-- The head sums of the first 256 columns. -/
theorem pay63_at (u : Vec Ideal S1024x1024 .bf16) (w : Vec Ideal S1024x512 .bf16) (b : Vec Ideal S256x256 .bf16) (hb : Heads b)
    (hf : ∀ r d, Fine (acc u w r d)) (r : Fin 1024) (d : Fin 256) : k0_pay63 u w b b (ix2 r d) =
    ∑ q : Fin 64, acc u w r ⟨64 * (d.val / 64) + q.val, by omega⟩ * acc u w r ⟨64 * (d.val / 64) + q.val, by omega⟩ := by
  have e : k0_pay63 u w b b (ix2 r d) = ∑ k : Fin 256, k0_pay61 u w (ix2 r ⟨k.val, by omega⟩) * b (ix2 k d)
      + ∑ k : Fin 256, k0_pay62 u w (ix2 r ⟨k.val, by omega⟩) * b (ix2 k d) := by
    pointwise [k0_pay63]
  rw [e]
  simp only [pay61_at, pay62_at u w _ _ (hf _ _), hb _ _, zero_mul, Finset.sum_const_zero, add_zero]
  exact head_sum (fun k => acc u w r ⟨k.val, by omega⟩ * acc u w r ⟨k.val, by omega⟩) (d.val / 64) (by omega)

/-- The whole block. -/
def chunk (u : Vec Ideal S1024x1024 .bf16) (w : Vec Ideal S1024x512 .bf16) (b : Vec Ideal S256x256 .bf16) (e : Vec Ideal S1x512 .f32) :
    FVec Ideal S1024x512 .f32 :=
  k0_pay65 (k0_pay59 u w) (k0_pay62 u w) (k0_pay63 u w b b) (k0_pay64 u w) b (constant S1024x256 .f32 0x00000000#32) b e

theorem pay22_eq (u : Vec Ideal S1024x1024 .bf16) (w : Vec Ideal S1024x512 .bf16) (b : Vec Ideal S256x256 .bf16)
    (e : Vec Ideal S1x512 .f32) : k0_pay22 u w b b b b e = chunk u w b e := rfl

theorem pay10_eq (x : Vec Ideal S1024x1024 .f32) (g : Vec Ideal S1x1024 .f32) (w : Vec Ideal S1024x512 .bf16)
    (b : Vec Ideal S256x256 .bf16) (e : Vec Ideal S1x512 .f32) :
    k0_pay10 (k0_pay3 x g w) (k0_pay7 x g w b b) (k0_pay8 x g w b) (k0_pay9 x g w) b (constant S1024x256 .f32 0x00000000#32) e
      = chunk (k0_pay2 x g) w b e := rfl

/-- The head sum of a place in a block. -/
def hsum (f : Fin 512 → EReal) (d : Fin 512) : EReal :=
  ∑ q : Fin 64, f ⟨64 * (d.val / 64) + q.val, by omega⟩ * f ⟨64 * (d.val / 64) + q.val, by omega⟩

theorem chunk_sum (u : Vec Ideal S1024x1024 .bf16) (w : Vec Ideal S1024x512 .bf16) (b : Vec Ideal S256x256 .bf16)
    (e : Vec Ideal S1x512 .f32) (hb : Heads b) (hf : ∀ r d, Fine (acc u w r d)) (r : Fin 1024) (d : Fin 512) :
    chunk u w b e (ix2 r d) =
      acc u w r d * Ideal.rsqrt (hsum (acc u w r) d * Ideal.ofBits .f32 0x3C800000#32 + Ideal.ofBits .f32 0x358637BD#32) * e (ix2 0 d) := by
  have c : chunk u w b e (ix2 r d) =
      k0_pay59 u w (ix2 r d) * Ideal.rsqrt ((if h : d.val < 256 then k0_pay63 u w b b (ix2 r ⟨d.val, h⟩) else
        ∑ k : Fin 256, k0_pay61 u w (ix2 r ⟨256 + k.val, by omega⟩) * b (ix2 k ⟨d.val - 256, by omega⟩)
          + ∑ k : Fin 256, k0_pay62 u w (ix2 r ⟨256 + k.val, by omega⟩) * b (ix2 k ⟨d.val - 256, by omega⟩))
        * Ideal.ofBits .f32 0x3C800000#32 + Ideal.ofBits .f32 0x358637BD#32) * e (ix2 0 d) := by
    unfold chunk
    pointwise [k0_pay65, k0_pay64]
  rw [c, pay59_at]
  by_cases h : d.val < 256
  · rw [dif_pos h, pay63_at u w b hb hf]
    rfl
  · rw [dif_neg h]
    simp only [pay61_at, pay62_at u w _ _ (hf _ _), hb _ _, zero_mul, Finset.sum_const_zero, add_zero]
    rw [head_sum (fun k => acc u w r ⟨256 + k.val, by omega⟩ * acc u w r ⟨256 + k.val, by omega⟩) ((d.val - 256) / 64) (by omega)]
    unfold hsum
    have e : ∀ q : Fin 64, (⟨256 + (64 * ((d.val - 256) / 64) + q.val), by omega⟩ : Fin 512) = ⟨64 * (d.val / 64) + q.val, by omega⟩ :=
      fun q => Fin.ext (by simp only; omega)
    simp only [e]

theorem chunk_at (u : Vec Ideal S1024x1024 .bf16) (w : Vec Ideal S1024x512 .bf16) (b : Vec Ideal S256x256 .bf16)
    (e : Vec Ideal S1x512 .f32) (hb : Heads b) (hf : ∀ r d, Fine (acc u w r d)) (r : Fin 1024) (d : Fin 512) :
    chunk u w b e (ix2 r d) =
      hn (fun q => acc u w r ⟨64 * (d.val / 64) + q.val, by omega⟩) ⟨d.val % 64, by omega⟩ * e (ix2 0 d) := by
  rw [chunk_sum u w b e hb hf]
  unfold hn
  rw [mean_64]
  have e : (⟨64 * (d.val / 64) + d.val % 64, by omega⟩ : Fin 512) = d := Fin.ext (by simp only; omega)
  simp only [e]
  rfl

/-- The halves of 128 values that the scratch keeps, of the queries' block and of the keys'. -/
theorem pay26_at (v : FVec Ideal S1024x512 .f32) (r : Fin 1024) (d : Fin 128) :
    k0_pay26 v (ix3 0 r d) = v (ix2 r ⟨128 + d.val, by omega⟩) := by
  pointwise [k0_pay26]

theorem pay25_at (u : Vec Ideal S1024x1024 .bf16) (w : Vec Ideal S1024x512 .bf16) (b : Vec Ideal S256x256 .bf16)
    (e : Vec Ideal S1x512 .f32) (r : Fin 1024) (d : Fin 128) :
    k0_pay25 (k0_pay24 u w b b b b e) (ix3 0 r d) = chunk u w b e (ix2 r ⟨d.val, by omega⟩) := by
  rw [← pay22_eq]
  pointwise [k0_pay25, k0_pay24]

theorem pay12_at (a : FVec Ideal S1024x512 .f32) (p q : FVec Ideal S1024x256 .f32) (v : FVec Ideal S1024x256 .bf16)
    (b : Vec Ideal S256x256 .bf16) (z : FVec Ideal S1024x256 .f32) (e : Vec Ideal S1x512 .f32) (r : Fin 1024) (d : Fin 128) :
    k0_pay12 a p q v b z e (ix3 0 r d) = k0_pay10 a p q v b z e (ix2 r ⟨256 + d.val, by omega⟩) := by
  pointwise [k0_pay12]

theorem pay13_at (a : FVec Ideal S1024x512 .f32) (p q : FVec Ideal S1024x256 .f32) (v : FVec Ideal S1024x256 .bf16)
    (b : Vec Ideal S256x256 .bf16) (z : FVec Ideal S1024x256 .f32) (e : Vec Ideal S1x512 .f32) (r : Fin 1024) (d : Fin 128) :
    k0_pay13 a p q v b z e (ix3 0 r d) = k0_pay10 a p q v b z e (ix2 r ⟨384 + d.val, by omega⟩) := by
  pointwise [k0_pay13]

theorem pay67_at (a : FVec Ideal S1024x512 .f32) (l : FVec Ideal S1024x512 .bf16) (p : FVec Ideal S1024x256 .f32)
    (v : FVec Ideal S1024x256 .bf16) (b b' : Vec Ideal S256x256 .bf16) (z : FVec Ideal S1024x256 .f32) (e : Vec Ideal S1x512 .f32)
    (r : Fin 1024) (d : Fin 128) :
    k0_pay67 a l p v b z b' e (ix3 0 r d) = k0_pay65 a l p v b z b' e (ix2 r ⟨d.val, by omega⟩) := by
  pointwise [k0_pay67]

theorem pay68_at (a : FVec Ideal S1024x512 .f32) (l : FVec Ideal S1024x512 .bf16) (p : FVec Ideal S1024x256 .f32)
    (v : FVec Ideal S1024x256 .bf16) (b b' : Vec Ideal S256x256 .bf16) (z : FVec Ideal S1024x256 .f32) (e : Vec Ideal S1x512 .f32)
    (r : Fin 1024) (d : Fin 128) :
    k0_pay68 a l p v b z b' e (ix3 0 r d) = k0_pay65 a l p v b z b' e (ix2 r ⟨128 + d.val, by omega⟩) := by
  pointwise [k0_pay68]

theorem pay77_at (v : FVec Ideal S1024x512 .f32) (r : Fin 1024) (d : Fin 128) :
    k0_pay77 v (ix3 0 r d) = v (ix2 r ⟨256 + d.val, by omega⟩) := by
  pointwise [k0_pay77]

theorem pay78_at (v : FVec Ideal S1024x512 .f32) (r : Fin 1024) (d : Fin 128) :
    k0_pay78 v (ix3 0 r d) = v (ix2 r ⟨384 + d.val, by omega⟩) := by
  pointwise [k0_pay78]

/-- One phase of one half. -/
theorem pay14_at (v : Vec Ideal S1x256x128 .f32) (r : Fin 256) (d : Fin 128) : k0_pay14 v (ix2 r d) = v (ix3 0 r d) := by
  pointwise [k0_pay14]

theorem pay27_at (v : Vec Ideal S1x64x128 .f32) (r : Fin 64) (d : Fin 128) : k0_pay27 v (ix2 r d) = v (ix3 0 r d) := by
  pointwise [k0_pay27]

end Cert.Proof.Qk

end
-- ==== Proof.QkWeights.lean ====
/- The first projection's weights, gains and table as the host lines lay them out. -/
module

public import proofs.«01_k».proof.Proof.QkRow
public import Idealize.ShloMosaic.Lib.Pipeline.ValueKit

@[expose] public section

set_option maxRecDepth 16384

noncomputable section

namespace Cert.Proof.Qk

open Cert.QkIdeal Cert.QkIdeal.Gen Cert.Proof.Ffn Idealize.ShloMosaic Idealize.ShloMosaic.TcCoe

variable (m : (ℓ : Loc nD τ sig) → Buf (Elt Ideal) ℓ)

/-- A quantity `f` of the source columns, at column `d` of the regrouped array; zero at the padding. -/
def pick (f : Fin 6872 → EReal) (d : Fin 2560) : EReal :=
  if h : d.val < 2368 then
    if h' : d.val < 768 then f ⟨d.val, by omega⟩
    else if h' : d.val - 768 < 768 then f ⟨768 + (d.val - 768), by omega⟩
    else if h' : d.val - 768 - 768 < 768 then f ⟨5392 + (d.val - 768 - 768), by omega⟩
    else f ⟨6160 + (d.val - 768 - 768 - 768), by omega⟩
  else 0

/-- The gains, tiled over the heads and scaled; zero at the padding. -/
def gains (qa ka qc kc : Fin 64 → EReal) (d : Fin 2560) : EReal :=
  if h : d.val < 2368 then
    if h' : d.val < 768 then qa ⟨d.val % 64, by omega⟩ * Ideal.ofBits .f32 0x3E000000#32
    else if h' : d.val - 768 < 768 then ka ⟨(d.val - 768) % 64, by omega⟩
    else if h' : d.val - 768 - 768 < 768 then qc ⟨(d.val - 768 - 768) % 64, by omega⟩ * Ideal.ofBits .f32 0x3E38AA3B#32
    else kc ⟨d.val - 768 - 768 - 768, by omega⟩
  else 0

/-- The four pieces side by side, of the weights and of the gains. -/
def catw (a0 a1 a2 : Vec Ideal S1024x768 .f32) (a3 : Vec Ideal S1024x64 .f32) : Vec Ideal S1024x2368 .f32 :=
  concatenate S1024x2368 1 [⟨S1024x768, a0⟩, ⟨S1024x768, a1⟩, ⟨S1024x768, a2⟩, ⟨S1024x64, a3⟩]
    concatenates_S1024x768_S1024x768_S1024x768_S1024x64_S1024x2368_d1

def catg (a0 a1 a2 : Vec Ideal S768 .f32) (a3 : Vec Ideal S64 .f32) : Vec Ideal S2368 .f32 :=
  concatenate S2368 0 [⟨S768, a0⟩, ⟨S768, a1⟩, ⟨S768, a2⟩, ⟨S64, a3⟩] concatenates_S768_S768_S768_S64_S2368_d0

theorem catw_nary : (StableHlo.nary ![main_v0, main_v1, main_v8, main_v9] main_v14 (fun u => (concatenate S1024x2368 1 [⟨S1024x768, (u 0 : (⟨S1024x768, .f32⟩ : BufTy).Contents (Elt Ideal))⟩, ⟨S1024x768, (u 1 : (⟨S1024x768, .f32⟩ : BufTy).Contents (Elt Ideal))⟩, ⟨S1024x768, (u 2 : (⟨S1024x768, .f32⟩ : BufTy).Contents (Elt Ideal))⟩, ⟨S1024x64, (u 3 : (⟨S1024x64, .f32⟩ : BufTy).Contents (Elt Ideal))⟩] concatenates_S1024x768_S1024x768_S1024x768_S1024x64_S1024x2368_d1 : (⟨S1024x2368, .f32⟩ : BufTy).Contents (Elt Ideal))) : HloOp τ sig (Elt Ideal))
    = StableHlo.nary ![main_v0, main_v1, main_v8, main_v9] main_v14 (fun u => catw (u 0) (u 1) (u 2) (u 3)) := rfl

theorem catg_nary : (StableHlo.nary ![main_v21, main_v24, main_v29, main_arg6] main_v30 (fun u => (concatenate S2368 0 [⟨S768, (u 0 : (⟨S768, .f32⟩ : BufTy).Contents (Elt Ideal))⟩, ⟨S768, (u 1 : (⟨S768, .f32⟩ : BufTy).Contents (Elt Ideal))⟩, ⟨S768, (u 2 : (⟨S768, .f32⟩ : BufTy).Contents (Elt Ideal))⟩, ⟨S64, (u 3 : (⟨S64, .f32⟩ : BufTy).Contents (Elt Ideal))⟩] concatenates_S768_S768_S768_S64_S2368_d0 : (⟨S2368, .f32⟩ : BufTy).Contents (Elt Ideal))) : HloOp τ sig (Elt Ideal))
    = StableHlo.nary ![main_v21, main_v24, main_v29, main_arg6] main_v30 (fun u => catg (u 0) (u 1) (u 2) (u 3)) := rfl

theorem pad_zero : FloatOps.sitofp (F := Ideal) FTy.f32 0#32 = (0 : EReal) := by
  change (((0#32 : BitVec 32).toInt : ℝ) : EReal) = 0
  simp

set_option maxHeartbeats 4000000 in
/-- The weights, rounding aside. -/
theorem weights_at (c : Dev nD) (k : Fin 1024) (j : Fin 2560) : V m c main_v16 (ix2 k j)
    = pick (fun j => m ((c : Thread nD τ).loc main_arg2) (ix2 k j)) j := by
  simp only [V, hostOps0, hostOps0_1, hostOps0_2, hostOps0_3, hostOps0_4, catw_nary, catg_nary,
    List.flatten_cons, List.flatten_nil, List.cons_append, List.nil_append, List.append_nil, StableHlo.TRef.unary, StableHlo.TRef.binary,
    StableHlo.TRef.toBuf, StableHlo.TRef.ofBuf, cast_eq]
  after_results_simp
  dsimp only [Matrix.cons_val]
  after_results_simp
  pointwise [catw]
  simp only [pad_zero]
  rfl

set_option maxHeartbeats 4000000 in
/-- The gains. -/
theorem gains_at (c : Dev nD) (j : Fin 2560) : V m c main_v32 (ix2 0 j)
    = gains (fun k => m ((c : Thread nD τ).loc main_arg3) (ix1 k)) (fun k => m ((c : Thread nD τ).loc main_arg4) (ix1 k))
      (fun k => m ((c : Thread nD τ).loc main_arg5) (ix1 k)) (fun k => m ((c : Thread nD τ).loc main_arg6) (ix1 k)) j := by
  simp only [V, hostOps0, hostOps0_1, hostOps0_2, hostOps0_3, hostOps0_4, catw_nary, catg_nary,
    List.flatten_cons, List.flatten_nil, List.cons_append, List.nil_append, List.append_nil, StableHlo.TRef.unary, StableHlo.TRef.binary,
    StableHlo.TRef.toBuf, StableHlo.TRef.ofBuf, cast_eq]
  after_results_simp
  dsimp only [Matrix.cons_val]
  after_results_simp
  pointwise [catg]
  simp only [pad_zero]
  rfl

/-- The residual stream, one row for each place of each sequence. -/
theorem rows_at (c : Dev nD) (r : Fin 32768) (k : Fin 1024) : V m c main_v33 (ix2 r k)
    = m ((c : Thread nD τ).loc main_arg0) (ix3 ⟨r.val / 4096, by omega⟩ ⟨r.val % 4096, by omega⟩ k) := by
  simp only [V, hostOps0, hostOps0_1, hostOps0_2, hostOps0_3, hostOps0_4, catw_nary, catg_nary,
    List.flatten_cons, List.flatten_nil, List.cons_append, List.nil_append, List.append_nil, StableHlo.TRef.unary, StableHlo.TRef.binary,
    StableHlo.TRef.toBuf, StableHlo.TRef.ofBuf, cast_eq]
  after_results_simp
  pointwise []

/-- The gain of the rows. -/
theorem gain_at (c : Dev nD) (k : Fin 1024) : V m c main_v34 (ix2 0 k) = m ((c : Thread nD τ).loc main_arg1) (ix1 k) := by
  simp only [V, hostOps0, hostOps0_1, hostOps0_2, hostOps0_3, hostOps0_4, catw_nary, catg_nary,
    List.flatten_cons, List.flatten_nil, List.cons_append, List.nil_append, List.append_nil, StableHlo.TRef.unary, StableHlo.TRef.binary,
    StableHlo.TRef.toBuf, StableHlo.TRef.ofBuf, cast_eq]
  after_results_simp
  pointwise []

/-- The table, by its words. -/
theorem table_at (c : Dev nD) (p q : Fin 256) : V m c main_cst (ix2 p q) = Ideal.ofBits .bf16 (lit0t (256 * p.val + q.val)) := by
  simp only [V, hostOps0, hostOps0_1, hostOps0_2, hostOps0_3, hostOps0_4, catw_nary, catg_nary,
    List.flatten_cons, List.flatten_nil, List.cons_append, List.nil_append, List.append_nil, StableHlo.TRef.unary, StableHlo.TRef.binary,
    StableHlo.TRef.toBuf, StableHlo.TRef.ofBuf, cast_eq]
  after_results_simp
  have e : (S256x256.rowMajor (ix2 p q)).val = 256 * p.val + q.val := by
    rw [Shape.rowMajor_val_two]
    change p.val * 256 + q.val = _
    omega
  change Ideal.ofBits .bf16 (lit0t (S256x256.rowMajor (ix2 p q)).val) = _
  rw [e]

end Cert.Proof.Qk

end
-- ==== Proof.QkValue.lean ====
/- One value of the first projection, and its four groups of columns. -/
module

public import proofs.«01_k».proof.Proof.QkWeights

@[expose] public section

set_option maxRecDepth 16384

noncomputable section

namespace Cert.Proof.Qk

open Cert.Proof.Ffn Idealize.ShloMosaic

/-- One value of the first projection: the projected value over its head's root mean square, times its gain. -/
def qv (y : Fin 6872 → EReal) (qa ka qc kc : Fin 64 → EReal) (j : Fin 2560) : EReal :=
  hn (fun q => pick y ⟨64 * (j.val / 64) + q.val, by omega⟩) ⟨j.val % 64, by omega⟩ * gains qa ka qc kc j

theorem pick_low (f : Fin 6872 → EReal) (d : Fin 2560) (h : d.val < 1536) : pick f d = f ⟨d.val, by omega⟩ := by
  unfold pick
  split_ifs
  all_goals first
    | omega
    | rfl
    | exact congrArg f (Fin.ext (by simp only; omega))

theorem pick_high (f : Fin 6872 → EReal) (d : Fin 2560) (h : 1536 ≤ d.val) (h' : d.val < 2368) :
    pick f d = f ⟨3856 + d.val, by omega⟩ := by
  unfold pick
  split_ifs
  all_goals first
    | omega
    | exact congrArg f (Fin.ext (by simp only; omega))

/-- Picking columns of the weights and then multiplying is picking columns of the product. -/
theorem sum_pick (u : Fin 1024 → EReal) (w : Fin 1024 → Fin 6872 → EReal) (d : Fin 2560) :
    ∑ k, u k * pick (w k) d = pick (fun j => ∑ k, u k * w k j) d := by
  unfold pick
  split_ifs
  all_goals first
    | rfl
    | simp only [mul_zero, Finset.sum_const_zero]

theorem Fine.pick {f : Fin 6872 → EReal} (hf : ∀ j, Fine (f j)) (d : Fin 2560) : Fine (pick f d) := by
  unfold Qk.pick
  split_ifs
  all_goals first
    | exact hf _
    | exact ⟨0, rfl⟩

variable (y : Fin 6872 → EReal) (qa ka qc kc : Fin 64 → EReal) (j : Fin 2560)

/-- The first queries, scaled. -/
theorem qv_q (h : j.val < 768) : qv y qa ka qc kc j =
    hn (fun q => y ⟨64 * (j.val / 64) + q.val, by omega⟩) ⟨j.val % 64, by omega⟩ * qa ⟨j.val % 64, by omega⟩
      * Ideal.ofBits .f32 0x3E000000#32 := by
  unfold qv gains
  rw [dif_pos (by omega), dif_pos h, mul_assoc]
  refine congrArg (· * _) (congrArg (hn · _) (funext fun q => ?_))
  rw [pick_low _ _ (by simp only; omega)]

/-- The first keys. -/
theorem qv_k (h : 768 ≤ j.val) (h' : j.val < 1536) : qv y qa ka qc kc j =
    hn (fun q => y ⟨64 * (j.val / 64) + q.val, by omega⟩) ⟨j.val % 64, by omega⟩ * ka ⟨j.val % 64, by omega⟩ := by
  unfold qv gains
  rw [dif_pos (by omega), dif_neg (by omega), dif_pos (by omega)]
  refine congrArg₂ (· * ·) (congrArg (hn · _) (funext fun q => ?_)) (congrArg ka (Fin.ext (by simp only; omega)))
  rw [pick_low _ _ (by simp only; omega)]

theorem lit_scale : Ideal.ofBits .f32 0x3E000000#32 * Ideal.ofBits .f32 0x3FB8AA3B#32 = Ideal.ofBits .f32 0x3E38AA3B#32 := by
  have a : Ideal.ofBits .f32 0x3E000000#32 = ((1 / 8 : ℝ) : EReal) := by
    simp [Ideal.ofBits, Ideal.ieee, -EReal.coe_mul]; norm_num
  have b : Ideal.ofBits .f32 0x3FB8AA3B#32 = ((12102203 / 8388608 : ℝ) : EReal) := by
    simp [Ideal.ofBits, Ideal.ieee, -EReal.coe_mul]; norm_num
  have d : Ideal.ofBits .f32 0x3E38AA3B#32 = ((12102203 / 67108864 : ℝ) : EReal) := by
    simp [Ideal.ofBits, Ideal.ieee, -EReal.coe_mul]; norm_num
  rw [a, b, d, ← EReal.coe_mul]
  norm_num

/-- The second queries, scaled. -/
theorem qv_c (h : 1536 ≤ j.val) (h' : j.val < 2304) : qv y qa ka qc kc j =
    hn (fun q => y ⟨3856 + (64 * (j.val / 64) + q.val), by omega⟩) ⟨j.val % 64, by omega⟩ * qc ⟨j.val % 64, by omega⟩
      * Ideal.ofBits .f32 0x3E000000#32 * Ideal.ofBits .f32 0x3FB8AA3B#32 := by
  unfold qv gains
  rw [dif_pos (by omega), dif_neg (by omega), dif_neg (by omega), dif_pos (by omega), mul_assoc _ _ (Ideal.ofBits .f32 0x3FB8AA3B#32), lit_scale,
    mul_assoc]
  refine congrArg₂ (· * ·) (congrArg (hn · _) (funext fun q => ?_)) (congrArg (qc · * _) (Fin.ext (by simp only; omega)))
  rw [pick_high _ _ (by simp only; omega) (by simp only; omega)]

/-- The second key. -/
theorem qv_s (h : 2304 ≤ j.val) (h' : j.val < 2368) : qv y qa ka qc kc j =
    hn (fun q => y ⟨6160 + q.val, by omega⟩) ⟨j.val % 64, by omega⟩ * kc ⟨j.val % 64, by omega⟩ := by
  unfold qv gains
  rw [dif_pos (by omega), dif_neg (by omega), dif_neg (by omega), dif_neg (by omega)]
  refine congrArg₂ (· * ·) (congrArg (hn · _) (funext fun q => ?_)) (congrArg kc (Fin.ext (by simp only; omega)))
  rw [pick_high _ _ (by simp only; omega) (by simp only; omega)]
  exact congrArg y (Fin.ext (by simp only; omega))

/-- The padding. -/
theorem qv_pad (h : 2368 ≤ j.val) : qv y qa ka qc kc j = 0 := by
  unfold qv gains
  rw [dif_neg (by omega), mul_zero]

end Cert.Proof.Qk

end
-- ==== Proof.QkKernel.lean ====
/- The first projection's kernel: what its blocks and its scratch hold. -/
module

public import proofs.«01_k».proof.Proof.QkRow
public import proofs.«01_k».proof.Proof.PlainThird

@[expose] public section

set_option maxRecDepth 16384

noncomputable section

namespace Cert.Proof.Qk

open Cert.QkIdeal Cert.QkIdeal.Gen Cert.Proof.Ffn Idealize.ShloMosaic Idealize.ShloMosaic.TcCoe

/-- A column of the projection. -/
def col (u : Vec Ideal S1024x1024 .bf16) (w : Vec Ideal S1024x2560 .bf16) (e : Vec Ideal S1x2560 .f32) (r : Fin 1024) (j : Fin 2560) :
    EReal :=
  hn (fun q => ∑ k, u (ix2 r k) * w (ix2 k ⟨64 * (j.val / 64) + q.val, by omega⟩)) ⟨j.val % 64, by omega⟩ * e (ix2 0 j)

/-- The products of the rows are finite. -/
def Finite (u : Vec Ideal S1024x1024 .bf16) (w : Vec Ideal S1024x2560 .bf16) : Prop :=
  ∀ (r : Fin 1024) (j : Fin 2560), Fine (∑ k, u (ix2 r k) * w (ix2 k j))

theorem ldw_at (w : Vec Ideal S1024x2560 .bf16) (O : ℕ) (i : ∀ a, (![0, O] : Fin 2 → ℕ) a + S1024x512.size a ≤ S1024x2560.size a)
    (k : Fin 1024) (d : Fin 512) (j : Fin 2560) (hj : j.val = O + d.val) :
    (View.ld w (Rect.unit (s := S1024x2560) ![0, O] S1024x512.size i) : Vec Ideal S1024x512 .bf16) (ix2 k d) = w (ix2 k j) := by
  rw [View.ld_apply]
  refine congrArg w (funext fun
    | 0 => Fin.ext ?_
    | 1 => Fin.ext ?_)
  · simp [LoadRect.idx_apply]
  · simp [LoadRect.idx_apply, hj]

theorem lde_at (w : Vec Ideal S1x2560 .f32) (O : ℕ) (i : ∀ a, (![0, O] : Fin 2 → ℕ) a + S1x512.size a ≤ S1x2560.size a)
    (d : Fin 512) (j : Fin 2560) (hj : j.val = O + d.val) :
    (View.ld w (Rect.unit (s := S1x2560) ![0, O] S1x512.size i) : Vec Ideal S1x512 .f32) (ix2 0 d) = w (ix2 0 j) := by
  rw [View.ld_apply]
  refine congrArg w (funext fun
    | 0 => Fin.ext ?_
    | 1 => Fin.ext ?_)
  · simp [LoadRect.idx_apply]
  · simp [LoadRect.idx_apply, hj]

/-- A block's column is a column of the projection. -/
theorem chunk_ld (O : ℕ) (hO : O % 64 = 0) (i : ∀ a, (![0, O] : Fin 2 → ℕ) a + S1024x512.size a ≤ S1024x2560.size a)
    (i' : ∀ a, (![0, O] : Fin 2 → ℕ) a + S1x512.size a ≤ S1x2560.size a) (u : Vec Ideal S1024x1024 .bf16)
    (w : Vec Ideal S1024x2560 .bf16) (b : Vec Ideal S256x256 .bf16) (e : Vec Ideal S1x2560 .f32) (hb : Heads b) (hf : Finite u w)
    (r : Fin 1024) (d : Fin 512) (j : Fin 2560) (hj : j.val = O + d.val) :
    chunk u (View.ld w (Rect.unit (s := S1024x2560) ![0, O] S1024x512.size i)) b
      (View.ld e (Rect.unit (s := S1x2560) ![0, O] S1x512.size i')) (ix2 r d) = col u w e r j := by
  have hO' : O + 512 ≤ 2560 := i 1
  have ha : ∀ (r : Fin 1024) (d : Fin 512) (j : Fin 2560), j.val = O + d.val →
      acc u (View.ld w (Rect.unit (s := S1024x2560) ![0, O] S1024x512.size i)) r d = ∑ k, u (ix2 r k) * w (ix2 k j) := fun r d j hj =>
    Finset.sum_congr rfl fun k _ => congrArg (u (ix2 r k) * ·) (ldw_at w O i k d j hj)
  rw [chunk_at _ _ _ _ hb fun r d => by rw [ha r d ⟨O + d.val, by omega⟩ rfl]; exact hf _ _, lde_at e O i' d j hj]
  unfold col
  refine congrArg₂ (· * ·) (congrArg₂ hn (funext fun q => ha _ _ _ ?_) (Fin.ext ?_)) rfl
  · simp only
    omega
  · simp only
    omega

/-- What the scratch holds when a group's values are read: its second half's and its first half's last writes. -/
theorem scr_at (P Q : Vec Ideal S1x1024x128 .f32) (L : List (View.Piece (Elt Ideal) S2x1024x128 .f32)) (f : Fin 1024 → Fin 2560 → EReal) (O : ℕ)
    (hP : ∀ (r : Fin 1024) (d : Fin 128) (j : Fin 2560), j.val = O + 128 + d.val → P (ix3 0 r d) = f r j)
    (hQ : ∀ (r : Fin 1024) (d : Fin 128) (j : Fin 2560), j.val = O + d.val → Q (ix3 0 r d) = f r j)
    (h : Fin 2) (r : Fin 1024) (d : Fin 128) (j : Fin 2560) (hj : j.val = O + 128 * h.val + d.val) :
    (View.canon (⟨Rect.unit ![1, 0, 0] ![1, 1024, 128] inb_S2x1024x128_S1x1024x128_1_0_0, P⟩ ::
      ⟨Rect.unit ![0, 0, 0] ![1, 1024, 128] inb_S2x1024x128_S1x1024x128_0_0_0, Q⟩ :: L) :
      Vec Ideal S2x1024x128 .f32) (ix3 h r d) = f r j := by
  refine (Plain.canon_prefix _ _ L _ ?_).trans ?_
  · exact Plain.in_half h r d
  canon_tiles x h
  all_goals
    idx_vars x
    obtain rfl : r = x1 := Fin.ext h1
    obtain rfl : d = x2 := Fin.ext h2
    obtain rfl : x0 = 0 := Subsingleton.elim _ _
    simp only [Fin.val_zero] at h0
    first
      | exact hP _ _ _ (by omega)
      | exact hQ _ _ _ (by omega)

section

variable (x : Vec Ideal S1024x1024 .f32) (g : Vec Ideal S1x1024 .f32) (w : Vec Ideal S1024x2560 .bf16) (b : Vec Ideal S256x256 .bf16)
  (e : Vec Ideal S1x2560 .f32) (L : List (View.Piece (Elt Ideal) S2x1024x128 .f32)) (hb : Heads b) (hf : Finite (k0_pay2 x g) w)
include hb hf

theorem scr6_at (h : Fin 2) (r : Fin 1024) (d : Fin 128) (j : Fin 2560) (hj : j.val = 256 + 128 * h.val + d.val) :
    (View.canon (⟨Rect.unit ![1, 0, 0] ![1, 1024, 128] inb_S2x1024x128_S1x1024x128_1_0_0,
        k0_pay13 (k0_pay3 x g (View.ld w (Rect.unit ![0, 0] ![1024, 512] inb_S1024x2560_S1024x512_0_0)))
          (k0_pay7 x g (View.ld w (Rect.unit ![0, 0] ![1024, 512] inb_S1024x2560_S1024x512_0_0)) b b)
          (k0_pay8 x g (View.ld w (Rect.unit ![0, 0] ![1024, 512] inb_S1024x2560_S1024x512_0_0)) b)
          (k0_pay9 x g (View.ld w (Rect.unit ![0, 0] ![1024, 512] inb_S1024x2560_S1024x512_0_0)))
          b (constant S1024x256 .f32 0#32) (View.ld e (Rect.unit ![0, 0] ![1, 512] inb_S1x2560_S1x512_0_0))⟩ ::
      ⟨Rect.unit ![0, 0, 0] ![1, 1024, 128] inb_S2x1024x128_S1x1024x128_0_0_0,
        k0_pay12 (k0_pay3 x g (View.ld w (Rect.unit ![0, 0] ![1024, 512] inb_S1024x2560_S1024x512_0_0)))
          (k0_pay7 x g (View.ld w (Rect.unit ![0, 0] ![1024, 512] inb_S1024x2560_S1024x512_0_0)) b b)
          (k0_pay8 x g (View.ld w (Rect.unit ![0, 0] ![1024, 512] inb_S1024x2560_S1024x512_0_0)) b)
          (k0_pay9 x g (View.ld w (Rect.unit ![0, 0] ![1024, 512] inb_S1024x2560_S1024x512_0_0)))
          b (constant S1024x256 .f32 0#32) (View.ld e (Rect.unit ![0, 0] ![1, 512] inb_S1x2560_S1x512_0_0))⟩ :: L) :
      Vec Ideal S2x1024x128 .f32) (ix3 h r d) = col (k0_pay2 x g) w e r j := by
  refine scr_at _ _ L (col (k0_pay2 x g) w e) 256 (fun r d j hj => ?_) (fun r d j hj => ?_) h r d j hj
  · rw [pay13_at]
    exact chunk_ld 0 rfl _ _ _ w b e hb hf _ _ _ (by simp only; omega)
  · rw [pay12_at]
    exact chunk_ld 0 rfl _ _ _ w b e hb hf _ _ _ (by simp only; omega)

theorem scr7_at (h : Fin 2) (r : Fin 1024) (d : Fin 128) (j : Fin 2560) (hj : j.val = 512 + 128 * h.val + d.val) :
    (View.canon (⟨Rect.unit ![1, 0, 0] ![1, 1024, 128] inb_S2x1024x128_S1x1024x128_1_0_0,
        k0_pay26 (k0_pay22 (k0_pay2 x g) (View.ld w (Rect.unit ![0, 512] ![1024, 512] inb_S1024x2560_S1024x512_0_512)) b b b b
          (View.ld e (Rect.unit ![0, 512] ![1, 512] inb_S1x2560_S1x512_0_512)))⟩ ::
      ⟨Rect.unit ![0, 0, 0] ![1, 1024, 128] inb_S2x1024x128_S1x1024x128_0_0_0,
        k0_pay25 (k0_pay24 (k0_pay2 x g) (View.ld w (Rect.unit ![0, 512] ![1024, 512] inb_S1024x2560_S1024x512_0_512)) b b b b
          (View.ld e (Rect.unit ![0, 512] ![1, 512] inb_S1x2560_S1x512_0_512)))⟩ :: L) :
      Vec Ideal S2x1024x128 .f32) (ix3 h r d) = col (k0_pay2 x g) w e r j := by
  refine scr_at _ _ L (col (k0_pay2 x g) w e) 512 (fun r d j hj => ?_) (fun r d j hj => ?_) h r d j hj
  · rw [pay26_at]
    exact chunk_ld 512 rfl _ _ _ w b e hb hf _ _ _ (by simp only; omega)
  · rw [pay25_at]
    exact chunk_ld 512 rfl _ _ _ w b e hb hf _ _ _ (by simp only; omega)

/-- The keys' block as the body computes it. -/
def keys (x : Vec Ideal S1024x1024 .f32) (g : Vec Ideal S1x1024 .f32) (w : Vec Ideal S1024x2560 .bf16) (b : Vec Ideal S256x256 .bf16)
    (e : Vec Ideal S1x2560 .f32) : FVec Ideal S1024x512 .f32 :=
  chunk (k0_pay2 x g) (View.ld w (Rect.unit ![0, 1024] ![1024, 512] inb_S1024x2560_S1024x512_0_1024)) b
    (View.ld e (Rect.unit ![0, 1024] ![1, 512] inb_S1x2560_S1x512_0_1024))

theorem keys_at (r : Fin 1024) (d : Fin 512) (j : Fin 2560) (hj : j.val = 1024 + d.val) :
    keys x g w b e (ix2 r d) = col (k0_pay2 x g) w e r j :=
  chunk_ld 1024 rfl _ _ _ w b e hb hf _ _ _ hj

theorem scr8_at (h : Fin 2) (r : Fin 1024) (d : Fin 128) (j : Fin 2560) (hj : j.val = 1024 + 128 * h.val + d.val) :
    (View.canon (⟨Rect.unit ![1, 0, 0] ![1, 1024, 128] inb_S2x1024x128_S1x1024x128_1_0_0,
        k0_pay68 (k0_pay59 (k0_pay2 x g) (View.ld w (Rect.unit ![0, 1024] ![1024, 512] inb_S1024x2560_S1024x512_0_1024)))
          (k0_pay62 (k0_pay2 x g) (View.ld w (Rect.unit ![0, 1024] ![1024, 512] inb_S1024x2560_S1024x512_0_1024)))
          (k0_pay63 (k0_pay2 x g) (View.ld w (Rect.unit ![0, 1024] ![1024, 512] inb_S1024x2560_S1024x512_0_1024)) b b)
          (k0_pay64 (k0_pay2 x g) (View.ld w (Rect.unit ![0, 1024] ![1024, 512] inb_S1024x2560_S1024x512_0_1024)))
          b (constant S1024x256 .f32 0#32) b (View.ld e (Rect.unit ![0, 1024] ![1, 512] inb_S1x2560_S1x512_0_1024))⟩ ::
      ⟨Rect.unit ![0, 0, 0] ![1, 1024, 128] inb_S2x1024x128_S1x1024x128_0_0_0,
        k0_pay67 (k0_pay59 (k0_pay2 x g) (View.ld w (Rect.unit ![0, 1024] ![1024, 512] inb_S1024x2560_S1024x512_0_1024)))
          (k0_pay62 (k0_pay2 x g) (View.ld w (Rect.unit ![0, 1024] ![1024, 512] inb_S1024x2560_S1024x512_0_1024)))
          (k0_pay63 (k0_pay2 x g) (View.ld w (Rect.unit ![0, 1024] ![1024, 512] inb_S1024x2560_S1024x512_0_1024)) b b)
          (k0_pay64 (k0_pay2 x g) (View.ld w (Rect.unit ![0, 1024] ![1024, 512] inb_S1024x2560_S1024x512_0_1024)))
          b (constant S1024x256 .f32 0#32) b (View.ld e (Rect.unit ![0, 1024] ![1, 512] inb_S1x2560_S1x512_0_1024))⟩ :: L) :
      Vec Ideal S2x1024x128 .f32) (ix3 h r d) = col (k0_pay2 x g) w e r j := by
  refine scr_at _ _ L (col (k0_pay2 x g) w e) 1024 (fun r d j hj => ?_) (fun r d j hj => ?_) h r d j hj
  · rw [pay68_at]
    exact keys_at x g w b e hb hf _ _ _ (by simp only; omega)
  · rw [pay67_at]
    exact keys_at x g w b e hb hf _ _ _ (by simp only; omega)

theorem scr9_at (v : FVec Ideal S1024x512 .f32) (hv : v = keys x g w b e) (h : Fin 2) (r : Fin 1024) (d : Fin 128) (j : Fin 2560)
    (hj : j.val = 1280 + 128 * h.val + d.val) :
    (View.canon (⟨Rect.unit ![1, 0, 0] ![1, 1024, 128] inb_S2x1024x128_S1x1024x128_1_0_0, k0_pay78 v⟩ ::
      ⟨Rect.unit ![0, 0, 0] ![1, 1024, 128] inb_S2x1024x128_S1x1024x128_0_0_0, k0_pay77 v⟩ :: L) :
      Vec Ideal S2x1024x128 .f32) (ix3 h r d) = col (k0_pay2 x g) w e r j := by
  subst hv
  refine scr_at _ _ L (col (k0_pay2 x g) w e) 1280 (fun r d j hj => ?_) (fun r d j hj => ?_) h r d j hj
  · rw [pay78_at]
    exact keys_at x g w b e hb hf _ _ _ (by simp only; omega)
  · rw [pay77_at]
    exact keys_at x g w b e hb hf _ _ _ (by simp only; omega)

end

/-- A place in the scratch by its coordinates. -/
theorem at_box (f : Vec Ideal S2x1024x128 .f32) (i : S2x1024x128.Idx) (h : Fin 2) (r : Fin 1024) (d : Fin 128)
    (hh : (i 0).val = h.val) (hr : (i 1).val = r.val) (hd : (i 2).val = d.val) : f i = f (ix3 h r d) := by
  obtain rfl : i 0 = h := Fin.ext hh
  obtain rfl : i 1 = r := Fin.ext hr
  obtain rfl : i 2 = d := Fin.ext hd
  exact congrArg f (eq_ix3 i)

end Cert.Proof.Qk

end
-- ==== Proof.QkFirst.lean ====
/- The first projection's kernel: its first result. -/
module

public import proofs.«01_k».proof.Proof.QkKernel

@[expose] public section

set_option maxRecDepth 16384

noncomputable section

namespace Cert.Proof.Qk

open Cert.QkIdeal Cert.QkIdeal.Gen Cert.Proof.Ffn Idealize.ShloMosaic Idealize.ShloMosaic.TcCoe

/-- The blocks' roundings are blocks, whichever the text of the body computes first. -/
theorem pay1_eq (u : Vec Ideal S1024x1024 .bf16) (w : Vec Ideal S1024x512 .bf16) (b : Vec Ideal S256x256 .bf16) (e : Vec Ideal S1x512 .f32)
    (r : Fin 1024) (d : Fin 512) : k0_pay1 (k0_pay118 u w) (k0_pay120 u w) (k0_pay121 u w) (k0_pay122 u w b) (k0_pay123 u w b) b b e (ix2 r d)
      = chunk u w b e (ix2 r d) := rfl

theorem pay117_eq (u : Vec Ideal S1024x1024 .bf16) (w : Vec Ideal S1024x512 .bf16) (b : Vec Ideal S256x256 .bf16) (e : Vec Ideal S1x512 .f32)
    (r : Fin 1024) (d : Fin 512) : k0_pay117 (k0_pay111 u w) (k0_pay113 u w) (k0_pay114 u w) (k0_pay115 u w b) (k0_pay116 u w) b b b e (ix2 r d)
      = chunk u w b e (ix2 r d) := rfl

theorem pay23_eq (u : Vec Ideal S1024x1024 .bf16) (w : Vec Ideal S1024x512 .bf16) (b : Vec Ideal S256x256 .bf16) (e : Vec Ideal S1x512 .f32)
    (r : Fin 1024) (d : Fin 512) : k0_pay23 u w b b b b e (ix2 r d) = chunk u w b e (ix2 r d) := congrFun (pay22_eq u w b e) _

theorem pay11_eq (x : Vec Ideal S1024x1024 .f32) (g : Vec Ideal S1x1024 .f32) (w : Vec Ideal S1024x512 .bf16) (b : Vec Ideal S256x256 .bf16)
    (e : Vec Ideal S1x512 .f32) (r : Fin 1024) (d : Fin 512) :
    k0_pay11 (k0_pay3 x g w) (k0_pay7 x g w b b) (k0_pay8 x g w b) (k0_pay9 x g w) b (constant S1024x256 .f32 0x00000000#32) e (ix2 r d)
      = chunk (k0_pay2 x g) w b e (ix2 r d) := congrFun (pay10_eq x g w b e) _

variable (m : (ℓ : Loc nD τ sig) → Buf (Elt Ideal) ℓ) (c : Dev nD) (t : Fin cfg0.N) (hb : Heads (iblk m c 4 t))
  (hf : Finite (k0_pay2 (iblk m c 0 t) (iblk m c 1 t)) (iblk m c 2 t))
include hb hf

set_option maxHeartbeats 4000000 in
/-- The body's first result. -/
theorem out5_at (r : Fin 1024) (d : Fin 2560) : (outsAt0 m c t).1 (ix2 r d) =
    col (k0_pay2 (iblk m c 0 t) (iblk m c 1 t)) (iblk m c 2 t) (iblk m c 3 t) r d := by
  unfold outsAt0
  unfold out0_A_5
  rw [View.read_writes_junk_eq_canon]
  frame_out
  canon_tiles x h
  all_goals
    idx_vars x
    obtain rfl : r = x0 := Fin.ext h0
  · exact (pay1_eq _ _ _ _ _ _).trans (chunk_ld 2048 rfl _ _ _ _ _ _ hb hf _ _ _ h1)
  · exact (pay117_eq _ _ _ _ _ _).trans (chunk_ld 1536 rfl _ _ _ _ _ _ hb hf _ _ _ h1)
  · exact chunk_ld 1024 rfl _ _ _ _ _ _ hb hf _ _ _ h1
  · exact (pay23_eq _ _ _ _ _ _).trans (chunk_ld 512 rfl _ _ _ _ _ _ hb hf _ _ _ h1)
  · exact (pay11_eq _ _ _ _ _ _ _).trans (chunk_ld 0 rfl _ _ _ _ _ _ hb hf _ _ _ (h1.trans (Nat.zero_add _).symm))

end Cert.Proof.Qk

end
-- ==== Proof.QkSecond.lean ====
/- The first projection's kernel: the results with four places of the sequence to a row. -/
module

public import proofs.«01_k».proof.Proof.QkKernel

@[expose] public section

set_option maxRecDepth 16384

noncomputable section

namespace Cert.Proof.Qk

open Cert.QkIdeal Cert.QkIdeal.Gen Cert.Proof.Ffn Idealize.ShloMosaic Idealize.ShloMosaic.TcCoe

variable (m : (ℓ : Loc nD τ sig) → Buf (Elt Ideal) ℓ) (c : Dev nD) (t : Fin cfg0.N) (hb : Heads (iblk m c 4 t))
  (hf : Finite (k0_pay2 (iblk m c 0 t) (iblk m c 1 t)) (iblk m c 2 t))
include hb hf

set_option maxHeartbeats 2000000 in
/-- The queries' second result: four places of the sequence to a row. -/
theorem out6_at (r : Fin 256) (e : Fin 1024) : (outsAt0 m c t).2.1 (ix2 r e) =
    col (k0_pay2 (iblk m c 0 t) (iblk m c 1 t)) (iblk m c 2 t) (iblk m c 3 t) ⟨4 * r.val + e.val / 256, by omega⟩
      ⟨256 + e.val % 256, by omega⟩ := by
  unfold outsAt0
  unfold out0_A_6
  rw [View.read_writes_junk_eq_canon]
  frame_out
  canon_tiles x h
  all_goals
    idx_vars x
    obtain rfl : r = x0 := Fin.ext h0
    change k0_pay14 _ (ix2 _ _) = _
    rw [pay14_at, View.readCov_eq_canon']
    refine (at_box _ _ ⟨e.val / 128 % 2, by omega⟩ ⟨4 * r.val + e.val / 256, by omega⟩ ⟨e.val % 128, by omega⟩ ?_ ?_ ?_).trans
      (scr6_at _ _ _ _ _ _ hb hf _ _ _ _ ?_)
    all_goals
      simp [LoadRect.idx_apply]
      omega

set_option maxHeartbeats 2000000 in
/-- The keys' second result. -/
theorem out8_at (r : Fin 256) (e : Fin 1024) : (outsAt0 m c t).2.2.2.1 (ix2 r e) =
    col (k0_pay2 (iblk m c 0 t) (iblk m c 1 t)) (iblk m c 2 t) (iblk m c 3 t) ⟨4 * r.val + e.val / 256, by omega⟩
      ⟨1024 + e.val % 256, by omega⟩ := by
  unfold outsAt0
  unfold out0_A_8
  rw [View.read_writes_junk_eq_canon]
  frame_out
  canon_tiles x h
  all_goals
    idx_vars x
    obtain rfl : r = x0 := Fin.ext h0
    change k0_pay14 _ (ix2 _ _) = _
    rw [pay14_at, View.readCov_eq_canon']
    refine (at_box _ _ ⟨e.val / 128 % 2, by omega⟩ ⟨4 * r.val + e.val / 256, by omega⟩ ⟨e.val % 128, by omega⟩ ?_ ?_ ?_).trans
      (scr8_at _ _ _ _ _ _ hb hf _ _ _ _ ?_)
    all_goals
      simp [LoadRect.idx_apply]
      omega

end Cert.Proof.Qk

end
-- ==== Proof.QkThird.lean ====
/- The first projection's kernel: the results with sixteen places of the sequence to a row. -/
module

public import proofs.«01_k».proof.Proof.QkKernel

@[expose] public section

set_option maxRecDepth 16384

noncomputable section

namespace Cert.Proof.Qk

open Cert.QkIdeal Cert.QkIdeal.Gen Cert.Proof.Ffn Idealize.ShloMosaic Idealize.ShloMosaic.TcCoe

variable (m : (ℓ : Loc nD τ sig) → Buf (Elt Ideal) ℓ) (c : Dev nD) (t : Fin cfg0.N) (hb : Heads (iblk m c 4 t))
  (hf : Finite (k0_pay2 (iblk m c 0 t) (iblk m c 1 t)) (iblk m c 2 t))
include hb hf

set_option maxHeartbeats 8000000 in
/-- The queries' third result. -/
theorem out7_at (r : Fin 64) (e : Fin 4096) : (outsAt0 m c t).2.2.1 (ix2 r e) =
    col (k0_pay2 (iblk m c 0 t) (iblk m c 1 t)) (iblk m c 2 t) (iblk m c 3 t) ⟨16 * r.val + e.val / 256, by omega⟩
      ⟨512 + e.val % 256, by omega⟩ := by
  unfold outsAt0
  unfold out0_A_7
  rw [View.read_writes_junk_eq_canon]
  frame_out
  canon_tiles x h
  all_goals
    idx_vars x
    obtain rfl : r = x0 := Fin.ext h0
    change k0_pay27 _ (ix2 _ _) = _
    rw [pay27_at, View.readCov_eq_canon']
    refine (at_box _ _ ⟨e.val / 128 % 2, by omega⟩ ⟨16 * r.val + e.val / 256, by omega⟩ ⟨e.val % 128, by omega⟩ ?_ ?_ ?_).trans
      (scr7_at _ _ _ _ _ _ hb hf _ _ _ _ ?_)
    all_goals
      simp [LoadRect.idx_apply]
      omega

end Cert.Proof.Qk

end
-- ==== Proof.QkFourth.lean ====
/- The first projection's kernel: the keys with sixteen places of the sequence to a row. -/
module

public import proofs.«01_k».proof.Proof.QkKernel

@[expose] public section

set_option maxRecDepth 16384

noncomputable section

namespace Cert.Proof.Qk

open Cert.QkIdeal Cert.QkIdeal.Gen Cert.Proof.Ffn Idealize.ShloMosaic Idealize.ShloMosaic.TcCoe

variable (m : (ℓ : Loc nD τ sig) → Buf (Elt Ideal) ℓ) (c : Dev nD) (t : Fin cfg0.N) (hb : Heads (iblk m c 4 t))
  (hf : Finite (k0_pay2 (iblk m c 0 t) (iblk m c 1 t)) (iblk m c 2 t))
include hb hf

set_option maxHeartbeats 8000000 in
/-- The keys' third result. -/
theorem out9_at (r : Fin 64) (e : Fin 4096) : (outsAt0 m c t).2.2.2.2 (ix2 r e) =
    col (k0_pay2 (iblk m c 0 t) (iblk m c 1 t)) (iblk m c 2 t) (iblk m c 3 t) ⟨16 * r.val + e.val / 256, by omega⟩
      ⟨1280 + e.val % 256, by omega⟩ := by
  unfold outsAt0
  unfold out0_A_9
  rw [View.read_writes_junk_eq_canon]
  frame_out
  canon_tiles x h
  all_goals
    idx_vars x
    obtain rfl : r = x0 := Fin.ext h0
    change k0_pay27 _ (ix2 _ _) = _
    rw [pay27_at, View.readCov_eq_canon']
    refine (at_box _ _ ⟨e.val / 128 % 2, by omega⟩ ⟨16 * r.val + e.val / 256, by omega⟩ ⟨e.val % 128, by omega⟩ ?_ ?_ ?_).trans
      (scr9_at _ _ _ _ _ _ hb hf _ rfl _ _ _ _ ?_)
    all_goals
      simp [LoadRect.idx_apply]
      omega

end Cert.Proof.Qk

end
-- ==== Proof.QkArrays.lean ====
/- The first projection's kernel: its five results as whole arrays. -/
module

public import proofs.«01_k».proof.Proof.QkLit
public import proofs.«01_k».proof.Proof.QkValue
public import proofs.«01_k».proof.Proof.QkFirst
public import proofs.«01_k».proof.Proof.QkSecond
public import proofs.«01_k».proof.Proof.QkThird
public import proofs.«01_k».proof.Proof.QkFourth

@[expose] public section

set_option maxRecDepth 16384

noncomputable section

namespace Cert.Proof.Qk

open Cert.QkIdeal Cert.QkIdeal.Gen Cert.Proof.Ffn Idealize.ShloMosaic Idealize.ShloMosaic.TcCoe

/-- Where the windows stand at each point: the input and the results at block `t`, the rest in place. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

variable (m : (ℓ : Loc nD τ sig) → Buf (Elt Ideal) ℓ)

/-- A row of the residual stream's block. -/
theorem blk0 (c : Dev nD) (t : Fin cfg0.N) (r : Fin 1024) (k : Fin 1024) : iblk m c 0 t (ix2 r k)
    = V m c main_v33 (ix2 ⟨t.val * 1024 + r.val, by have := t.isLt; change _ < 32 at this; omega⟩ k) := by
  blk_ext! [iblk, idx t]

/-- The gain of the rows. -/
theorem blk1 (c : Dev nD) (t : Fin cfg0.N) (k : Fin 1024) : iblk m c 1 t (ix2 0 k) = V m c main_v34 (ix2 0 k) := by
  blk_ext! [iblk, idx t]

/-- The weights. -/
theorem blk2 (c : Dev nD) (t : Fin cfg0.N) (k : Fin 1024) (j : Fin 2560) : iblk m c 2 t (ix2 k j) = V m c main_v16 (ix2 k j) := by
  blk_ext! [iblk, idx t]

/-- The gains of the values. -/
theorem blk3 (c : Dev nD) (t : Fin cfg0.N) (j : Fin 2560) : iblk m c 3 t (ix2 0 j) = V m c main_v32 (ix2 0 j) := by
  blk_ext! [iblk, idx t]

/-- The table. -/
theorem blk4 (c : Dev nD) (t : Fin cfg0.N) (p q : Fin 256) : iblk m c 4 t (ix2 p q) = V m c main_cst (ix2 p q) := by
  blk_ext! [iblk, idx t]

/-- The table is one where two columns are of one head. -/
theorem heads (c : Dev nD) (t : Fin cfg0.N) : Heads (iblk m c 4 t) := fun p q => by
  rw [blk4, table_at, lit0_at]
  split_ifs
  · exact lit_one
  · exact Ideal.ofBits_zero _

/-- One projected value: the normed row's product with one column of the input weights. -/
def prod (h : Shape.Idx ⟨3, ![8, 4096, 1024]⟩ → EReal) (g : Shape.Idx ⟨1, ![1024]⟩ → EReal) (w : Shape.Idx ⟨2, ![1024, 6872]⟩ → EReal)
    (T : Fin 32768) (j : Fin 6872) : EReal :=
  ∑ k, rms (fun k => h (ix3 ⟨T.val / 4096, by omega⟩ ⟨T.val % 4096, by omega⟩ k)) (fun k => g (ix1 k)) k * w (ix2 k j)

/-- The gain of the rows and the weights are finite. -/
def Args (c : Dev nD) : Prop :=
  (∀ k, Fine ((m ((c : Thread nD τ).loc main_arg1) : Vec Ideal S1024 .f32) (ix1 k)))
    ∧ ∀ k j, Fine ((m ((c : Thread nD τ).loc main_arg2) : Vec Ideal S1024x6872 .f32) (ix2 k j))

/-- A row's product with one column of the regrouped weights. -/
theorem sum_eq (c : Dev nD) (t : Fin cfg0.N) (r : Fin 1024) (d : Fin 2560) (T : Fin 32768) (hT : T.val = t.val * 1024 + r.val) :
    ∑ k, k0_pay2 (iblk m c 0 t) (iblk m c 1 t) (ix2 r k) * iblk m c 2 t (ix2 k d)
      = pick (prod (m ((c : Thread nD τ).loc main_arg0)) (m ((c : Thread nD τ).loc main_arg1)) (m ((c : Thread nD τ).loc main_arg2)) T) d := by
  have b : (⟨t.val * 1024 + r.val, hT ▸ T.isLt⟩ : Fin 32768) = T := Fin.ext hT.symm
  have e (k) : k0_pay2 (iblk m c 0 t) (iblk m c 1 t) (ix2 r k) * iblk m c 2 t (ix2 k d)
      = rms (fun k => (m ((c : Thread nD τ).loc main_arg0) : Vec Ideal S8x4096x1024 .f32) (ix3 ⟨T.val / 4096, by omega⟩ ⟨T.val % 4096, by omega⟩ k))
        (fun k => (m ((c : Thread nD τ).loc main_arg1) : Vec Ideal S1024 .f32) (ix1 k)) k
        * pick (fun j => (m ((c : Thread nD τ).loc main_arg2) : Vec Ideal S1024x6872 .f32) (ix2 k j)) d := by
    refine congrArg₂ (· * ·) ((pay2_at _ _ _ _).trans (congrFun (congrArg₂ rms (funext fun k => ?_) (funext fun k => ?_)) k))
      ((blk2 m c t k d).trans (weights_at m c k d))
    · refine (blk0 m c t r k).trans (Eq.trans ?_ (rows_at m c T k))
      rw [b]
    · exact (blk1 m c t k).trans (gain_at m c k)
  exact (Finset.sum_congr rfl fun k _ => e k).trans (sum_pick _ _ _)

theorem finite (c : Dev nD) (ha : Args m c) (t : Fin cfg0.N) : Finite (k0_pay2 (iblk m c 0 t) (iblk m c 1 t)) (iblk m c 2 t) := fun r j => by
  rw [sum_eq m c t r j ⟨t.val * 1024 + r.val, by have := t.isLt; change _ < 32 at this; omega⟩ rfl]
  exact Fine.pick (fun j => Fine.sum fun k => (fine_rms (fun k => ha.1 _) _).mul (ha.2 _ _)) _

/-- One value, of the kernel's arguments. -/
def val (c : Dev nD) (T : Fin 32768) (j : Fin 2560) : EReal :=
  qv (prod (m ((c : Thread nD τ).loc main_arg0)) (m ((c : Thread nD τ).loc main_arg1)) (m ((c : Thread nD τ).loc main_arg2)) T)
    (fun k => (m ((c : Thread nD τ).loc main_arg3) : Vec Ideal S64 .f32) (ix1 k))
    (fun k => (m ((c : Thread nD τ).loc main_arg4) : Vec Ideal S64 .f32) (ix1 k))
    (fun k => (m ((c : Thread nD τ).loc main_arg5) : Vec Ideal S64 .f32) (ix1 k))
    (fun k => (m ((c : Thread nD τ).loc main_arg6) : Vec Ideal S64 .f32) (ix1 k)) j

theorem col_eq (c : Dev nD) (t : Fin cfg0.N) (r : Fin 1024) (d : Fin 2560) (T : Fin 32768) (j : Fin 2560)
    (hT : T.val = t.val * 1024 + r.val) (hj : j.val = d.val) :
    col (k0_pay2 (iblk m c 0 t) (iblk m c 1 t)) (iblk m c 2 t) (iblk m c 3 t) r d = val m c T j := by
  obtain rfl : j = d := Fin.ext hj
  unfold col val qv
  simp only [sum_eq m c t r _ T hT, blk3]
  exact congrArg _ (gains_at m c j)

/-- What the kernel's five results hold. -/
def res5 (c : Dev nD) : Vec Ideal S32768x2560 .bf16 := fun i => val m c ⟨(i 0).val, (i 0).isLt⟩ ⟨(i 1).val, (i 1).isLt⟩

/-- Four and sixteen places of the sequence to a row, from column `o` on. -/
def four (c : Dev nD) (o : Fin 2304) : Vec Ideal S8192x1024 .bf16 := fun i => val m c
  ⟨4 * (i 0).val + (i 1).val / 256, by have a := (i 0).isLt; have b := (i 1).isLt; change (i 0).val < 8192 at a; change (i 1).val < 1024 at b; omega⟩
  ⟨o.val + (i 1).val % 256, by omega⟩

def sixteen (c : Dev nD) (o : Fin 2304) : Vec Ideal S2048x4096 .bf16 := fun i => val m c
  ⟨16 * (i 0).val + (i 1).val / 256, by have a := (i 0).isLt; have b := (i 1).isLt; change (i 0).val < 2048 at a; change (i 1).val < 4096 at b; omega⟩
  ⟨o.val + (i 1).val % 256, by omega⟩

variable (c : Dev nD) (ha : Args m c)
include ha

theorem arr5_eq : (dats m 0 c).arrAt 5 cfg0.N = res5 m c := by
  refine (dats m 0 c).arrAt_eq_of_covers 5 _ (by decide +kernel) fun t hf y => ?_
  blk_simp
  rw [after0_5]
  idx_vars y
  rw [out5_at m c t (heads m c t) (finite m c ha t)]
  have e0 : ((((View.whole main_v35_0).slice (win0_5.rect t)).emb (ix2 y0 y1) 0 : Fin _) : ℕ) = t.val * 1024 + y0.val := by
    blk_simp [idx t]
  have e1 : ((((View.whole main_v35_0).slice (win0_5.rect t)).emb (ix2 y0 y1) 1 : Fin _) : ℕ) = y1.val := by
    blk_simp [idx t]
  exact col_eq m c t _ _ _ _ e0 e1

theorem arr6_eq : (dats m 0 c).arrAt 6 cfg0.N = four m c 256 := by
  refine (dats m 0 c).arrAt_eq_of_covers 6 _ (by decide +kernel) fun t hf y => ?_
  blk_simp
  rw [after0_6]
  idx_vars y
  rw [out6_at m c t (heads m c t) (finite m c ha t)]
  have e0 : ((((View.whole main_v35_1).slice (win0_6.rect t)).emb (ix2 y0 y1) 0 : Fin _) : ℕ) = t.val * 256 + y0.val := by
    blk_simp [idx t]
  have e1 : ((((View.whole main_v35_1).slice (win0_6.rect t)).emb (ix2 y0 y1) 1 : Fin _) : ℕ) = y1.val := by
    blk_simp [idx t]
  refine col_eq m c t _ _ _ _ ?_ ?_
  · simp only [e0, e1]
    omega
  · simp only [e1]
    rfl

theorem arr7_eq : (dats m 0 c).arrAt 7 cfg0.N = sixteen m c 512 := by
  refine (dats m 0 c).arrAt_eq_of_covers 7 _ (by decide +kernel) fun t hf y => ?_
  blk_simp
  rw [after0_7]
  idx_vars y
  rw [out7_at m c t (heads m c t) (finite m c ha t)]
  have e0 : ((((View.whole main_v35_2).slice (win0_7.rect t)).emb (ix2 y0 y1) 0 : Fin _) : ℕ) = t.val * 64 + y0.val := by
    blk_simp [idx t]
  have e1 : ((((View.whole main_v35_2).slice (win0_7.rect t)).emb (ix2 y0 y1) 1 : Fin _) : ℕ) = y1.val := by
    blk_simp [idx t]
  refine col_eq m c t _ _ _ _ ?_ ?_
  · simp only [e0, e1]
    omega
  · simp only [e1]
    rfl

theorem arr8_eq : (dats m 0 c).arrAt 8 cfg0.N = four m c 1024 := by
  refine (dats m 0 c).arrAt_eq_of_covers 8 _ (by decide +kernel) fun t hf y => ?_
  blk_simp
  rw [after0_8]
  idx_vars y
  rw [out8_at m c t (heads m c t) (finite m c ha t)]
  have e0 : ((((View.whole main_v35_3).slice (win0_8.rect t)).emb (ix2 y0 y1) 0 : Fin _) : ℕ) = t.val * 256 + y0.val := by
    blk_simp [idx t]
  have e1 : ((((View.whole main_v35_3).slice (win0_8.rect t)).emb (ix2 y0 y1) 1 : Fin _) : ℕ) = y1.val := by
    blk_simp [idx t]
  refine col_eq m c t _ _ _ _ ?_ ?_
  · simp only [e0, e1]
    omega
  · simp only [e1]
    rfl

theorem arr9_eq : (dats m 0 c).arrAt 9 cfg0.N = sixteen m c 1280 := by
  refine (dats m 0 c).arrAt_eq_of_covers 9 _ (by decide +kernel) fun t hf y => ?_
  blk_simp
  rw [after0_9]
  idx_vars y
  rw [out9_at m c t (heads m c t) (finite m c ha t)]
  have e0 : ((((View.whole main_v35_4).slice (win0_9.rect t)).emb (ix2 y0 y1) 0 : Fin _) : ℕ) = t.val * 64 + y0.val := by
    blk_simp [idx t]
  have e1 : ((((View.whole main_v35_4).slice (win0_9.rect t)).emb (ix2 y0 y1) 1 : Fin _) : ℕ) = y1.val := by
    blk_simp [idx t]
  refine col_eq m c t _ _ _ _ ?_ ?_
  · simp only [e0, e1]
    omega
  · simp only [e1]
    rfl

end Cert.Proof.Qk

end
-- ==== Proof.QkReference.lean ====
/- The first projection's reference: the same values. -/
module

public import proofs.«01_k».proof.Proof.QkValue
public import proofs.«01_k».proof.Proof.Gen.QkReferenceIdeal.Run
public import Idealize.ShloMosaic.Lib.Pipeline.ValueKit

@[expose] public section

set_option maxRecDepth 16384

noncomputable section

namespace Cert.Proof.QkRef

open Cert.QkReferenceIdeal Cert.QkReferenceIdeal.Gen Cert.QkReferenceIdeal.Value Cert.Proof.Ffn Cert.Proof.Qk
open Idealize.ShloMosaic Idealize.ShloMosaic.TcCoe

/-- The normed rows of `x`. -/
def norm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
    (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- Their product with the input weights. -/
def proj (x : FVec Ideal S8x4096x1024 .f32) (g : FVec Ideal S1024 .f32) (w : FVec Ideal S1024x6872 .f32) : FVec Ideal S8x4096x6872 .f32 :=
  Host.dotGeneral dot_S8x4096x1024_S1024x6872_S8x4096x6872_2_0_01_1_n_n none (norm x g) w

theorem norm_at (x : FVec Ideal S8x4096x1024 .f32) (g : FVec Ideal S1024 .f32) (s : Fin 8) (q : Fin 4096) (d : Fin 1024) :
    norm x g (ix3 s q d) = rms (fun k => x (ix3 s q k)) (fun k => g (ix1 k)) d := by
  unfold rms
  pointwise [norm]

/-- One projected value: the normed row's product with one column of the input weights. -/
theorem proj_at (x : FVec Ideal S8x4096x1024 .f32) (g : FVec Ideal S1024 .f32) (w : FVec Ideal S1024x6872 .f32) (s : Fin 8) (q : Fin 4096)
    (j : Fin 6872) : proj x g w (ix3 s q j) = ∑ k, rms (fun k => x (ix3 s q k)) (fun k => g (ix1 k)) k * w (ix2 k j) := by
  simp only [← norm_at]
  pointwise [proj]

/-- The heads of `x`, each over its root mean square and times the gain. -/
def hnorm (x : FVec Ideal S8x4096x768 .f32) (g : FVec Ideal S64 .f32) : FVec Ideal S8x4096x12x64 .f32 :=
  mulf (mulf (shapeCast _ x shapeCasts_S8x4096x768_S8x4096x12x64)
    (broadcastInDim S8x4096x12x64 ![0, 1, 2, 3] bcast_S8x4096x12x1_S8x4096x12x64_0_1_2_3 (Host.rsqrt (addf (Host.divf
      (broadcastInDim S8x4096x12x1 ![0, 1, 2] bcast_S8x4096x12_S8x4096x12x1_0_1_2
        (Host.reduceAdd (mulf (shapeCast _ x shapeCasts_S8x4096x768_S8x4096x12x64) (shapeCast _ x shapeCasts_S8x4096x768_S8x4096x12x64))
          (constant S_ .f32 0x00000000#32) reducesTo_S8x4096x12x64_S8x4096x12_d3 h_S_))
      (broadcastInDim S8x4096x12x1 ![] bcast_S_S8x4096x12x1 (constant S_ .f32 0x42800000#32)))
      (broadcastInDim S8x4096x12x1 ![] bcast_S_S8x4096x12x1 (constant S_ .f32 0x358637BD#32))))))
    (broadcastInDim S8x4096x12x64 ![0, 1, 2, 3] bcast_S1x1x1x64_S8x4096x12x64_0_1_2_3 (broadcastInDim S1x1x1x64 ![3] bcast_S64_S1x1x1x64_3 g))

/-- A number at every place of every head. -/
def all (n : BitVec 32) : FVec Ideal S8x4096x12x64 .f32 := broadcastInDim S8x4096x12x64 ![] bcast_S_S8x4096x12x64 (constant S_ .f32 n)

/-- The first queries, the first keys, the second queries and the second key. -/
def qa (y : FVec Ideal S8x4096x6872 .f32) (g : FVec Ideal S64 .f32) : FVec Ideal S8x4096x768 .f32 :=
  shapeCast _ (mulf (hnorm (extractStridedSlice S8x4096x768 ![0, 0, 0] y slices_S8x4096x6872_S8x4096x768_0_0_0) g) (all 0x3E000000#32))
    shapeCasts_S8x4096x12x64_S8x4096x768

def ka (y : FVec Ideal S8x4096x6872 .f32) (g : FVec Ideal S64 .f32) : FVec Ideal S8x4096x768 .f32 :=
  shapeCast _ (hnorm (extractStridedSlice S8x4096x768 ![0, 0, 768] y slices_S8x4096x6872_S8x4096x768_0_0_768) g)
    shapeCasts_S8x4096x12x64_S8x4096x768

def qc (y : FVec Ideal S8x4096x6872 .f32) (g : FVec Ideal S64 .f32) : FVec Ideal S8x4096x768 .f32 :=
  shapeCast _ (mulf (mulf (hnorm (extractStridedSlice S8x4096x768 ![0, 0, 5392] y slices_S8x4096x6872_S8x4096x768_0_0_5392) g)
    (all 0x3E000000#32)) (all 0x3FB8AA3B#32)) shapeCasts_S8x4096x12x64_S8x4096x768

def snorm (x : FVec Ideal S8x4096x64 .f32) (g : FVec Ideal S64 .f32) : FVec Ideal S8x4096x64 .f32 :=
  mulf (mulf x (broadcastInDim S8x4096x64 ![0, 1, 2] bcast_S8x4096x1_S8x4096x64_0_1_2 (Host.rsqrt (addf (Host.divf
    (broadcastInDim S8x4096x1 ![0, 1] bcast_S8x4096_S8x4096x1_0_1
      (Host.reduceAdd (mulf x x) (constant S_ .f32 0x00000000#32) reducesTo_S8x4096x64_S8x4096_d2 h_S_))
    (broadcastInDim S8x4096x1 ![] bcast_S_S8x4096x1 (constant S_ .f32 0x42800000#32)))
    (broadcastInDim S8x4096x1 ![] bcast_S_S8x4096x1 (constant S_ .f32 0x358637BD#32))))))
    (broadcastInDim S8x4096x64 ![0, 1, 2] bcast_S1x1x64_S8x4096x64_0_1_2 (broadcastInDim S1x1x64 ![2] bcast_S64_S1x1x64_2 g))

def kc (y : FVec Ideal S8x4096x6872 .f32) (g : FVec Ideal S64 .f32) : FVec Ideal S8x4096x256 .f32 :=
  pad S8x4096x256 ![0, 0, 0] ![0, 0, 192] ![0, 0, 0]
    (snorm (extractStridedSlice S8x4096x64 ![0, 0, 6160] y slices_S8x4096x6872_S8x4096x64_0_0_6160) g)
    (sitofp .f32 (constantI S_ 32 0#32)) pads_S8x4096x64_S8x4096x256_000_000_01920 h_S_

theorem hnorm_at (x : FVec Ideal S8x4096x768 .f32) (g : FVec Ideal S64 .f32) (s : Fin 8) (q : Fin 4096) (h : Fin 12) (d : Fin 64) :
    hnorm x g (ix4 s q h d) = hn (fun k => x (ix3 s q ⟨64 * h.val + k.val, by omega⟩)) d * g (ix1 d) := by
  unfold hn
  pointwise [hnorm]
  simp only [Nat.mul_comm h.val 64]

theorem snorm_at (x : FVec Ideal S8x4096x64 .f32) (g : FVec Ideal S64 .f32) (s : Fin 8) (q : Fin 4096) (d : Fin 64) :
    snorm x g (ix3 s q d) = hn (fun k => x (ix3 s q k)) d * g (ix1 d) := by
  unfold hn
  pointwise [snorm]

theorem qa_at (y : FVec Ideal S8x4096x6872 .f32) (g : FVec Ideal S64 .f32) (s : Fin 8) (q : Fin 4096) (j : Fin 768) :
    qa y g (ix3 s q j) = hn (fun k => y (ix3 s q ⟨64 * (j.val / 64) + k.val, by omega⟩)) ⟨j.val % 64, by omega⟩
      * g (ix1 ⟨j.val % 64, by omega⟩) * Ideal.ofBits .f32 0x3E000000#32 := by
  have e := hnorm_at (extractStridedSlice S8x4096x768 ![0, 0, 0] y slices_S8x4096x6872_S8x4096x768_0_0_0) g s q ⟨j.val / 64, by omega⟩
    ⟨j.val % 64, by omega⟩
  pointwise [qa, all]
  rw [e]
  pointwise []

theorem ka_at (y : FVec Ideal S8x4096x6872 .f32) (g : FVec Ideal S64 .f32) (s : Fin 8) (q : Fin 4096) (j : Fin 768) :
    ka y g (ix3 s q j) = hn (fun k => y (ix3 s q ⟨768 + (64 * (j.val / 64) + k.val), by omega⟩)) ⟨j.val % 64, by omega⟩
      * g (ix1 ⟨j.val % 64, by omega⟩) := by
  have e := hnorm_at (extractStridedSlice S8x4096x768 ![0, 0, 768] y slices_S8x4096x6872_S8x4096x768_0_0_768) g s q ⟨j.val / 64, by omega⟩
    ⟨j.val % 64, by omega⟩
  pointwise [ka]
  rw [e]
  pointwise []

theorem qc_at (y : FVec Ideal S8x4096x6872 .f32) (g : FVec Ideal S64 .f32) (s : Fin 8) (q : Fin 4096) (j : Fin 768) :
    qc y g (ix3 s q j) = hn (fun k => y (ix3 s q ⟨5392 + (64 * (j.val / 64) + k.val), by omega⟩)) ⟨j.val % 64, by omega⟩
      * g (ix1 ⟨j.val % 64, by omega⟩) * Ideal.ofBits .f32 0x3E000000#32 * Ideal.ofBits .f32 0x3FB8AA3B#32 := by
  have e := hnorm_at (extractStridedSlice S8x4096x768 ![0, 0, 5392] y slices_S8x4096x6872_S8x4096x768_0_0_5392) g s q ⟨j.val / 64, by omega⟩
    ⟨j.val % 64, by omega⟩
  pointwise [qc, all]
  rw [e]
  pointwise []

theorem kc_at (y : FVec Ideal S8x4096x6872 .f32) (g : FVec Ideal S64 .f32) (s : Fin 8) (q : Fin 4096) (j : Fin 256) :
    kc y g (ix3 s q j) = if h : j.val < 64 then hn (fun k => y (ix3 s q ⟨6160 + k.val, by omega⟩)) ⟨j.val, h⟩ * g (ix1 ⟨j.val, h⟩) else 0 := by
  have z : FloatOps.sitofp (F := Ideal) FTy.f32 0#32 = (0 : EReal) := by
    change (((0#32 : BitVec 32).toInt : ℝ) : EReal) = 0
    simp
  pointwise [kc]
  simp only [snorm_at, z]
  pointwise []

/-- The four groups side by side. -/
def cat (a b d : FVec Ideal S8x4096x768 .f32) (e : FVec Ideal S8x4096x256 .f32) : FVec Ideal S8x4096x2560 .f32 :=
  concatenate S8x4096x2560 2 [⟨S8x4096x768, a⟩, ⟨S8x4096x768, b⟩, ⟨S8x4096x768, d⟩, ⟨S8x4096x256, e⟩]
    concatenates_S8x4096x768_S8x4096x768_S8x4096x768_S8x4096x256_S8x4096x2560_d2

theorem cat_at (a b d : FVec Ideal S8x4096x768 .f32) (e : FVec Ideal S8x4096x256 .f32) (s : Fin 8) (q : Fin 4096) (j : Fin 2560) :
    cat a b d e (ix3 s q j) = if h : j.val < 768 then a (ix3 s q ⟨j.val, h⟩) else if h : j.val - 768 < 768 then b (ix3 s q ⟨j.val - 768, h⟩)
      else if h : j.val - 768 - 768 < 768 then d (ix3 s q ⟨j.val - 768 - 768, h⟩) else e (ix3 s q ⟨j.val - 768 - 768 - 768, by omega⟩) := by
  pointwise [cat]

/-- A place of the four groups is a value of the projection. -/
theorem groups_at (y : FVec Ideal S8x4096x6872 .f32) (ga gb gd ge : FVec Ideal S64 .f32) (s : Fin 8) (q : Fin 4096) (j : Fin 2560) :
    cat (qa y ga) (ka y gb) (qc y gd) (kc y ge) (ix3 s q j) =
      qv (fun j => y (ix3 s q j)) (fun k => ga (ix1 k)) (fun k => gb (ix1 k)) (fun k => gd (ix1 k)) (fun k => ge (ix1 k)) j := by
  rw [cat_at]
  split_ifs with h h h
  · rw [qa_at, qv_q _ _ _ _ _ _ h]
  · rw [ka_at, qv_k _ _ _ _ _ _ (by omega) (by omega)]
    refine congr (congrArg _ (congr (congrArg hn (funext fun k => congrArg (fun i => y (ix3 s q i)) (Fin.ext ?_))) (Fin.ext ?_)))
      (congrArg (fun i => gb (ix1 i)) (Fin.ext ?_))
    all_goals
      simp only
      omega
  · rw [qc_at, qv_c _ _ _ _ _ _ (by omega) (by omega)]
    refine congrArg (· * _) (congrArg (· * _) (congr (congrArg _ (congr (congrArg hn (funext fun k => congrArg (fun i => y (ix3 s q i)) (Fin.ext ?_))) (Fin.ext ?_)))
      (congrArg (fun i => gd (ix1 i)) (Fin.ext ?_))))
    all_goals
      simp only
      omega
  · rw [kc_at]
    split_ifs with h'
    · rw [qv_s _ _ _ _ _ _ (by omega) (by simp only at h'; omega)]
      refine congr (congrArg _ (congrArg (hn _) (Fin.ext ?_))) (congrArg (fun i => ge (ix1 i)) (Fin.ext ?_))
      all_goals
        simp only at h' ⊢
        omega
    · rw [qv_pad _ _ _ _ _ _ (by simp only at h'; omega)]

variable (m : (ℓ : Loc nD τ sig) → Buf (Elt Ideal) ℓ)

/-- The projected values of the reference's arguments. -/
def y (c : Dev nD) : FVec Ideal S8x4096x6872 .f32 := proj (m ((c.tc : Thread nD τ).loc main_arg0)) (m ((c.tc : Thread nD τ).loc main_arg1))
  (m ((c.tc : Thread nD τ).loc main_arg2))

/-- Its four groups. -/
def yqa (c : Dev nD) : FVec Ideal S8x4096x768 .f32 := qa (y m c) (m ((c.tc : Thread nD τ).loc main_arg3))
def yka (c : Dev nD) : FVec Ideal S8x4096x768 .f32 := ka (y m c) (m ((c.tc : Thread nD τ).loc main_arg4))
def yqc (c : Dev nD) : FVec Ideal S8x4096x768 .f32 := qc (y m c) (m ((c.tc : Thread nD τ).loc main_arg5))
def ykc (c : Dev nD) : FVec Ideal S8x4096x256 .f32 := kc (y m c) (m ((c.tc : Thread nD τ).loc main_arg6))

/-- One value of the reference. -/
def val (c : Dev nD) (s : Fin 8) (q : Fin 4096) (j : Fin 2560) : EReal :=
  qv (fun j => y m c (ix3 s q j)) (fun k => (m ((c.tc : Thread nD τ).loc main_arg3) : Vec Ideal S64 .f32) (ix1 k))
    (fun k => (m ((c.tc : Thread nD τ).loc main_arg4) : Vec Ideal S64 .f32) (ix1 k))
    (fun k => (m ((c.tc : Thread nD τ).loc main_arg5) : Vec Ideal S64 .f32) (ix1 k))
    (fun k => (m ((c.tc : Thread nD τ).loc main_arg6) : Vec Ideal S64 .f32) (ix1 k)) j

theorem val_at (c : Dev nD) (s : Fin 8) (q : Fin 4096) (j : Fin 2560) :
    cat (yqa m c) (yka m c) (yqc m c) (ykc m c) (ix3 s q j) = val m c s q j := groups_at _ _ _ _ _ _ _ _

theorem yqa_at (c : Dev nD) (s : Fin 8) (q : Fin 4096) (j : Fin 768) : yqa m c (ix3 s q j) = val m c s q ⟨j.val, by omega⟩ := by
  rw [← val_at, cat_at, dif_pos j.isLt]

theorem yka_at (c : Dev nD) (s : Fin 8) (q : Fin 4096) (j : Fin 768) : yka m c (ix3 s q j) = val m c s q ⟨768 + j.val, by omega⟩ := by
  rw [← val_at, cat_at, dif_neg (by simp only; omega), dif_pos (by simp only; omega)]
  exact congrArg (fun i => yka m c (ix3 s q i)) (Fin.ext (by simp only; omega))

/-- The reference's five results, as arrays. -/
def out0 (c : Dev nD) : FVec Ideal S32768x2560 .bf16 :=
  truncf .bf16 (shapeCast _ (cat (yqa m c) (yka m c) (yqc m c) (ykc m c)) shapeCasts_S8x4096x2560_S32768x2560) bitsLt_bf16_f32

def out4 (z : FVec Ideal S8x4096x768 .f32) : FVec Ideal S8192x1024 .bf16 := truncf .bf16 (shapeCast _ (extractStridedSlice S8x4096x256 ![0, 0, 256]
  z slices_S8x4096x768_S8x4096x256_0_0_256) shapeCasts_S8x4096x256_S8192x1024) bitsLt_bf16_f32

def out16 (z : FVec Ideal S8x4096x768 .f32) : FVec Ideal S2048x4096 .bf16 := truncf .bf16 (shapeCast _ (extractStridedSlice S8x4096x256 ![0, 0, 512]
  z slices_S8x4096x768_S8x4096x256_0_0_512) shapeCasts_S8x4096x256_S2048x4096) bitsLt_bf16_f32

/-- And element by element. -/
theorem out0_at (c : Dev nD) (r : Fin 32768) (d : Fin 2560) : out0 m c (ix2 r d) =
    val m c ⟨r.val / 4096, by omega⟩ ⟨r.val % 4096, by omega⟩ d := by
  pointwise [out0]
  simp only [val_at]

theorem out4_at (z : FVec Ideal S8x4096x768 .f32) (r : Fin 8192) (e : Fin 1024) : out4 z (ix2 r e) =
    z (ix3 ⟨(4 * r.val + e.val / 256) / 4096, by omega⟩ ⟨(4 * r.val + e.val / 256) % 4096, by omega⟩ ⟨256 + e.val % 256, by omega⟩) := by
  pointwise [out4]
  refine congrArg z ?_
  congr 1 <;> refine Fin.ext ?_ <;> simp only <;> omega

theorem out16_at (z : FVec Ideal S8x4096x768 .f32) (r : Fin 2048) (e : Fin 4096) : out16 z (ix2 r e) =
    z (ix3 ⟨(16 * r.val + e.val / 256) / 4096, by omega⟩ ⟨(16 * r.val + e.val / 256) % 4096, by omega⟩ ⟨512 + e.val % 256, by omega⟩) := by
  pointwise [out16]
  refine congrArg z ?_
  congr 1 <;> refine Fin.ext ?_ <;> simp only <;> omega

theorem res0_eq (c : Dev nD) : res_main_v95 m c = out0 m c := rfl

end Cert.Proof.QkRef

end
-- ==== Proof.QkClaims.lean ====
/- The claims of the first projection, assembled. -/
module

public import proofs.«01_k».proof.Defs
public import proofs.«01_k».proof.Proof.QkArrays
public import proofs.«01_k».proof.Proof.QkReference
public import proofs.«01_k».proof.Proof.Gen.Qk.Frame
public import Idealize.ShloMosaic.Lib.Quiescent

@[expose] public section

set_option maxRecDepth 16384

noncomputable section

namespace Cert.Proof

open Idealize.ShloMosaic Idealize.SL.Sem Cert.Proof.Ffn

/-- The frame of the call, as printed. -/
theorem frame_qk : Cert.quiescent_Qk := fun m ρ _ => Cert.Qk.Gen.frame m ρ

/-- The frame of the call on the extended reals. -/
theorem frame_qk_ideal : Cert.quiescent_QkIdeal := fun m ρ _ => Cert.QkIdeal.Gen.frame m ρ

/-- The frame of the reference: it declares no semaphore. -/
theorem frame_qk_reference : Cert.quiescent_QkReferenceIdeal := fun m ρ _ =>
  (θ_run Cert.QkReferenceIdeal.defs _ _).mono (fun r h => ⟨fun c => (h c).2.2.2.2.2, sem_eq_zero_of_no_sems (by decide) r.2⟩)
    (Cert.QkReferenceIdeal.Value.run (F := Ideal) m ρ)

section

variable [Cert.Pre_finite.Facts]

/-- The frames hold of every memory, so of the finite ones. -/
theorem frame_qk_ideal_finite : Cert.quiescent_QkIdeal_pre_finite := fun m ρ _ => Cert.QkIdeal.Gen.frame m ρ

theorem frame_qk_reference_finite : Cert.quiescent_QkReferenceIdeal_pre_finite := fun m ρ _ => frame_qk_reference m ρ trivial

end

/-- Nothing was rewritten. -/
theorem preserves_qk : Cert.preserves_Qk_QkIdeal := trivial

/-- A number whose difference from itself compares equal to zero is finite. -/
theorem fine_of_cmp {s : Shape} (x : FVec Ideal s .f32) (z : FVec Ideal s .f32) (hz : ∀ i, z i = 0)
    (h : cmpf .oeq (subf x x) z = fun _ => 1#1) (i : s.Idx) : Qk.Fine (x i) := by
  have e := congrFun h i
  refine Qk.fine_of_sub ?_
  by_contra hn
  rw [← hz i] at hn
  have : cmpf .oeq (subf x x) z i = 0#1 := by
    change BitVec.ofBool (decide (x i - x i = z i)) = 0#1
    simp [hn]
  rw [this] at e
  exact absurd e (by decide)

theorem args [Cert.Pre_finite.Facts] (m : (ℓ : Loc QkIdeal.nD QkIdeal.τ QkIdeal.sig) → Buf (Elt Ideal) ℓ) (h : Cert.Pre_QkIdeal_finite m)
    (c : Dev QkIdeal.nD) : Qk.Args m c := by
  obtain ⟨h1, h2⟩ := h c
  exact ⟨fun k => fine_of_cmp _ _ (fun _ => Ideal.ofBits_zero _) h1 _,
    fun k j => fine_of_cmp _ _ (fun _ => Ideal.ofBits_zero _) h2 _⟩

section

variable (m : (ℓ : Loc QkIdeal.nD QkIdeal.τ QkIdeal.sig) → Buf (Elt Ideal) ℓ)
  (m' : (ℓ : Loc QkReferenceIdeal.nD QkReferenceIdeal.τ QkReferenceIdeal.sig) → Buf (Elt Ideal) ℓ) (c : Dev QkIdeal.nD)
  (e : ∀ T j, QkRef.val m' c ⟨T.val / 4096, by omega⟩ ⟨T.val % 4096, by omega⟩ j = Qk.val m c T j)
include e

theorem qk_res0 : QkRef.out0 m' c = Qk.res5 m c := by
  funext i
  obtain ⟨r, d, rfl⟩ : ∃ (r : Fin 32768) (d : Fin 2560), i = ix2 r d := ⟨i 0, i 1, eq_ix2 i⟩
  rw [QkRef.out0_at]
  exact e r d

theorem qk_res1 : QkRef.out4 (QkRef.yqa m' c) = Qk.four m c 256 := by
  funext i
  obtain ⟨r, d, rfl⟩ : ∃ (r : Fin 8192) (d : Fin 1024), i = ix2 r d := ⟨i 0, i 1, eq_ix2 i⟩
  rw [QkRef.out4_at, QkRef.yqa_at]
  exact e ⟨4 * r.val + d.val / 256, by omega⟩ _

theorem qk_res2 : QkRef.out16 (QkRef.yqa m' c) = Qk.sixteen m c 512 := by
  funext i
  obtain ⟨r, d, rfl⟩ : ∃ (r : Fin 2048) (d : Fin 4096), i = ix2 r d := ⟨i 0, i 1, eq_ix2 i⟩
  rw [QkRef.out16_at, QkRef.yqa_at]
  exact e ⟨16 * r.val + d.val / 256, by omega⟩ _

theorem qk_res3 : QkRef.out4 (QkRef.yka m' c) = Qk.four m c 1024 := by
  funext i
  obtain ⟨r, d, rfl⟩ : ∃ (r : Fin 8192) (d : Fin 1024), i = ix2 r d := ⟨i 0, i 1, eq_ix2 i⟩
  rw [QkRef.out4_at, QkRef.yka_at]
  refine (e ⟨4 * r.val + d.val / 256, by omega⟩ _).trans (congrArg (Qk.val m c _) (Fin.ext ?_))
  change 768 + (256 + d.val % 256) = 1024 + d.val % 256
  omega

theorem qk_res4 : QkRef.out16 (QkRef.yka m' c) = Qk.sixteen m c 1280 := by
  funext i
  obtain ⟨r, d, rfl⟩ : ∃ (r : Fin 2048) (d : Fin 4096), i = ix2 r d := ⟨i 0, i 1, eq_ix2 i⟩
  rw [QkRef.out16_at, QkRef.yka_at]
  refine (e ⟨16 * r.val + d.val / 256, by omega⟩ _).trans (congrArg (Qk.val m c _) (Fin.ext ?_))
  change 768 + (512 + d.val % 256) = 1280 + d.val % 256
  omega

end

/-- Kernel and reference end with the same arrays: queries and keys over their heads' root mean squares, regrouped. -/
theorem algebraic_qk [Cert.Pre_finite.Facts] : Cert.algebraic_QkIdeal_QkReferenceIdeal_pre_finite := by
  intro m ρ m' ρ' hpre hagree
  have ha := args m hpre
  have e (c) (T : Fin 32768) (j : Fin 2560) : QkRef.val m' c ⟨T.val / 4096, by omega⟩ ⟨T.val % 4096, by omega⟩ j = Qk.val m c T j := by
    obtain ⟨h0, h1, h2, h3, h4, h5, h6⟩ := hagree c
    unfold QkRef.val QkRef.y
    simp only [QkRef.proj_at]
    rw [h0, h1, h2, h3, h4, h5, h6]
    rfl
  refine ⟨fun c => Qk.res5 m c, fun c => Qk.four m c 256, fun c => Qk.sixteen m c 512, fun c => Qk.four m c 1024,
    fun c => Qk.sixteen m c 1280, ?_, ?_⟩
  · exact (θ_run Cert.QkIdeal.defs _ _).mono (fun _ h c => ⟨(h c).1.trans (Qk.arr5_eq m c (ha c)), (h c).2.1.trans (Qk.arr6_eq m c (ha c)),
      (h c).2.2.1.trans (Qk.arr7_eq m c (ha c)), (h c).2.2.2.1.trans (Qk.arr8_eq m c (ha c)), (h c).2.2.2.2.1.trans (Qk.arr9_eq m c (ha c)),
      (h c).2.2.2.2.2⟩) (Cert.QkIdeal.Value.run_blocks (F := Ideal) m ρ)
  · refine (θ_run Cert.QkReferenceIdeal.defs _ _).mono (fun _ h c => ⟨(h c).1.trans ?_, (h c).2.1.trans ?_, (h c).2.2.1.trans ?_,
      (h c).2.2.2.1.trans ?_, (h c).2.2.2.2.1.trans ?_, (h c).2.2.2.2.2⟩) (Cert.QkReferenceIdeal.Value.run (F := Ideal) m' ρ')
    · exact (QkRef.res0_eq m' c).trans (qk_res0 m m' c (e c))
    · change QkRef.out4 (QkRef.yqa m' c) = _
      exact qk_res1 m m' c (e c)
    · change QkRef.out16 (QkRef.yqa m' c) = _
      exact qk_res2 m m' c (e c)
    · change QkRef.out4 (QkRef.yka m' c) = _
      exact qk_res3 m m' c (e c)
    · change QkRef.out16 (QkRef.yka m' c) = _
      exact qk_res4 m m' c (e c)

end Cert.Proof

end
-- ==== Proof.lean ====
module

public import proofs.«01_k».proof.Defs
public import proofs.«01_k».proof.Proof.DsaFrame
public import proofs.«01_k».proof.Proof.FfnClaims
public import proofs.«01_k».proof.Proof.GateClaims
public import proofs.«01_k».proof.Proof.PlainClaims
public import proofs.«01_k».proof.Proof.QkClaims

@[expose] public section

noncomputable section

namespace Cert.Proof

open Idealize.ShloMosaic

/-- The frame of the sparse-attention call. -/
theorem frame_dsa : Cert.quiescent_Dsa := fun m ρ _ => Dsa.run_main (F := Bits) m ρ

/-- The shapes the precondition's lines take. -/
instance facts_finite : Cert.Pre_finite.Facts := ⟨by decide, by decide⟩

theorem claim : Cert.Claim :=
  ⟨Cert.Dsa.Gen.facts, Cert.Ffn.Gen.facts, Cert.FfnIdeal.Gen.facts, Cert.FfnReferenceIdeal.Gen.facts,
    Cert.Gate.Gen.facts, Cert.GateIdeal.Gen.facts, Cert.GateReferenceIdeal.Gen.facts, Cert.Plain.Gen.facts, Cert.PlainIdeal.Gen.facts, Cert.PlainReferenceIdeal.Gen.facts,
    Cert.Qk.Gen.facts, Cert.QkIdeal.Gen.facts, Cert.QkReferenceIdeal.Gen.facts, facts_finite,
    frame_dsa, frame_ffn, frame_ffn_ideal, frame_ffn_reference, frame_gate, frame_gate_ideal, frame_gate_reference, frame_plain, frame_plain_ideal, frame_plain_reference,
    frame_qk, frame_qk_ideal, frame_qk_ideal_finite, frame_qk_reference, frame_qk_reference_finite,
    preserves_ffn, algebraic_ffn, preserves_gate, algebraic_gate, preserves_plain, algebraic_plain, preserves_qk, algebraic_qk⟩

end Cert.Proof

end
